-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Kernel_KernelIdeal : Prop :=
  IdealRules.named_const.Statement Cert.KernelIdeal.κ "scale" .f32 0x3E38AA3B#32 (((Real.sqrt 64)⁻¹ * (Real.log 2)⁻¹ : ℝ) : EReal)
  ∧ IdealRules.named_const.Statement Cert.KernelIdeal.κ "masked" .bf16 0xF180#16 ⊥
  ∧ IdealRules.named_const.Statement Cert.KernelIdeal.κ "lowest" .f32 0xFF61B1E6#32 ⊥

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v185) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)) (v3 : (c : Dev Cert.InProjIdeal.nD) → Buf (Elt Ideal) ((c.tc : Thread Cert.InProjIdeal.nD Cert.InProjIdeal.τ).loc Cert.InProjIdeal.main_v8_3)) (v4 : (c : Dev Cert.InProjIdeal.nD) → Buf (Elt Ideal) ((c.tc : Thread Cert.InProjIdeal.nD Cert.InProjIdeal.τ).loc Cert.InProjIdeal.main_v8_4)) (v5 : (c : Dev Cert.InProjIdeal.nD) → Buf (Elt Ideal) ((c.tc : Thread Cert.InProjIdeal.nD Cert.InProjIdeal.τ).loc Cert.InProjIdeal.main_v8_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_v8_3) = v3 c
          ∧ r.2.mem ((c.tc : Thread Cert.InProjIdeal.nD Cert.InProjIdeal.τ).loc Cert.InProjIdeal.main_v8_4) = v4 c
          ∧ r.2.mem ((c.tc : Thread Cert.InProjIdeal.nD Cert.InProjIdeal.τ).loc Cert.InProjIdeal.main_v8_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v17) = v2 c
          ∧ r.2.mem ((c.tc : Thread Cert.InProjRefIdeal.nD Cert.InProjRefIdeal.τ).loc Cert.InProjRefIdeal.main_v19) = v3 c
          ∧ r.2.mem ((c.tc : Thread Cert.InProjRefIdeal.nD Cert.InProjRefIdeal.τ).loc Cert.InProjRefIdeal.main_v27) = v4 c
          ∧ r.2.mem ((c.tc : Thread Cert.InProjRefIdeal.nD Cert.InProjRefIdeal.τ).loc Cert.InProjRefIdeal.main_v36) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_v76) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hKernel : Cert.Kernel.Facts) (hKernelIdeal : Cert.KernelIdeal.Facts) (hRefIdeal : Cert.RefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts),
    quiescent_Kernel (hKernel := hKernel)
    ∧ quiescent_KernelIdeal (hKernelIdeal := hKernelIdeal)
    ∧ quiescent_RefIdeal (hRefIdeal := hRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_RefIdeal (hKernelIdeal := hKernelIdeal) (hRefIdeal := hRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal (hFfnIdeal := hFfnIdeal) (hFfnRefIdeal := hFfnRefIdeal)
-- ==== Kernel.lean ====
abbrev S16384x512 : Shape := ⟨2, ![16384, 512]⟩
abbrev S16384x128 : Shape := ⟨2, ![16384, 128]⟩
abbrev S1024x128 : Shape := ⟨2, ![1024, 128]⟩
abbrev S128 : Shape := ⟨1, ![128]⟩
abbrev S256 : Shape := ⟨1, ![256]⟩
abbrev S32 : Shape := ⟨1, ![32]⟩
abbrev S1x256x1 : Shape := ⟨3, ![1, 256, 1]⟩
abbrev S_ : Shape := ⟨0, ![]⟩
abbrev S32x1x1 : Shape := ⟨3, ![32, 1, 1]⟩
abbrev S1x1x128 : Shape := ⟨3, ![1, 1, 128]⟩
abbrev S32x1x128 : Shape := ⟨3, ![32, 1, 128]⟩
abbrev S32x256x128 : Shape := ⟨3, ![32, 256, 128]⟩
abbrev S4096 : Shape := ⟨1, ![4096]⟩
abbrev S8x512 : Shape := ⟨2, ![8, 512]⟩
abbrev S8x512x1 : Shape := ⟨3, ![8, 512, 1]⟩
abbrev S8x512x128 : Shape := ⟨3, ![8, 512, 128]⟩
abbrev S512 : Shape := ⟨1, ![512]⟩
abbrev S5 : Shape := ⟨1, ![5]⟩
abbrev S1x512x1 : Shape := ⟨3, ![1, 512, 1]⟩
abbrev S5x1x1 : Shape := ⟨3, ![5, 1, 1]⟩
abbrev S5x1x128 : Shape := ⟨3, ![5, 1, 128]⟩
abbrev S5x512x128 : Shape := ⟨3, ![5, 512, 128]⟩
abbrev S640 : Shape := ⟨1, ![640]⟩
abbrev S1x640x1 : Shape := ⟨3, ![1, 640, 1]⟩
abbrev S5x640x128 : Shape := ⟨3, ![5, 640, 128]⟩
abbrev S256x1 : Shape := ⟨2, ![256, 1]⟩
abbrev S1x128 : Shape := ⟨2, ![1, 128]⟩
abbrev S256x128 : Shape := ⟨2, ![256, 128]⟩
abbrev S128x256 : Shape := ⟨2, ![128, 256]⟩
abbrev S1024 : Shape := ⟨1, ![1024]⟩
abbrev S1024x1 : Shape := ⟨2, ![1024, 1]⟩
abbrev S128x512 : Shape := ⟨2, ![128, 512]⟩
abbrev S128x128 : Shape := ⟨2, ![128, 128]⟩
abbrev S4096x256 : Shape := ⟨2, ![4096, 256]⟩
abbrev S1x256x128 : Shape := ⟨3, ![1, 256, 128]⟩
abbrev S1024x256 : Shape := ⟨2, ![1024, 256]⟩
abbrev S256x256 : Shape := ⟨2, ![256, 256]⟩
abbrev S512x256 : Shape := ⟨2, ![512, 256]⟩
abbrev S512x1 : Shape := ⟨2, ![512, 1]⟩
abbrev S512x128 : Shape := ⟨2, ![512, 128]⟩
abbrev S256x1024 : Shape := ⟨2, ![256, 1024]⟩
abbrev S1x1024 : Shape := ⟨2, ![1, 1024]⟩
abbrev S1x256 : Shape := ⟨2, ![1, 256]⟩
abbrev S1x512x128 : Shape := ⟨3, ![1, 512, 128]⟩
abbrev S512x512 : Shape := ⟨2, ![512, 512]⟩
abbrev S640x128 : Shape := ⟨2, ![640, 128]⟩
abbrev S1x640x128 : Shape := ⟨3, ![1, 640, 128]⟩
abbrev S640x256 : Shape := ⟨2, ![640, 256]⟩
abbrev S1024x640 : Shape := ⟨2, ![1024, 640]⟩
abbrev S512x640 : Shape := ⟨2, ![512, 640]⟩
abbrev S128x1 : Shape := ⟨2, ![128, 1]⟩

abbrev nBuf : Space → Nat
  | .hbm => 201
  | .vmem => 21
  | .smem => 0
  | _ => 0

abbrev hbmTy0_0 (i : Nat) : BufTy := match i % 128 with
  | 0 => ⟨S16384x512, .f32⟩
  | 1 => ⟨S16384x128, .f32⟩
  | 2 => ⟨S16384x512, .bf16⟩
  | 3 => ⟨S1024x128, .f32⟩
  | 4 => ⟨S1024x128, .f32⟩
  | 5 => ⟨S128, .i32⟩
  | 6 => ⟨S256, .i32⟩
  | 7 => ⟨S32, .i32⟩
  | 8 => ⟨S1x256x1, .i32⟩
  | 9 => ⟨S_, .i32⟩
  | 10 => ⟨S1x256x1, .i32⟩
  | 11 => ⟨S1x256x1, .i32⟩
  | 12 => ⟨S_, .i32⟩
  | 13 => ⟨S1x256x1, .i32⟩
  | 14 => ⟨S1x256x1, .i32⟩
  | 15 => ⟨S_, .i32⟩
  | 16 => ⟨S1x256x1, .i32⟩
  | 17 => ⟨S1x256x1, .i32⟩
  | 18 => ⟨S32x1x1, .i32⟩
  | 19 => ⟨S_, .i32⟩
  | 20 => ⟨S32x1x1, .i32⟩
  | 21 => ⟨S32x1x1, .i32⟩
  | 22 => ⟨S1x1x128, .i32⟩
  | 23 => ⟨S32x1x128, .i32⟩
  | 24 => ⟨S32x1x128, .i32⟩
  | 25 => ⟨S32x1x128, .i32⟩
  | 26 => ⟨S32x256x128, .i32⟩
  | 27 => ⟨S32x256x128, .i32⟩
  | 28 => ⟨S32x256x128, .i1⟩
  | 29 => ⟨S32x256x128, .bf16⟩
  | 30 => ⟨S4096, .i32⟩
  | 31 => ⟨S8x512, .i32⟩
  | 32 => ⟨S8x512x1, .i32⟩
  | 33 => ⟨S_, .i32⟩
  | 34 => ⟨S_, .i32⟩
  | 35 => ⟨S8x512x1, .i32⟩
  | 36 => ⟨S8x512x1, .i32⟩
  | 37 => ⟨S8x512x1, .i32⟩
  | 38 => ⟨S_, .i32⟩
  | 39 => ⟨S8x512x1, .i32⟩
  | 40 => ⟨S8x512x1, .i1⟩
  | 41 => ⟨S8x512x1, .i32⟩
  | 42 => ⟨S8x512x1, .i32⟩
  | 43 => ⟨S_, .i32⟩
  | 44 => ⟨S8x512x1, .i32⟩
  | 45 => ⟨S8x512x1, .i1⟩
  | 46 => ⟨S8x512x1, .i1⟩
  | 47 => ⟨S_, .i32⟩
  | 48 => ⟨S8x512x1, .i32⟩
  | 49 => ⟨S8x512x1, .i32⟩
  | 50 => ⟨S8x512x1, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S128, .i32⟩
  | 58 => ⟨S128, .i32⟩
  | 59 => ⟨S_, .i32⟩
  | 60 => ⟨S128, .i32⟩
  | 61 => ⟨S128, .i1⟩
  | 62 => ⟨S_, .i32⟩
  | 63 => ⟨S128, .i32⟩
  | 64 => ⟨S128, .i1⟩
  | 65 => ⟨S_, .i32⟩
  | 66 => ⟨S_, .i1⟩
  | 67 => ⟨S128, .i1⟩
  | 68 => ⟨S128, .i1⟩
  | 69 => ⟨S128, .i1⟩
  | 70 => ⟨S128, .i32⟩
  | 71 => ⟨S128, .i32⟩
  | 72 => ⟨S128, .i32⟩
  | 73 => ⟨S1x1x128, .i32⟩
  | 74 => ⟨S8x512x128, .i32⟩
  | 75 => ⟨S8x512x128, .i32⟩
  | 76 => ⟨S8x512x128, .i1⟩
  | 77 => ⟨S8x512x128, .bf16⟩
  | 78 => ⟨S512, .i32⟩
  | 79 => ⟨S5, .i32⟩
  | 80 => ⟨S1x512x1, .i32⟩
  | 81 => ⟨S5x1x1, .i32⟩
  | 82 => ⟨S_, .i32⟩
  | 83 => ⟨S5x1x1, .i32⟩
  | 84 => ⟨S5x1x1, .i32⟩
  | 85 => ⟨S1x1x128, .i32⟩
  | 86 => ⟨S5x1x128, .i32⟩
  | 87 => ⟨S5x1x128, .i32⟩
  | 88 => ⟨S5x1x128, .i32⟩
  | 89 => ⟨S5x512x128, .i32⟩
  | 90 => ⟨S5x512x128, .i32⟩
  | 91 => ⟨S5x512x128, .i1⟩
  | 92 => ⟨S_, .i32⟩
  | 93 => ⟨S5, .i32⟩
  | 94 => ⟨S5, .i1⟩
  | 95 => ⟨S5x1x1, .i1⟩
  | 96 => ⟨S5x512x128, .i1⟩
  | 97 => ⟨S5x512x128, .i1⟩
  | 98 => ⟨S5x512x128, .bf16⟩
  | 99 => ⟨S640, .i32⟩
  | 100 => ⟨S5, .i32⟩
  | 101 => ⟨S5x1x1, .i32⟩
  | 102 => ⟨S_, .i32⟩
  | 103 => ⟨S5x1x1, .i32⟩
  | 104 => ⟨S5x1x1, .i32⟩
  | 105 => ⟨S1x1x128, .i32⟩
  | 106 => ⟨S5x1x128, .i32⟩
  | 107 => ⟨S5x1x128, .i32⟩
  | 108 => ⟨S5x1x128, .i32⟩
  | 109 => ⟨S1x640x1, .i32⟩
  | 110 => ⟨S5x640x128, .i32⟩
  | 111 => ⟨S5x640x128, .i32⟩
  | 112 => ⟨S5x640x128, .i32⟩
  | 113 => ⟨S_, .i32⟩
  | 114 => ⟨S5x640x128, .i32⟩
  | 115 => ⟨S5x640x128, .i1⟩
  | 116 => ⟨S_, .i32⟩
  | 117 => ⟨S5x640x128, .i32⟩
  | 118 => ⟨S5x640x128, .i1⟩
  | 119 => ⟨S5x640x128, .i1⟩
  | 120 => ⟨S5x640x128, .bf16⟩
  | 121 => ⟨S256, .i32⟩
  | 122 => ⟨S_, .i32⟩
  | 123 => ⟨S256, .i32⟩
  | 124 => ⟨S256, .i32⟩
  | 125 => ⟨S_, .i32⟩
  | 126 => ⟨S256, .i32⟩
  | 127 => ⟨S256, .i32⟩
  | _ => ⟨S16384x512, .f32⟩

abbrev hbmTy0_1 (i : Nat) : BufTy := match i % 128 with
  | 0 => ⟨S_, .i32⟩
  | 1 => ⟨S256, .i32⟩
  | 2 => ⟨S256, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S_, .i32⟩
  | 11 => ⟨S128, .i32⟩
  | 12 => ⟨S128, .i32⟩
  | 13 => ⟨S256x1, .i32⟩
  | 14 => ⟨S1x128, .i32⟩
  | 15 => ⟨S256x128, .i32⟩
  | 16 => ⟨S256x128, .i32⟩
  | 17 => ⟨S256x128, .i1⟩
  | 18 => ⟨S256x1, .i32⟩
  | 19 => ⟨S1x128, .i32⟩
  | 20 => ⟨S256x128, .i32⟩
  | 21 => ⟨S256x128, .i32⟩
  | 22 => ⟨S256x128, .i1⟩
  | 23 => ⟨S256x128, .i1⟩
  | 24 => ⟨S256, .i32⟩
  | 25 => ⟨S256x1, .i32⟩
  | 26 => ⟨S_, .i32⟩
  | 27 => ⟨S256x1, .i32⟩
  | 28 => ⟨S256x1, .i1⟩
  | 29 => ⟨S128, .i32⟩
  | 30 => ⟨S1x128, .i32⟩
  | 31 => ⟨S_, .i32⟩
  | 32 => ⟨S1x128, .i32⟩
  | 33 => ⟨S1x128, .i1⟩
  | 34 => ⟨S256x128, .i1⟩
  | 35 => ⟨S256x128, .i1⟩
  | 36 => ⟨S256x128, .i1⟩
  | 37 => ⟨S256x128, .i1⟩
  | 38 => ⟨S256x128, .f32⟩
  | 39 => ⟨S128x256, .f32⟩
  | 40 => ⟨S128x256, .bf16⟩
  | 41 => ⟨S128, .i32⟩
  | 42 => ⟨S1x128, .i32⟩
  | 43 => ⟨S1024, .i32⟩
  | 44 => ⟨S1024x1, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S1024x1, .i32⟩
  | 52 => ⟨S1024x1, .i32⟩
  | 53 => ⟨S_, .i32⟩
  | 54 => ⟨S1024x1, .i32⟩
  | 55 => ⟨S1024x1, .i1⟩
  | 56 => ⟨S_, .i32⟩
  | 57 => ⟨S1024x1, .i32⟩
  | 58 => ⟨S1024x1, .i1⟩
  | 59 => ⟨S_, .i32⟩
  | 60 => ⟨S_, .i1⟩
  | 61 => ⟨S1024x1, .i1⟩
  | 62 => ⟨S1024x1, .i1⟩
  | 63 => ⟨S1024x1, .i1⟩
  | 64 => ⟨S1024x1, .i32⟩
  | 65 => ⟨S1024x1, .i32⟩
  | 66 => ⟨S1024x1, .i32⟩
  | 67 => ⟨S1024x128, .i32⟩
  | 68 => ⟨S1024x128, .i32⟩
  | 69 => ⟨S1024x128, .i1⟩
  | 70 => ⟨S1024x128, .f32⟩
  | 71 => ⟨S1024x128, .bf16⟩
  | 72 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x128, .bf16⟩
  | .local _ .vmem, ⟨13, _⟩ => ⟨S1x256x128, .bf16⟩
  | .local _ .vmem, ⟨14, _⟩ => ⟨S8x512x128, .bf16⟩
  | .local _ .vmem, ⟨15, _⟩ => ⟨S5x512x128, .bf16⟩
  | .local _ .vmem, ⟨16, _⟩ => ⟨S5x640x128, .bf16⟩
  | .local _ .vmem, ⟨17, _⟩ => ⟨S1024x128, .bf16⟩
  | .local _ .vmem, ⟨18, _⟩ => ⟨S128x256, .bf16⟩
  | .local _ .vmem, ⟨19, _⟩ => ⟨S128x512, .f32⟩
  | .local _ .vmem, ⟨20, _⟩ => ⟨S128x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v24 : Ref sig .tc := ⟨.hbm, 50, rfl⟩
abbrev main_c_4 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_c_5 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_6 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_c_7 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_8 : Ref sig .tc := ⟨.hbm, 113, rfl⟩
abbrev main_v63 : Ref sig .tc := ⟨.hbm, 114, rfl⟩
abbrev main_v64 : Ref sig .tc := ⟨.hbm, 115, rfl⟩
abbrev main_c_9 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_10 : Ref sig .tc := ⟨.hbm, 122, rfl⟩
abbrev main_v70 : Ref sig .tc := ⟨.hbm, 123, rfl⟩
abbrev main_v71 : Ref sig .tc := ⟨.hbm, 124, rfl⟩
abbrev main_c_11 : Ref sig .tc := ⟨.hbm, 125, rfl⟩
abbrev main_v72 : Ref sig .tc := ⟨.hbm, 126, rfl⟩
abbrev main_v73 : Ref sig .tc := ⟨.hbm, 127, rfl⟩
abbrev main_c_12 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_13 : Ref sig .tc := ⟨.hbm, 132, rfl⟩
abbrev main_v77 : Ref sig .tc := ⟨.hbm, 133, rfl⟩
abbrev main_v78 : Ref sig .tc := ⟨.hbm, 134, rfl⟩
abbrev main_c_14 : Ref sig .tc := ⟨.hbm, 135, rfl⟩
abbrev main_v79 : Ref sig .tc := ⟨.hbm, 136, rfl⟩
abbrev main_v80 : Ref sig .tc := ⟨.hbm, 137, rfl⟩
abbrev main_c_15 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_16 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_c_17 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_c_18 : Ref sig .tc := ⟨.hbm, 173, rfl⟩
abbrev main_call2_v0 : Ref sig .tc := ⟨.hbm, 174, rfl⟩
abbrev main_call2_c : Ref sig .tc := ⟨.hbm, 175, rfl⟩
abbrev main_call2_v1 : Ref sig .tc := ⟨.hbm, 176, rfl⟩
abbrev main_call2_c_0 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_c_1 : Ref sig .tc := ⟨.hbm, 181, rfl⟩
abbrev main_call2_v5 : Ref sig .tc := ⟨.hbm, 182, rfl⟩
abbrev main_call2_v6 : Ref sig .tc := ⟨.hbm, 183, rfl⟩
abbrev main_call2_c_2 : Ref sig .tc := ⟨.hbm, 184, rfl⟩
abbrev main_call2_v7 : Ref sig .tc := ⟨.hbm, 185, rfl⟩
abbrev main_call2_v8 : Ref sig .tc := ⟨.hbm, 186, rfl⟩
abbrev main_call2_c_3 : Ref sig .tc := ⟨.hbm, 187, rfl⟩
abbrev main_call2_v9 : Ref sig .tc := ⟨.hbm, 188, rfl⟩
abbrev main_call2_v10 : Ref sig .tc := ⟨.hbm, 189, rfl⟩
abbrev main_call2_v11 : Ref sig .tc := ⟨.hbm, 190, rfl⟩
abbrev main_call2_v12 : Ref sig .tc := ⟨.hbm, 191, rfl⟩
abbrev main_call2_v13 : Ref sig .tc := ⟨.hbm, 192, rfl⟩
abbrev main_call2_v14 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 32], ![false, false]⟩

def k0_mult1 : BitVec 32 :=
  let c0_i32_127 : BitVec 32 := 0#32
  c0_i32_127
def k0_off1 (i : grid0.Coords) : Fin 3 → Nat :=
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let c0_i32_133 : BitVec 32 := 0#32
  let v381 : BitVec 1 := Scalar.cmpi .eq v369 c0_i32_133
  let c4_i32 : BitVec 32 := 4#32
  let v382 : BitVec 32 := Scalar.muli v369 c4_i32
  let v383 : BitVec 32 := Scalar.subi arg1 v382
  let c4_i32_134 : BitVec 32 := 4#32
  let v384 : BitVec 32 := Scalar.select v381 v383 c4_i32_134
  let v385 : Index := Scalar.indexCast v384
  let c0_135 : Index := 0#32
  let c0_136 : Index := 0#32
  ![v385.toNat, 0, 0]
@[reducible] def k0_t1_loop (i : grid0.Coords) : Scf.Loop 32 :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_144 : BitVec 32 := 1#32
  ⟨c0_i32_142, v406, c1_i32_144⟩
def k0_mult2 (i : grid0.Coords) (k0_t1 : Fin (k0_t1_loop i).trips) : BitVec 32 :=
  let c0_i32_142 : BitVec 32 := 0#32
  let c1_i32_144 : BitVec 32 := 1#32
  let arg15 : BitVec 32 := Scf.iv c0_i32_142 c1_i32_144 k0_t1
  let c1_i32_188 : BitVec 32 := 1#32
  let v633 : BitVec 32 := Scalar.addi arg15 c1_i32_188
  let c512_i32_189 : BitVec 32 := 512#32
  let v634 : BitVec 32 := Scalar.muli v633 c512_i32_189
  v634
def k0_off2 (i : grid0.Coords) (k0_t1 : Fin (k0_t1_loop i).trips) : Fin 2 → Nat :=
  let c0_i32_142 : BitVec 32 := 0#32
  let c1_i32_144 : BitVec 32 := 1#32
  let arg15 : BitVec 32 := Scf.iv c0_i32_142 c1_i32_144 k0_t1
  let c1_i32_188 : BitVec 32 := 1#32
  let v633 : BitVec 32 := Scalar.addi arg15 c1_i32_188
  let c512_i32_189 : BitVec 32 := 512#32
  let v634 : BitVec 32 := Scalar.muli v633 c512_i32_189
  let v635 : BitVec 32 := v634
  let v636 : Index := Scalar.indexCast v635
  let c0_190 : Index := 0#32
  ![v636.toNat, 0]
def k0_off3 (i : grid0.Coords) (k0_t1 : Fin (k0_t1_loop i).trips) : Fin 3 → Nat :=
  let c0_i32_142 : BitVec 32 := 0#32
  let c1_i32_144 : BitVec 32 := 1#32
  let arg15 : BitVec 32 := Scf.iv c0_i32_142 c1_i32_144 k0_t1
  let c1_i32_188 : BitVec 32 := 1#32
  let v633 : BitVec 32 := Scalar.addi arg15 c1_i32_188
  let v638 : Index := Scalar.indexCast v633
  let c0_191 : Index := 0#32
  let c0_192 : Index := 0#32
  ![v638.toNat, 0, 0]
def k0_off4 (i : grid0.Coords) (k0_t1 : Fin (k0_t1_loop i).trips) : Fin 3 → Nat :=
  let c0_i32_142 : BitVec 32 := 0#32
  let c1_i32_144 : BitVec 32 := 1#32
  let arg15 : BitVec 32 := Scf.iv c0_i32_142 c1_i32_144 k0_t1
  let c1_i32_188 : BitVec 32 := 1#32
  let v633 : BitVec 32 := Scalar.addi arg15 c1_i32_188
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v643 : BitVec 1 := Scalar.cmpi .eq v633 v369
  let c4_i32_194 : BitVec 32 := 4#32
  let v644 : BitVec 32 := Scalar.muli v369 c4_i32_194
  let v645 : BitVec 32 := Scalar.subi arg1 v644
  let c4_i32_195 : BitVec 32 := 4#32
  let v646 : BitVec 32 := Scalar.select v643 v645 c4_i32_195
  let v647 : Index := Scalar.indexCast v646
  let c0_196 : Index := 0#32
  let c0_197 : Index := 0#32
  ![v647.toNat, 0, 0]
def k0_mult3 (i : grid0.Coords) (k0_t1 : Fin (k0_t1_loop i).trips) : BitVec 32 :=
  let c0_i32_142 : BitVec 32 := 0#32
  let c1_i32_144 : BitVec 32 := 1#32
  let arg15 : BitVec 32 := Scf.iv c0_i32_142 c1_i32_144 k0_t1
  let c512_i32_203 : BitVec 32 := 512#32
  let v664 : BitVec 32 := Scalar.muli arg15 c512_i32_203
  v664
def k0_off5 (i : grid0.Coords) (k0_t1 : Fin (k0_t1_loop i).trips) : Fin 2 → Nat :=
  let c0_i32_142 : BitVec 32 := 0#32
  let c1_i32_144 : BitVec 32 := 1#32
  let arg15 : BitVec 32 := Scf.iv c0_i32_142 c1_i32_144 k0_t1
  let c512_i32_203 : BitVec 32 := 512#32
  let v664 : BitVec 32 := Scalar.muli arg15 c512_i32_203
  let v665 : BitVec 32 := v664
  let v666 : Index := Scalar.indexCast v665
  let c128_204 : Index := 128#32
  ![v666.toNat, 128]
@[reducible] def k0_t2_loop (i : grid0.Coords) : Scf.Loop 32 :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let v403 : BitVec 32 := Scalar.addi c0_i32_142 v402
  let c1_i32_145 : BitVec 32 := 1#32
  ⟨v406, v403, c1_i32_145⟩
def k0_mult4 (i : grid0.Coords) (k0_t2 : Fin (k0_t2_loop i).trips) : BitVec 32 :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_145 : BitVec 32 := 1#32
  let arg15 : BitVec 32 := Scf.iv v406 c1_i32_145 k0_t2
  let c1_i32_188 : BitVec 32 := 1#32
  let v633 : BitVec 32 := Scalar.addi arg15 c1_i32_188
  let c512_i32_189 : BitVec 32 := 512#32
  let v634 : BitVec 32 := Scalar.muli v633 c512_i32_189
  v634
def k0_off6 (i : grid0.Coords) (k0_t2 : Fin (k0_t2_loop i).trips) : Fin 2 → Nat :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_145 : BitVec 32 := 1#32
  let arg15 : BitVec 32 := Scf.iv v406 c1_i32_145 k0_t2
  let c1_i32_188 : BitVec 32 := 1#32
  let v633 : BitVec 32 := Scalar.addi arg15 c1_i32_188
  let c512_i32_189 : BitVec 32 := 512#32
  let v634 : BitVec 32 := Scalar.muli v633 c512_i32_189
  let v635 : BitVec 32 := v634
  let v636 : Index := Scalar.indexCast v635
  let c0_190 : Index := 0#32
  ![v636.toNat, 0]
def k0_off7 (i : grid0.Coords) (k0_t2 : Fin (k0_t2_loop i).trips) : Fin 3 → Nat :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_145 : BitVec 32 := 1#32
  let arg15 : BitVec 32 := Scf.iv v406 c1_i32_145 k0_t2
  let c1_i32_188 : BitVec 32 := 1#32
  let v633 : BitVec 32 := Scalar.addi arg15 c1_i32_188
  let v638 : Index := Scalar.indexCast v633
  let c0_191 : Index := 0#32
  let c0_192 : Index := 0#32
  ![v638.toNat, 0, 0]
def k0_off8 (i : grid0.Coords) (k0_t2 : Fin (k0_t2_loop i).trips) : Fin 3 → Nat :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_145 : BitVec 32 := 1#32
  let arg15 : BitVec 32 := Scf.iv v406 c1_i32_145 k0_t2
  let c1_i32_188 : BitVec 32 := 1#32
  let v633 : BitVec 32 := Scalar.addi arg15 c1_i32_188
  let v643 : BitVec 1 := Scalar.cmpi .eq v633 v369
  let c4_i32_194 : BitVec 32 := 4#32
  let v644 : BitVec 32 := Scalar.muli v369 c4_i32_194
  let v645 : BitVec 32 := Scalar.subi arg1 v644
  let c4_i32_195 : BitVec 32 := 4#32
  let v646 : BitVec 32 := Scalar.select v643 v645 c4_i32_195
  let v647 : Index := Scalar.indexCast v646
  let c0_196 : Index := 0#32
  let c0_197 : Index := 0#32
  ![v647.toNat, 0, 0]
def k0_mult5 (i : grid0.Coords) (k0_t2 : Fin (k0_t2_loop i).trips) : BitVec 32 :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_145 : BitVec 32 := 1#32
  let arg15 : BitVec 32 := Scf.iv v406 c1_i32_145 k0_t2
  let c512_i32_203 : BitVec 32 := 512#32
  let v664 : BitVec 32 := Scalar.muli arg15 c512_i32_203
  v664
def k0_off9 (i : grid0.Coords) (k0_t2 : Fin (k0_t2_loop i).trips) : Fin 2 → Nat :=
  let c0_i32_142 : BitVec 32 := 0#32
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let v402 : BitVec 32 := Scalar.subi v369 c0_i32_142
  let c1_i32_143 : BitVec 32 := 1#32
  let v404 : BitVec 32 := Scalar.divsi v402 c1_i32_143
  let v405 : BitVec 32 := Scalar.muli v404 c1_i32_143
  let v406 : BitVec 32 := Scalar.addi c0_i32_142 v405
  let c1_i32_145 : BitVec 32 := 1#32
  let arg15 : BitVec 32 := Scf.iv v406 c1_i32_145 k0_t2
  let c512_i32_203 : BitVec 32 := 512#32
  let v664 : BitVec 32 := Scalar.muli arg15 c512_i32_203
  let v665 : BitVec 32 := v664
  let v666 : Index := Scalar.indexCast v665
  let c128_204 : Index := 128#32
  ![v666.toNat, 128]
def k0_mult6 (i : grid0.Coords) : BitVec 32 :=
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let c512_i32_146 : BitVec 32 := 512#32
  let v409 : BitVec 32 := Scalar.muli v369 c512_i32_146
  v409
def k0_off10 (i : grid0.Coords) : Fin 2 → Nat :=
  let arg1 : BitVec 32 := BitVec.ofNat 32 (i 1).val
  let c128_i32 : BitVec 32 := 128#32
  let v0 : BitVec 32 := Scalar.muli arg1 c128_i32
  let c0_i32_117 : BitVec 32 := 0#32
  let v354 : BitVec 1 := Scalar.cmpi .sgt v0 c0_i32_117
  let v355 : BitVec 32 := Scalar.extui v354
  let c0_i32_118 : BitVec 32 := 0#32
  let v356 : BitVec 1 := Scalar.cmpi .slt v0 c0_i32_118
  let v357 : BitVec 32 := Scalar.extui v356
  let v358 : BitVec 32 := Scalar.subi v355 v357
  let c512_i32 : BitVec 32 := 512#32
  let c0_i32_119 : BitVec 32 := 0#32
  let v359 : BitVec 1 := Scalar.cmpi .sgt c512_i32 c0_i32_119
  let v360 : BitVec 32 := Scalar.extui v359
  let c0_i32_120 : BitVec 32 := 0#32
  let v361 : BitVec 1 := Scalar.cmpi .slt c512_i32 c0_i32_120
  let v362 : BitVec 32 := Scalar.extui v361
  let v363 : BitVec 32 := Scalar.subi v360 v362
  let v364 : BitVec 1 := Scalar.cmpi .ne v358 v363
  let v365 : BitVec 32 := Scalar.remsi v0 c512_i32
  let c0_i32_121 : BitVec 32 := 0#32
  let v366 : BitVec 1 := Scalar.cmpi .ne v365 c0_i32_121
  let v367 : BitVec 1 := Scalar.andi v364 v366
  let v353 : BitVec 32 := Scalar.divsi v0 c512_i32
  let c1_i32_122 : BitVec 32 := 1#32
  let v368 : BitVec 32 := Scalar.subi v353 c1_i32_122
  let v369 : BitVec 32 := Scalar.select v367 v368 v353
  let c512_i32_146 : BitVec 32 := 512#32
  let v409 : BitVec 32 := Scalar.muli v369 c512_i32_146
  let v410 : BitVec 32 := v409
  let v411 : Index := Scalar.indexCast v410
  let c128 : Index := 128#32
  ![v411.toNat, 128]
def k0_mult7 (i : grid0.Coords) : BitVec 32 :=
  let arg1 : BitVec 32 := BitVec.ofNat 32 (i 1).val
  let c128_i32 : BitVec 32 := 128#32
  let v0 : BitVec 32 := Scalar.muli arg1 c128_i32
  let c512_i32_157 : BitVec 32 := 512#32
  let v456 : BitVec 32 := Scalar.subi v0 c512_i32_157
  let c0_i32_158 : BitVec 32 := 0#32
  let v457 : BitVec 32 := Scalar.maxsi v456 c0_i32_158
  v457
def k0_off11 (i : grid0.Coords) : Fin 2 → Nat :=
  let arg1 : BitVec 32 := BitVec.ofNat 32 (i 1).val
  let c128_i32 : BitVec 32 := 128#32
  let v0 : BitVec 32 := Scalar.muli arg1 c128_i32
  let c512_i32_157 : BitVec 32 := 512#32
  let v456 : BitVec 32 := Scalar.subi v0 c512_i32_157
  let c0_i32_158 : BitVec 32 := 0#32
  let v457 : BitVec 32 := Scalar.maxsi v456 c0_i32_158
  let v458 : BitVec 32 := v457
  let v459 : Index := Scalar.indexCast v458
  let c0_159 : Index := 0#32
  ![v459.toNat, 0]
def k0_off12 (i : grid0.Coords) : Fin 3 → Nat :=
  let arg1 : BitVec 32 := BitVec.ofNat 32 (i 1).val
  let c4_i32_160 : BitVec 32 := 4#32
  let v461 : BitVec 32 := Scalar.minsi arg1 c4_i32_160
  let v462 : Index := Scalar.indexCast v461
  let c0_161 : Index := 0#32
  let c0_162 : Index := 0#32
  ![v462.toNat, 0, 0]
def k0_off13 (i : grid0.Coords) : Fin 2 → Nat :=
  let arg1 : BitVec 32 := BitVec.ofNat 32 (i 1).val
  let c128_i32 : BitVec 32 := 128#32
  let v0 : BitVec 32 := Scalar.muli arg1 c128_i32
  let c512_i32_157 : BitVec 32 := 512#32
  let v456 : BitVec 32 := Scalar.subi v0 c512_i32_157
  let c0_i32_158 : BitVec 32 := 0#32
  let v457 : BitVec 32 := Scalar.maxsi v456 c0_i32_158
  let v458 : BitVec 32 := v457
  let v470 : Index := Scalar.indexCast v458
  let c128_165 : Index := 128#32
  ![v470.toNat, 128]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S5x640x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "lowest" => some ⊥
  | "masked" => some ⊥
  | "scale" => some (((Real.sqrt 64)⁻¹ * (Real.log 2)⁻¹ : ℝ) : EReal)
  | _ => none
-- ==== RefIdeal.lean ====
abbrev S16384x512 : Shape := ⟨2, ![16384, 512]⟩
abbrev S16384x128 : Shape := ⟨2, ![16384, 128]⟩
abbrev S1024x128 : Shape := ⟨2, ![1024, 128]⟩
abbrev S4x4096x2x4x64 : Shape := ⟨5, ![4, 4096, 2, 4, 64]⟩
abbrev S_ : Shape := ⟨0, ![]⟩
abbrev S16384x24 : Shape := ⟨2, ![16384, 24]⟩
abbrev S4x4096x3x2x4 : Shape := ⟨5, ![4, 4096, 3, 2, 4]⟩
abbrev S4x4096x4x2x64 : Shape := ⟨5, ![4, 4096, 4, 2, 64]⟩
abbrev S4x4096x1x2x64 : Shape := ⟨5, ![4, 4096, 1, 2, 64]⟩
abbrev S4x4096x2x64 : Shape := ⟨4, ![4, 4096, 2, 64]⟩
abbrev S4x256x2x64 : Shape := ⟨4, ![4, 256, 2, 64]⟩
abbrev S4x255x2x64 : Shape := ⟨4, ![4, 255, 2, 64]⟩
abbrev S4096 : Shape := ⟨1, ![4096]⟩
abbrev S255 : Shape := ⟨1, ![255]⟩
abbrev S64 : Shape := ⟨1, ![64]⟩
abbrev S4096x1 : Shape := ⟨2, ![4096, 1]⟩
abbrev S1x4096 : Shape := ⟨2, ![1, 4096]⟩
abbrev S4096x4096 : Shape := ⟨2, ![4096, 4096]⟩
abbrev S4x2x255x4096x4 : Shape := ⟨5, ![4, 2, 255, 4096, 4]⟩
abbrev S4x4096x2x4x255 : Shape := ⟨5, ![4, 4096, 2, 4, 255]⟩
abbrev S1x255 : Shape := ⟨2, ![1, 255]⟩
abbrev S4096x255 : Shape := ⟨2, ![4096, 255]⟩
abbrev S1x4096x1x1x255 : Shape := ⟨5, ![1, 4096, 1, 1, 255]⟩
abbrev S4x4096x2x4 : Shape := ⟨4, ![4, 4096, 2, 4]⟩
abbrev S4x4096x2x4x1 : Shape := ⟨5, ![4, 4096, 2, 4, 1]⟩
abbrev S4x2x64x4096x4 : Shape := ⟨5, ![4, 2, 64, 4096, 4]⟩
abbrev S255x1 : Shape := ⟨2, ![255, 1]⟩
abbrev S1x64 : Shape := ⟨2, ![1, 64]⟩
abbrev S255x64 : Shape := ⟨2, ![255, 64]⟩
abbrev S4x4096x2x255 : Shape := ⟨4, ![4, 4096, 2, 255]⟩
abbrev S4096x64 : Shape := ⟨2, ![4096, 64]⟩
abbrev S1x4096x1x64 : Shape := ⟨4, ![1, 4096, 1, 64]⟩
abbrev S4x4096x2x8 : Shape := ⟨4, ![4, 4096, 2, 8]⟩
abbrev S4x4096x2x8x1 : Shape := ⟨5, ![4, 4096, 2, 8, 1]⟩
abbrev S1x1x1x1x64 : Shape := ⟨5, ![1, 1, 1, 1, 64]⟩
abbrev S4x4096x2x8x64 : Shape := ⟨5, ![4, 4096, 2, 8, 64]⟩
abbrev S4x4096x2x64x64 : Shape := ⟨5, ![4, 4096, 2, 64, 64]⟩
abbrev S4x4096x2x4096 : Shape := ⟨4, ![4, 4096, 2, 4096]⟩
abbrev S1x4096x1x4096 : Shape := ⟨4, ![1, 4096, 1, 4096]⟩
abbrev S4x2x4096x4096x4 : Shape := ⟨5, ![4, 2, 4096, 4096, 4]⟩
abbrev S4x4096x2x4x4096 : Shape := ⟨5, ![4, 4096, 2, 4, 4096]⟩
abbrev S4x4096x2x1x4096 : Shape := ⟨5, ![4, 4096, 2, 1, 4096]⟩
abbrev S1x4096x1x1x4096 : Shape := ⟨5, ![1, 4096, 1, 1, 4096]⟩
abbrev S4x4096x1x2x4 : Shape := ⟨5, ![4, 4096, 1, 2, 4]⟩

abbrev nBuf : Space → Nat
  | .hbm => 246
  | .vmem => 0
  | .smem => 0
  | _ => 0

abbrev hbmTy0_0 (i : Nat) : BufTy := match i % 128 with
  | 0 => ⟨S16384x512, .f32⟩
  | 1 => ⟨S16384x128, .f32⟩
  | 2 => ⟨S16384x512, .bf16⟩
  | 3 => ⟨S1024x128, .f32⟩
  | 4 => ⟨S1024x128, .f32⟩
  | 5 => ⟨S4x4096x2x4x64, .f32⟩
  | 6 => ⟨S_, .f32⟩
  | 7 => ⟨S4x4096x2x4x64, .f32⟩
  | 8 => ⟨S4x4096x2x4x64, .f32⟩
  | 9 => ⟨S16384x24, .f32⟩
  | 10 => ⟨S4x4096x3x2x4, .f32⟩
  | 11 => ⟨S16384x512, .f32⟩
  | 12 => ⟨S4x4096x4x2x64, .f32⟩
  | 13 => ⟨S4x4096x1x2x64, .f32⟩
  | 14 => ⟨S4x4096x2x64, .f32⟩
  | 15 => ⟨S4x4096x1x2x64, .f32⟩
  | 16 => ⟨S4x4096x2x64, .f32⟩
  | 17 => ⟨S4x4096x1x2x64, .f32⟩
  | 18 => ⟨S4x4096x2x64, .f32⟩
  | 19 => ⟨S4x4096x1x2x64, .f32⟩
  | 20 => ⟨S4x4096x2x64, .f32⟩
  | 21 => ⟨S4x256x2x64, .f32⟩
  | 22 => ⟨S4x255x2x64, .f32⟩
  | 23 => ⟨S4x256x2x64, .f32⟩
  | 24 => ⟨S4x255x2x64, .f32⟩
  | 25 => ⟨S4096, .i32⟩
  | 26 => ⟨S255, .i32⟩
  | 27 => ⟨S_, .i32⟩
  | 28 => ⟨S255, .i32⟩
  | 29 => ⟨S255, .i32⟩
  | 30 => ⟨S_, .i32⟩
  | 31 => ⟨S255, .i32⟩
  | 32 => ⟨S255, .i32⟩
  | 33 => ⟨S_, .i32⟩
  | 34 => ⟨S255, .i32⟩
  | 35 => ⟨S255, .i32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S4096x1, .i32⟩
  | 47 => ⟨S1x4096, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i1⟩
  | 54 => ⟨S_, .i32⟩
  | 55 => ⟨S4096x4096, .i32⟩
  | 56 => ⟨S4096x4096, .i1⟩
  | 57 => ⟨S4096x4096, .i1⟩
  | 58 => ⟨S4x2x255x4096x4, .f32⟩
  | 59 => ⟨S4x4096x2x4x255, .f32⟩
  | 60 => ⟨S1x255, .i32⟩
  | 61 => ⟨S4096x1, .i32⟩
  | 62 => ⟨S4096x255, .i32⟩
  | 63 => ⟨S4096x255, .i32⟩
  | 64 => ⟨S4096x255, .i1⟩
  | 65 => ⟨S1x4096x1x1x255, .i1⟩
  | 66 => ⟨S_, .f32⟩
  | 67 => ⟨S_, .f32⟩
  | 68 => ⟨S4x4096x2x4x255, .i1⟩
  | 69 => ⟨S4x4096x2x4x255, .f32⟩
  | 70 => ⟨S4x4096x2x4x255, .f32⟩
  | 71 => ⟨S_, .f32⟩
  | 72 => ⟨S4x4096x2x4, .f32⟩
  | 73 => ⟨S4x4096x2x4x1, .f32⟩
  | 74 => ⟨S4x4096x2x4x255, .f32⟩
  | 75 => ⟨S4x4096x2x4x255, .f32⟩
  | 76 => ⟨S4x4096x2x4x255, .f32⟩
  | 77 => ⟨S_, .f32⟩
  | 78 => ⟨S_, .f32⟩
  | 79 => ⟨S4x4096x2x4x255, .i1⟩
  | 80 => ⟨S4x4096x2x4x255, .f32⟩
  | 81 => ⟨S4x4096x2x4x255, .f32⟩
  | 82 => ⟨S_, .f32⟩
  | 83 => ⟨S4x4096x2x4, .f32⟩
  | 84 => ⟨S4x4096x2x4x1, .f32⟩
  | 85 => ⟨S_, .f32⟩
  | 86 => ⟨S4x4096x2x4x1, .f32⟩
  | 87 => ⟨S4x4096x2x4x1, .f32⟩
  | 88 => ⟨S4x4096x2x4x255, .f32⟩
  | 89 => ⟨S4x4096x2x4x255, .f32⟩
  | 90 => ⟨S4x2x64x4096x4, .f32⟩
  | 91 => ⟨S4x4096x2x4x64, .f32⟩
  | 92 => ⟨S255x1, .i32⟩
  | 93 => ⟨S1x64, .i32⟩
  | 94 => ⟨S255x64, .i32⟩
  | 95 => ⟨S255x64, .i32⟩
  | 96 => ⟨S255x64, .i1⟩
  | 97 => ⟨S255x1, .i32⟩
  | 98 => ⟨S1x64, .i32⟩
  | 99 => ⟨S255x64, .i32⟩
  | 100 => ⟨S255x64, .i32⟩
  | 101 => ⟨S255x64, .i1⟩
  | 102 => ⟨S255x64, .i1⟩
  | 103 => ⟨S255x64, .f32⟩
  | 104 => ⟨S_, .f32⟩
  | 105 => ⟨S4x4096x2x255, .f32⟩
  | 106 => ⟨S4x4096x2x64, .f32⟩
  | 107 => ⟨S64, .i32⟩
  | 108 => ⟨S_, .i32⟩
  | 109 => ⟨S4096, .i32⟩
  | 110 => ⟨S4096, .i32⟩
  | 111 => ⟨S4096x1, .i32⟩
  | 112 => ⟨S1x64, .i32⟩
  | 113 => ⟨S_, .i32⟩
  | 114 => ⟨S1x64, .i32⟩
  | 115 => ⟨S1x64, .i32⟩
  | 116 => ⟨S4096x1, .i32⟩
  | 117 => ⟨S4096x64, .i32⟩
  | 118 => ⟨S4096x64, .i32⟩
  | 119 => ⟨S4096x64, .i1⟩
  | 120 => ⟨S1x64, .i32⟩
  | 121 => ⟨S_, .i32⟩
  | 122 => ⟨S1x64, .i32⟩
  | 123 => ⟨S1x64, .i1⟩
  | 124 => ⟨S1x64, .i32⟩
  | 125 => ⟨S4096x64, .i32⟩
  | 126 => ⟨S4096x64, .i32⟩
  | 127 => ⟨S4096x64, .i1⟩
  | _ => ⟨S16384x512, .f32⟩

abbrev hbmTy0_1 (i : Nat) : BufTy := match i % 128 with
  | 0 => ⟨S4096x64, .i1⟩
  | 1 => ⟨S4096x64, .i1⟩
  | 2 => ⟨S1x64, .i32⟩
  | 3 => ⟨S_, .i32⟩
  | 4 => ⟨S4096x1, .i32⟩
  | 5 => ⟨S4096x1, .i32⟩
  | 6 => ⟨S4096x64, .i32⟩
  | 7 => ⟨S4096x64, .i32⟩
  | 8 => ⟨S4096x64, .i1⟩
  | 9 => ⟨S4096x64, .i1⟩
  | 10 => ⟨S1x4096x1x64, .i1⟩
  | 11 => ⟨S1x4096x1x64, .i1⟩
  | 12 => ⟨S1x4096x1x64, .f32⟩
  | 13 => ⟨S_, .f32⟩
  | 14 => ⟨S1x4096x1x64, .f32⟩
  | 15 => ⟨S1x4096x1x64, .f32⟩
  | 16 => ⟨S4x4096x2x64, .f32⟩
  | 17 => ⟨S4x4096x2x64, .f32⟩
  | 18 => ⟨S_, .f32⟩
  | 19 => ⟨S_, .f32⟩
  | 20 => ⟨S4x4096x2x64, .i1⟩
  | 21 => ⟨S4x4096x2x64, .f32⟩
  | 22 => ⟨S4x4096x2x64, .f32⟩
  | 23 => ⟨S4x4096x2x8, .f32⟩
  | 24 => ⟨S4x4096x2x8, .i32⟩
  | 25 => ⟨S4x4096x2x8x1, .i32⟩
  | 26 => ⟨S1x1x1x1x64, .i32⟩
  | 27 => ⟨S4x4096x2x8x64, .i32⟩
  | 28 => ⟨S4x4096x2x8x64, .i32⟩
  | 29 => ⟨S4x4096x2x8x64, .i1⟩
  | 30 => ⟨S_, .i1⟩
  | 31 => ⟨S4x4096x2x64, .i1⟩
  | 32 => ⟨S4x4096x2x64x64, .i1⟩
  | 33 => ⟨S4x4096x2x4096, .i1⟩
  | 34 => ⟨S1x4096, .i32⟩
  | 35 => ⟨S4096x1, .i32⟩
  | 36 => ⟨S4096x4096, .i32⟩
  | 37 => ⟨S4096x4096, .i32⟩
  | 38 => ⟨S4096x4096, .i1⟩
  | 39 => ⟨S1x4096x1x4096, .i1⟩
  | 40 => ⟨S4x4096x2x4096, .i1⟩
  | 41 => ⟨S4x4096x2x4096, .i1⟩
  | 42 => ⟨S4x2x4096x4096x4, .f32⟩
  | 43 => ⟨S4x4096x2x4x4096, .f32⟩
  | 44 => ⟨S4x4096x2x1x4096, .i1⟩
  | 45 => ⟨S_, .f32⟩
  | 46 => ⟨S_, .f32⟩
  | 47 => ⟨S4x4096x2x4x4096, .i1⟩
  | 48 => ⟨S4x4096x2x4x4096, .f32⟩
  | 49 => ⟨S4x4096x2x4x4096, .f32⟩
  | 50 => ⟨S_, .f32⟩
  | 51 => ⟨S4x4096x2x4, .f32⟩
  | 52 => ⟨S4x4096x2x4x1, .f32⟩
  | 53 => ⟨S4x4096x2x4x4096, .f32⟩
  | 54 => ⟨S4x4096x2x4x4096, .f32⟩
  | 55 => ⟨S4x4096x2x4x4096, .f32⟩
  | 56 => ⟨S_, .f32⟩
  | 57 => ⟨S_, .f32⟩
  | 58 => ⟨S4x4096x2x4x4096, .i1⟩
  | 59 => ⟨S4x4096x2x4x4096, .f32⟩
  | 60 => ⟨S4x4096x2x4x4096, .f32⟩
  | 61 => ⟨S_, .f32⟩
  | 62 => ⟨S4x4096x2x4, .f32⟩
  | 63 => ⟨S4x4096x2x4x1, .f32⟩
  | 64 => ⟨S_, .f32⟩
  | 65 => ⟨S4x4096x2x4x1, .f32⟩
  | 66 => ⟨S4x4096x2x4x1, .f32⟩
  | 67 => ⟨S4x4096x2x4x4096, .f32⟩
  | 68 => ⟨S4x4096x2x4x4096, .f32⟩
  | 69 => ⟨S4x2x64x4096x4, .f32⟩
  | 70 => ⟨S4x4096x2x4x64, .f32⟩
  | 71 => ⟨S4x2x4096x4096x4, .f32⟩
  | 72 => ⟨S4x4096x2x4x4096, .f32⟩
  | 73 => ⟨S1x4096x1x1x4096, .i1⟩
  | 74 => ⟨S_, .f32⟩
  | 75 => ⟨S_, .f32⟩
  | 76 => ⟨S4x4096x2x4x4096, .i1⟩
  | 77 => ⟨S4x4096x2x4x4096, .f32⟩
  | 78 => ⟨S4x4096x2x4x4096, .f32⟩
  | 79 => ⟨S_, .f32⟩
  | 80 => ⟨S4x4096x2x4, .f32⟩
  | 81 => ⟨S4x4096x2x4x1, .f32⟩
  | 82 => ⟨S4x4096x2x4x4096, .f32⟩
  | 83 => ⟨S4x4096x2x4x4096, .f32⟩
  | 84 => ⟨S4x4096x2x4x4096, .f32⟩
  | 85 => ⟨S_, .f32⟩
  | 86 => ⟨S_, .f32⟩
  | 87 => ⟨S4x4096x2x4x4096, .i1⟩
  | 88 => ⟨S4x4096x2x4x4096, .f32⟩
  | 89 => ⟨S4x4096x2x4x4096, .f32⟩
  | 90 => ⟨S_, .f32⟩
  | 91 => ⟨S4x4096x2x4, .f32⟩
  | 92 => ⟨S4x4096x2x4x1, .f32⟩
  | 93 => ⟨S_, .f32⟩
  | 94 => ⟨S4x4096x2x4x1, .f32⟩
  | 95 => ⟨S4x4096x2x4x1, .f32⟩
  | 96 => ⟨S4x4096x2x4x4096, .f32⟩
  | 97 => ⟨S4x4096x2x4x4096, .f32⟩
  | 98 => ⟨S4x2x64x4096x4, .f32⟩
  | 99 => ⟨S4x4096x2x4x64, .f32⟩
  | 100 => ⟨S4x4096x1x2x4, .f32⟩
  | 101 => ⟨S4x4096x2x4, .f32⟩
  | 102 => ⟨S4x4096x2x4x1, .f32⟩
  | 103 => ⟨S4x4096x2x4x64, .f32⟩
  | 104 => ⟨S4x4096x2x4x64, .f32⟩
  | 105 => ⟨S4x4096x1x2x4, .f32⟩
  | 106 => ⟨S4x4096x2x4, .f32⟩
  | 107 => ⟨S4x4096x2x4x1, .f32⟩
  | 108 => ⟨S4x4096x2x4x64, .f32⟩
  | 109 => ⟨S4x4096x2x4x64, .f32⟩
  | 110 => ⟨S4x4096x2x4x64, .f32⟩
  | 111 => ⟨S4x4096x1x2x4, .f32⟩
  | 112 => ⟨S4x4096x2x4, .f32⟩
  | 113 => ⟨S4x4096x2x4x1, .f32⟩
  | 114 => ⟨S4x4096x2x4x64, .f32⟩
  | 115 => ⟨S4x4096x2x4x64, .f32⟩
  | 116 => ⟨S4x4096x2x4x64, .f32⟩
  | 117 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_14 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_15 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_17 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_18 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_v115 : Ref sig .tc := ⟨.hbm, 150, rfl⟩
abbrev main_values : Ref sig .tc := ⟨.hbm, 151, rfl⟩
abbrev main_indices : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_c_19 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_20 : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_v135 : Ref sig .tc := ⟨.hbm, 177, rfl⟩
abbrev main_cst_21 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_22 : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_v141 : Ref sig .tc := ⟨.hbm, 188, rfl⟩
abbrev main_cst_23 : Ref sig .tc := ⟨.hbm, 189, rfl⟩
abbrev main_v142 : Ref sig .tc := ⟨.hbm, 190, rfl⟩
abbrev main_v143 : Ref sig .tc := ⟨.hbm, 191, rfl⟩
abbrev main_cst_24 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_25 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_v153 : Ref sig .tc := ⟨.hbm, 206, rfl⟩
abbrev main_cst_26 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_27 : Ref sig .tc := ⟨.hbm, 213, rfl⟩
abbrev main_call6_v0 : Ref sig .tc := ⟨.hbm, 214, rfl⟩
abbrev main_call6_v1 : Ref sig .tc := ⟨.hbm, 215, rfl⟩
abbrev main_call6_v2 : Ref sig .tc := ⟨.hbm, 216, rfl⟩
abbrev main_v159 : Ref sig .tc := ⟨.hbm, 217, rfl⟩
abbrev main_cst_28 : Ref sig .tc := ⟨.hbm, 218, rfl⟩
abbrev main_v160 : Ref sig .tc := ⟨.hbm, 219, rfl⟩
abbrev main_v161 : Ref sig .tc := ⟨.hbm, 220, rfl⟩
abbrev main_cst_29 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S16384x512 : Shape := ⟨2, ![16384, 512]⟩
abbrev S1024x4376 : Shape := ⟨2, ![1024, 4376]⟩
abbrev S512x1024 : Shape := ⟨2, ![512, 1024]⟩
abbrev S1024x1024 : Shape := ⟨2, ![1024, 1024]⟩
abbrev S1024x2048 : Shape := ⟨2, ![1024, 2048]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x512, .f32⟩
  | .hbm, ⟨3, _⟩ => ⟨S16384x512, .f32⟩
  | .hbm, ⟨4, _⟩ => ⟨S1024x4376, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S1024 : Shape := ⟨1, ![1024]⟩
abbrev S16384x512 : Shape := ⟨2, ![16384, 512]⟩
abbrev S1024x4376 : Shape := ⟨2, ![1024, 4376]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4376 : Shape := ⟨2, ![16384, 4376]⟩
abbrev S16384x2048 : Shape := ⟨2, ![16384, 2048]⟩
abbrev S16384x2x1024 : Shape := ⟨3, ![16384, 2, 1024]⟩
abbrev S16384x1x1024 : Shape := ⟨3, ![16384, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x512, .f32⟩
  | .hbm, ⟨3, _⟩ => ⟨S16384x512, .f32⟩
  | .hbm, ⟨4, _⟩ => ⟨S1024x4376, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4376, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x4376 : Shape := ⟨2, ![1024, 4376]⟩
abbrev S1024x1280 : Shape := ⟨2, ![1024, 1280]⟩
abbrev S1024x24 : Shape := ⟨2, ![1024, 24]⟩
abbrev S_ : Shape := ⟨0, ![]⟩
abbrev S1024x128 : Shape := ⟨2, ![1024, 128]⟩
abbrev S1024x1024 : Shape := ⟨2, ![1024, 1024]⟩
abbrev S1x1024 : Shape := ⟨2, ![1, 1024]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x1280 : Shape := ⟨2, ![512, 1280]⟩

abbrev nBuf : Space → Nat
  | .hbm => 19
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4376, .f32⟩
  | .hbm, ⟨3, _⟩ => ⟨S1024x1280, .f32⟩
  | .hbm, ⟨4, _⟩ => ⟨S1024x1280, .bf16⟩
  | .hbm, ⟨5, _⟩ => ⟨S1024x24, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S16384x512, .f32⟩
  | .hbm, ⟨14, _⟩ => ⟨S16384x512, .f32⟩
  | .hbm, ⟨15, _⟩ => ⟨S16384x256, .f32⟩
  | .hbm, ⟨16, _⟩ => ⟨S16384x512, .bf16⟩
  | .hbm, ⟨17, _⟩ => ⟨S16384x128, .f32⟩
  | .hbm, ⟨18, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S1024x128, .bf16⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S16384x1024 : Shape := ⟨2, ![16384, 1024]⟩
abbrev S1024 : Shape := ⟨1, ![1024]⟩
abbrev S1024x4376 : Shape := ⟨2, ![1024, 4376]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4376 : Shape := ⟨2, ![16384, 4376]⟩
abbrev S16384x512 : Shape := ⟨2, ![16384, 512]⟩
abbrev S16384x256 : Shape := ⟨2, ![16384, 256]⟩
abbrev S16384x24 : Shape := ⟨2, ![16384, 24]⟩
abbrev S16384x128 : Shape := ⟨2, ![16384, 128]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4376, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4376, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S16384x256, .f32⟩
  | .hbm, ⟨24, _⟩ => ⟨S16384x512, .f32⟩
  | .hbm, ⟨25, _⟩ => ⟨S16384x512, .bf16⟩
  | .hbm, ⟨26, _⟩ => ⟨S16384x24, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S_, .f32⟩
  | .hbm, ⟨33, _⟩ => ⟨S16384x128, .f32⟩
  | .hbm, ⟨34, _⟩ => ⟨S16384x128, .f32⟩
  | .hbm, ⟨35, _⟩ => ⟨S_, .f32⟩
  | .hbm, ⟨36, _⟩ => ⟨S16384x128, .f32⟩
  | .hbm, ⟨37, _⟩ => ⟨S16384x128, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024x2816 : Shape := ⟨2, ![1024, 2816]⟩
abbrev S1x5632 : Shape := ⟨2, ![1, 5632]⟩
abbrev S256x5632 : Shape := ⟨2, ![256, 5632]⟩
abbrev S512x1024 : Shape := ⟨2, ![512, 1024]⟩
abbrev S8x5632 : Shape := ⟨2, ![8, 5632]⟩
abbrev S520x256 : Shape := ⟨2, ![520, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩

abbrev nBuf : Space → Nat
  | .hbm => 17
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S16384x1024, .f32⟩
  | .hbm, ⟨16, _⟩ => ⟨S256x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x5632, .f32⟩
  | .local _ .vmem, ⟨12, _⟩ => ⟨S8x5632, .f32⟩
  | .local _ .vmem, ⟨13, _⟩ => ⟨S520x256, .f32⟩
  | .local _ .vmem, ⟨14, _⟩ => ⟨S512x2816, .bf16⟩
  | .local _ .vmem, ⟨15, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S16384x2816 : Shape := ⟨2, ![16384, 2816]⟩
abbrev S4x8x512x5632 : Shape := ⟨4, ![4, 8, 512, 5632]⟩
abbrev S4x8x8x5632 : Shape := ⟨4, ![4, 8, 8, 5632]⟩
abbrev S256x5632 : Shape := ⟨2, ![256, 5632]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x5632, .f32⟩
  | .hbm, ⟨24, _⟩ => ⟨S4x4096x5632, .f32⟩
  | .hbm, ⟨25, _⟩ => ⟨S_, .f32⟩
  | .hbm, ⟨26, _⟩ => ⟨S4x2x5632, .f32⟩
  | .hbm, ⟨27, _⟩ => ⟨S4x4098x5632, .f32⟩
  | .hbm, ⟨28, _⟩ => ⟨S1x5632, .f32⟩
  | .hbm, ⟨29, _⟩ => ⟨S5632, .f32⟩
  | .hbm, ⟨30, _⟩ => ⟨S4x4096x5632, .f32⟩
  | .hbm, ⟨31, _⟩ => ⟨S1x1x5632, .f32⟩
  | .hbm, ⟨32, _⟩ => ⟨S4x4096x5632, .f32⟩
  | .hbm, ⟨33, _⟩ => ⟨S4x4096x5632, .f32⟩
  | .hbm, ⟨34, _⟩ => ⟨S_, .f32⟩
  | .hbm, ⟨35, _⟩ => ⟨S4x4096x5632, .f32⟩
  | .hbm, ⟨36, _⟩ => ⟨S4x4096x5632, .f32⟩
  | .hbm, ⟨37, _⟩ => ⟨S1x5632, .f32⟩
  | .hbm, ⟨38, _⟩ => ⟨S5632, .f32⟩
  | .hbm, ⟨39, _⟩ => ⟨S4x4096x5632, .f32⟩
  | .hbm, ⟨40, _⟩ => ⟨S1x1x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S1x5632, .f32⟩
  | .hbm, ⟨45, _⟩ => ⟨S5632, .f32⟩
  | .hbm, ⟨46, _⟩ => ⟨S4x4096x5632, .f32⟩
  | .hbm, ⟨47, _⟩ => ⟨S1x1x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S1x1x5632, .f32⟩
  | .hbm, ⟨52, _⟩ => ⟨S4x4096x5632, .f32⟩
  | .hbm, ⟨53, _⟩ => ⟨S4x4096x5632, .f32⟩
  | .hbm, ⟨54, _⟩ => ⟨S16384x5632, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S_, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S4x8x512x5632, .f32⟩
  | .hbm, ⟨94, _⟩ => ⟨S4x8x8x5632, .f32⟩
  | .hbm, ⟨95, _⟩ => ⟨S256x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Proof.AttnMath.lean ====
module

public import Idealize.ShloMosaic.Lib.Pipeline.ValueKit
public import Idealize.ShloMosaic.Lib.Pointwise

/-!
# Softmax over the extended reals

The facts about one softmax that the attention needs: its weights, the same weights in powers of two,
leaving out the keys that are masked, and dividing before or after the sum.
-/

@[expose] public section

noncomputable section

namespace Cert.Proof.AttnMath

open Idealize.ShloMosaic Idealize.ShloMosaic.TcCoe

/-! ## Sums and a finite factor -/

theorem add_mul_real (a b : EReal) {r : ℝ} (hr : 0 ≤ r) : (a + b) * (r : EReal) = a * r + b * r :=
  EReal.right_distrib_of_nonneg_of_ne_top (by exact_mod_cast hr) (EReal.coe_ne_top r) a b

theorem sum_mul_real {ι : Type*} (s : Finset ι) (f : ι → EReal) {r : ℝ} (hr : 0 ≤ r) :
    (∑ k ∈ s, f k) * (r : EReal) = ∑ k ∈ s, f k * r := by
  classical
  induction s using Finset.induction_on with
  | empty => simp
  | insert a s ha ih => rw [Finset.sum_insert ha, Finset.sum_insert ha, add_mul_real _ _ hr, ih]

theorem real_mul_sum {ι : Type*} (s : Finset ι) (f : ι → EReal) {r : ℝ} (hr : 0 ≤ r) :
    (r : EReal) * (∑ k ∈ s, f k) = ∑ k ∈ s, (r : EReal) * f k := by
  rw [mul_comm, sum_mul_real s f hr]
  exact Finset.sum_congr rfl fun k _ => mul_comm _ _

theorem sum_real {ι : Type*} (s : Finset ι) (f : ι → EReal) (h : ∀ k, ∃ r : ℝ, 0 ≤ r ∧ f k = r) :
    ∃ r : ℝ, 0 ≤ r ∧ ∑ k ∈ s, f k = r := by
  classical
  induction s using Finset.induction_on with
  | empty => exact ⟨0, le_refl _, by simp⟩
  | insert a s ha ih =>
    obtain ⟨x, hx, ex⟩ := ih
    obtain ⟨y, hy, ey⟩ := h a
    exact ⟨y + x, by positivity, by rw [Finset.sum_insert ha, ex, ey, EReal.coe_add]⟩

/-- A term `⊥` makes the whole sum `⊥`. -/
theorem sum_eq_bot {ι : Type*} [Fintype ι] (f : ι → EReal) (k : ι) (h : f k = ⊥) : ∑ k, f k = ⊥ := by
  classical
  rw [← Finset.add_sum_erase _ f (Finset.mem_univ k), h, EReal.bot_add]

/-! ## Powers of two and of e -/

/-- One over the natural logarithm of two: the factor between powers of two and of e. -/
def c : ℝ := (Real.log 2)⁻¹

theorem c_pos : 0 < c := inv_pos.mpr (Real.log_pos one_lt_two)

theorem c_mul_bot : (c : EReal) * ⊥ = ⊥ := EReal.coe_mul_bot_of_pos c_pos

theorem exp2_scaled (x y : EReal) :
    Ideal.exp2 ((c : EReal) * x - (c : EReal) * y) = Ideal.exp (x - y) := by
  have hb := EReal.coe_mul_bot_of_pos c_pos
  have ht := EReal.coe_mul_top_of_pos c_pos
  have hc : ∀ r : ℝ, (c : EReal) * (r : EReal) = ((c * r : ℝ) : EReal) := fun r => (EReal.coe_mul _ _).symm
  induction x using EReal.rec with
  | bot => rw [hb, EReal.bot_sub, EReal.bot_sub]; rfl
  | top =>
    induction y using EReal.rec with
    | bot => rw [hb, ht, EReal.top_sub_bot]; rfl
    | top => rw [ht, EReal.sub_top]; rfl
    | coe y => rw [ht, hc, EReal.top_sub_coe, EReal.top_sub_coe]; rfl
  | coe x =>
    induction y using EReal.rec with
    | bot => rw [hb, hc, EReal.coe_sub_bot, EReal.coe_sub_bot]; rfl
    | top => rw [ht, EReal.sub_top, EReal.sub_top]; rfl
    | coe y =>
      rw [hc, hc, ← EReal.coe_sub, ← EReal.coe_sub, Ideal.exp2_coe, Ideal.exp_coe]
      congr 1
      show (2 : ℝ) ^ (c * x - c * y) = _
      rw [Real.rpow_def_of_pos two_pos, ← mul_sub, ← mul_assoc, c,
        mul_inv_cancel₀ (Real.log_pos one_lt_two).ne', one_mul]

theorem exp2_real (x : EReal) (hx : x ≤ 0) : ∃ r : ℝ, 0 ≤ r ∧ Ideal.exp2 x = r := by
  induction x using EReal.rec with
  | bot => exact ⟨0, le_refl _, rfl⟩
  | top => exact absurd hx (by simp)
  | coe x => exact ⟨_, Real.rpow_nonneg zero_le_two _, rfl⟩

theorem exp_real (x : EReal) (hx : x ≤ 0) : ∃ r : ℝ, 0 ≤ r ∧ Ideal.exp x = r := by
  induction x using EReal.rec with
  | bot => exact ⟨0, le_refl _, rfl⟩
  | top => exact absurd hx (by simp)
  | coe x => exact ⟨_, (Real.exp_pos _).le, rfl⟩

theorem sub_le_zero {x y : EReal} (h : x ≤ y) : x - y ≤ 0 := by
  rw [sub_eq_add_neg]
  refine (add_le_add_left h _).trans ?_
  rw [← sub_eq_add_neg]
  exact EReal.sub_self_le_zero

/-- The step of a running maximum: weights taken against `m` are turned into weights against a larger
`m'` by one factor. -/
theorem exp2_step {s m m' : EReal} (h : s ≤ m) (h' : m ≤ m') :
    Ideal.exp2 (m - m') * Ideal.exp2 (s - m) = Ideal.exp2 (s - m') := by
  induction s using EReal.rec with
  | bot => simp [EReal.bot_sub]
  | top =>
    obtain rfl := top_le_iff.mp h
    obtain rfl := top_le_iff.mp h'
    simp [EReal.sub_top]
  | coe s =>
    induction m' using EReal.rec with
    | bot => exact absurd (h.trans h') (by simp)
    | top => simp [EReal.sub_top]
    | coe m' =>
      induction m using EReal.rec with
      | bot => exact absurd h (by simp)
      | top => exact absurd h' (by simp)
      | coe m =>
        rw [← EReal.coe_sub, ← EReal.coe_sub, ← EReal.coe_sub, Ideal.exp2_coe, Ideal.exp2_coe, Ideal.exp2_coe,
          ← EReal.coe_mul]
        congr 1
        show (2 : ℝ) ^ (m - m') * (2 : ℝ) ^ (s - m) = (2 : ℝ) ^ (s - m')
        rw [← Real.rpow_add two_pos]
        congr 1
        ring

/-! ## One softmax -/

/-- The smallest divisor the softmax allows. -/
def tiny : EReal := Ideal.ofBits .f32 0x0DA24260#32

theorem tiny_real : ∃ r : ℝ, 0 < r ∧ tiny = r := by
  refine ⟨_, ?_, by rw [tiny, Ideal.ofBits]; simp [Ideal.ieee]; rfl⟩
  norm_num

section Softmax

variable {ι κ : Type*} [Fintype ι] [Fintype κ]

/-- The weight of key `k`. -/
def wt (s : ι → EReal) (k : ι) : EReal := Ideal.exp (s k - Finset.univ.sup s)

/-- The same weight as a power of two. -/
def wt2 (s : ι → EReal) (k : ι) : EReal := Ideal.exp2 (s k - Finset.univ.sup s)

/-- One over the sum of the weights. -/
def inv (s : ι → EReal) : EReal := Ideal.div 1 (max (∑ k, wt s k) tiny)

def inv2 (s : ι → EReal) : EReal := Ideal.div 1 (max (∑ k, wt2 s k) tiny)

/-- The attention's output for one query. -/
def att (s v : ι → EReal) : EReal := (∑ k, wt s k * v k) * inv s

def att2 (s v : ι → EReal) : EReal := (∑ k, wt2 s k * v k) * inv2 s

/-- The probability of key `k`. -/
def prob (s : ι → EReal) (k : ι) : EReal := wt s k * inv s

theorem sup_scaled (s : ι → EReal) :
    Finset.univ.sup (fun k => (c : EReal) * s k) = (c : EReal) * Finset.univ.sup s := by
  refine (Finset.comp_sup_eq_sup_comp (fun x => (c : EReal) * x) (fun x y => ?_) c_mul_bot).symm
  have hm : Monotone (fun x : EReal => (c : EReal) * x) := fun x y h =>
    mul_le_mul_of_nonneg_left h (by exact_mod_cast c_pos.le)
  exact hm.map_max

theorem wt2_scaled (s : ι → EReal) (k : ι) : wt2 (fun k => (c : EReal) * s k) k = wt s k := by
  rw [wt2, sup_scaled, exp2_scaled, wt]

theorem inv2_scaled (s : ι → EReal) : inv2 (fun k => (c : EReal) * s k) = inv s := by
  simp only [inv2, inv, wt2_scaled]

theorem att2_scaled (s v : ι → EReal) : att2 (fun k => (c : EReal) * s k) v = att s v := by
  simp only [att2, att, wt2_scaled, inv2_scaled]

theorem wt_real (s : ι → EReal) (k : ι) : ∃ r : ℝ, 0 ≤ r ∧ wt s k = r :=
  exp_real _ (sub_le_zero (Finset.le_sup (Finset.mem_univ k)))

theorem wt_masked (s : ι → EReal) (k : ι) (h : s k = ⊥) : wt s k = 0 := by
  rw [wt, h, EReal.bot_sub]; rfl

theorem div_of_pos (x : EReal) {r : ℝ} (hr : 0 < r) : Ideal.div x (r : EReal) = x * ((r⁻¹ : ℝ) : EReal) := by
  rw [Ideal.div, if_neg (by exact_mod_cast hr.ne')]
  rw [EReal.coe_inv]

theorem total_real (s : ι → EReal) : ∃ r : ℝ, 0 < r ∧ max (∑ k, wt s k) tiny = r := by
  obtain ⟨a, ha, ea⟩ := sum_real Finset.univ (wt s) (wt_real s)
  obtain ⟨b, hb, eb⟩ := tiny_real
  refine ⟨max a b, lt_max_of_lt_right hb, ?_⟩
  rw [ea, eb]
  exact (Monotone.map_max (f := fun r : ℝ => (r : EReal)) EReal.coe_strictMono.monotone).symm

theorem inv_real (s : ι → EReal) : ∃ r : ℝ, 0 ≤ r ∧ inv s = r := by
  obtain ⟨a, ha, ea⟩ := total_real s
  exact ⟨a⁻¹, (inv_pos.mpr ha).le, by rw [inv, ea, div_of_pos _ ha, one_mul]⟩

/-- Dividing a weight by the sum of the weights. -/
theorem div_total (s : ι → EReal) (x : EReal) : Ideal.div x (max (∑ k, wt s k) tiny) = x * inv s := by
  obtain ⟨a, ha, ea⟩ := total_real s
  rw [inv, ea, div_of_pos _ ha, div_of_pos _ ha, one_mul]

theorem prob_real (s : ι → EReal) (k : ι) : ∃ r : ℝ, 0 ≤ r ∧ prob s k = r := by
  obtain ⟨a, ha, ea⟩ := wt_real s k
  obtain ⟨b, hb, eb⟩ := inv_real s
  exact ⟨a * b, mul_nonneg ha hb, by rw [prob, ea, eb, EReal.coe_mul]⟩

theorem sum_prob (s v : ι → EReal) : ∑ k, prob s k * v k = att s v := by
  obtain ⟨b, hb, eb⟩ := inv_real s
  rw [att, eb, sum_mul_real _ _ hb]
  refine Finset.sum_congr rfl fun k _ => ?_
  rw [prob, eb, mul_right_comm]

/-! ## Leaving out masked keys -/

theorem sup_restrict (f : κ → ι) (s : ι → EReal) (h : ∀ k, (∀ j, f j ≠ k) → s k = ⊥) :
    Finset.univ.sup (fun j => s (f j)) = Finset.univ.sup s := by
  refine le_antisymm (Finset.sup_le fun j _ => Finset.le_sup (Finset.mem_univ (f j))) (Finset.sup_le fun k _ => ?_)
  by_cases hk : ∀ j, f j ≠ k
  · rw [h k hk]; exact bot_le
  · push Not at hk
    obtain ⟨j, rfl⟩ := hk
    exact Finset.le_sup (f := fun j => s (f j)) (Finset.mem_univ j)

theorem sum_restrict (f : κ → ι) (hf : Function.Injective f) (g : ι → EReal)
    (h : ∀ k, (∀ j, f j ≠ k) → g k = 0) : ∑ j, g (f j) = ∑ k, g k :=
  Fintype.sum_of_injective f hf _ _ (fun k hk => h k fun j hj => hk ⟨j, hj⟩) fun _ => rfl

theorem wt_restrict (f : κ → ι) (s : ι → EReal) (h : ∀ k, (∀ j, f j ≠ k) → s k = ⊥) (j : κ) :
    wt (fun j => s (f j)) j = wt s (f j) := by
  rw [wt, wt, sup_restrict f s h]

theorem inv_restrict (f : κ → ι) (hf : Function.Injective f) (s : ι → EReal)
    (h : ∀ k, (∀ j, f j ≠ k) → s k = ⊥) : inv (fun j => s (f j)) = inv s := by
  rw [inv, inv]
  simp only [wt_restrict f s h]
  rw [sum_restrict f hf (wt s) fun k hk => wt_masked s k (h k hk)]

/-- Keys that are masked can be left out. -/
theorem att_restrict (f : κ → ι) (hf : Function.Injective f) (s v : ι → EReal)
    (h : ∀ k, (∀ j, f j ≠ k) → s k = ⊥) : att (fun j => s (f j)) (fun j => v (f j)) = att s v := by
  rw [att, att, inv_restrict f hf s h]
  simp only [wt_restrict f s h]
  rw [sum_restrict f hf (fun k => wt s k * v k) fun k hk => by rw [wt_masked s k (h k hk), zero_mul]]

/-- With every key masked the output is zero. -/
theorem att_masked (s v : ι → EReal) (h : ∀ k, s k = ⊥) : att s v = 0 := by
  rw [att, Finset.sum_eq_zero fun k _ => by rw [wt_masked s k (h k), zero_mul], zero_mul]

end Softmax

end Cert.Proof.AttnMath
-- ==== Proof.AttnBlock.lean ====
module

public import proofs.«01_k».proof.Proof.Gen.KernelIdeal.Value
public import Idealize.ShloMosaic.Lib.WholeRead
public import Idealize.ShloMosaic.Lib.WordCmp
public import proofs.«01_k».proof.Proof.AttnMath

/-!
# One step of the attention: what it reads

One step of the grid works on a block of 128 queries of one prompt. `Blk` gathers what the step reads: its place in
the grid, its references and the blocks held in them, with what the host's tables hold.
-/

@[expose] public section

noncomputable section

namespace Cert.Proof.AttnKernel

open Cert.KernelIdeal Cert.KernelIdeal.Gen Cert.KernelIdeal.Gen.kernelRun0_A Idealize.ShloMosaic Idealize.ShloMosaic.TcCoe

set_option maxRecDepth 16384

/-- What one step of the grid reads. -/
structure Blk where
  (c : Dev nD)
  (i : grid0.Coords)
  (arg2 : Memref sig Kind.tc Space.vmem S128x512 EltTy.f32)
  (harg2 : arg2.IsWhole)
  (arg3 : Memref sig Kind.tc Space.vmem S128x128 EltTy.f32)
  (harg3 : arg3.IsWhole)
  (arg4 : Memref sig Kind.tc Space.vmem S4096x256 EltTy.bf16)
  (harg4 : arg4.IsWhole)
  (arg5 : Memref sig Kind.tc Space.vmem S4096x256 EltTy.bf16)
  (harg5 : arg5.IsWhole)
  (arg6 : Memref sig Kind.tc Space.vmem S256x128 EltTy.f32)
  (harg6 : arg6.IsWhole)
  (arg7 : Memref sig Kind.tc Space.vmem S256x128 EltTy.f32)
  (harg7 : arg7.IsWhole)
  (arg8 : Memref sig Kind.tc Space.vmem S1x256x128 EltTy.bf16)
  (harg8 : arg8.IsWhole)
  (arg9 : Memref sig Kind.tc Space.vmem S8x512x128 EltTy.bf16)
  (harg9 : arg9.IsWhole)
  (arg10 : Memref sig Kind.tc Space.vmem S5x512x128 EltTy.bf16)
  (harg10 : arg10.IsWhole)
  (arg11 : Memref sig Kind.tc Space.vmem S5x640x128 EltTy.bf16)
  (harg11 : arg11.IsWhole)
  (arg12 : Memref sig Kind.tc Space.vmem S1024x128 EltTy.bf16)
  (harg12 : arg12.IsWhole)
  (arg13 : Memref sig Kind.tc Space.vmem S128x256 EltTy.bf16)
  (harg13 : arg13.IsWhole)
  (arg14 : Memref sig Kind.tc Space.vmem S128x512 EltTy.f32)
  (harg14 : arg14.IsWhole)
  (x0 : Vec Ideal S128x512 EltTy.f32)
  (x1 : Vec Ideal S128x128 EltTy.f32)
  (x2 : Vec Ideal S4096x256 EltTy.bf16)
  (x3 : Vec Ideal S4096x256 EltTy.bf16)
  (x4 : Vec Ideal S256x128 EltTy.f32)
  (x5 : Vec Ideal S256x128 EltTy.f32)
  (x6 : Vec Ideal S1x256x128 EltTy.bf16)
  (x7 : Vec Ideal S8x512x128 EltTy.bf16)
  (x8 : Vec Ideal S5x512x128 EltTy.bf16)
  (x9 : Vec Ideal S5x640x128 EltTy.bf16)
  (x10 : Vec Ideal S1024x128 EltTy.bf16)
  (x11 : Vec Ideal S128x256 EltTy.bf16)
  /-- Which compressed keys lie after the query. -/
  later_c : ∀ (n : Fin 256) (r : Fin 128),
    x6 (ix3 0 n r) = if 16 * n.val + 31 > 128 * (i 1).val + r.val then 1 else 0
  /-- Which block of 64 keys a key belongs to. -/
  block_of : ∀ (j : Fin 8) (k : Fin 512) (l : Fin 128),
    x7 (ix3 j k l) = if (512 * j.val + k.val) / 64 = l.val % 64 then 1 else 0
  /-- Which keys of the last chunk lie after the query. -/
  later_s : ∀ (d : Fin 5) (k : Fin 512) (r : Fin 128),
    x8 (ix3 d k r) = if k.val > 128 * d.val + r.val ∧ d.val < 4 then 1 else 0
  /-- Which keys lie outside the query's window. -/
  outside : ∀ (w : Fin 5) (k : Fin 640) (r : Fin 128),
    x9 (ix3 w k r) = if k.val ≤ 128 * w.val + r.val ∧ 128 * w.val + r.val ≤ k.val + 512 then 0 else 1
  /-- The row's own query, as a one. -/
  own : ∀ (R : Fin 1024) (r : Fin 128), x10 (ix2 R r) = if r.val = R.val % 128 then 1 else 0
  /-- Which compressed keys overlap which block of 64 keys. -/
  overlap : ∀ (j : Fin 128) (n : Fin 256),
    x11 (ix2 j n) = if 16 * n.val ≤ 64 * j.val + 63 ∧ 64 * j.val ≤ 16 * n.val + 31 ∧ n.val < 255 ∧ j.val < 64
      then 1 else 0

variable (B : Blk)

/-! ## The loads -/

theorem q_eq : (sl.r B.c B.arg2 B.harg2 B.x0) = B.x0 := by
  funext j
  refine (Memref.IsWhole.readAt_unread B.harg2 B.x0 _ _).trans (congrArg B.x0 ?_)
  idx_ext

/-! ## The queries of the eight heads, one below the other -/

/-- The scale of the scores, with the factor between powers of two and of e. -/
def scale : EReal := (((Real.sqrt 64)⁻¹ * (Real.log 2)⁻¹ : ℝ) : EReal)

theorem scale_def : (Named.named κ "scale" 0x3E38AA3B#32 : Ideal .f32) = scale := rfl

theorem low_half (l : Fin 128) (a b : EReal) :
    Scalar.select (IntOp.andi (IntOp.cmpi CmpIPredicate.sge (BitVec.ofNat 32 l.val) 0#32)
      (IntOp.cmpi CmpIPredicate.slt (BitVec.ofNat 32 l.val) 64#32)) a b = if l.val / 64 = 0 then a else b := by
  have h : ∀ l : Fin 128, IntOp.andi (IntOp.cmpi CmpIPredicate.sge (BitVec.ofNat 32 l.val) 0#32)
      (IntOp.cmpi CmpIPredicate.slt (BitVec.ofNat 32 l.val) 64#32) = if l.val / 64 = 0 then 1#1 else 0#1 := by
    decide +kernel
  rw [h l]
  by_cases hl : l.val / 64 = 0
  · rw [if_pos hl, if_pos hl]; rfl
  · rw [if_neg hl, if_neg hl]; rfl

theorem high_half (l : Fin 128) (a b : EReal) :
    Scalar.select (IntOp.andi (IntOp.cmpi CmpIPredicate.sge (BitVec.ofNat 32 l.val) 64#32)
      (IntOp.cmpi CmpIPredicate.slt (BitVec.ofNat 32 l.val) 128#32)) a b = if l.val / 64 = 1 then a else b := by
  have h : ∀ l : Fin 128, IntOp.andi (IntOp.cmpi CmpIPredicate.sge (BitVec.ofNat 32 l.val) 64#32)
      (IntOp.cmpi CmpIPredicate.slt (BitVec.ofNat 32 l.val) 128#32) = if l.val / 64 = 1 then 1#1 else 0#1 := by
    decide +kernel
  rw [h l]
  by_cases hl : l.val / 64 = 1
  · rw [if_pos hl, if_pos hl]; rfl
  · rw [if_neg hl, if_neg hl]; rfl

/-- The entry `a` in the lanes of half `g`, zero in the other lanes. -/
def half (g : ℕ) (l : Fin 128) (a : EReal) : EReal := if l.val / 64 = g then a else 0

theorem lane_read {l : Fin 128} {g : ℕ} (x : Vec Ideal S128x512 .f32) (r : Fin 128) (m n : Fin 512) (s : EReal)
    (h : l.val / 64 = g → m = n) :
    (if l.val / 64 = g then x (ix2 r m) * s else 0) = half g l (x (ix2 r n) * s) := by
  unfold half
  by_cases hl : l.val / 64 = g
  · rw [if_pos hl, if_pos hl, h hl]
  · rw [if_neg hl, if_neg hl]

section Pieces

variable (x : Vec Ideal S128x512 .f32) (r l : Fin 128)

theorem piece_0 : (k0_pay14 x) (ix2 r l) =
    half (0) l (x (ix2 r ⟨0 + l.val % 64, by omega⟩) * scale) := by
  pointwise [k0_pay14, scale_def]
  rw [low_half]
  exact lane_read x r _ _ _ fun h => Fin.ext (by first | omega | (simp only []; omega))

theorem piece_1 : (k0_pay15 x) (ix2 r l) =
    half (0) l (x (ix2 r ⟨64 + l.val % 64, by omega⟩) * scale) := by
  pointwise [k0_pay15, scale_def]
  rw [low_half]
  exact lane_read x r _ _ _ fun h => Fin.ext (by first | omega | (simp only []; omega))

theorem piece_2 : (k0_pay16 x) (ix2 r l) =
    half (0) l (x (ix2 r ⟨128 + l.val % 64, by omega⟩) * scale) := by
  pointwise [k0_pay16, scale_def]
  rw [low_half]
  exact lane_read x r _ _ _ fun h => Fin.ext (by first | omega | (simp only []; omega))

theorem piece_3 : (k0_pay20 sl.v2 (k0_pay17 x) k0_pay18 k0_pay19) (ix2 r l) =
    half (0) l (x (ix2 r ⟨192 + l.val % 64, by omega⟩) * scale) := by
  pointwise [k0_pay20, k0_pay17, k0_pay18, k0_pay19, sl.v2, scale_def]
  rw [low_half]
  exact lane_read x r _ _ _ fun h => Fin.ext (by first | omega | (simp only []; omega))

theorem piece_4 : (k0_pay21 x sl.v2) (ix2 r l) =
    half (1) l (x (ix2 r ⟨256 + l.val % 64, by omega⟩) * scale) := by
  pointwise [k0_pay21, sl.v2, scale_def]
  rw [high_half]
  exact lane_read x r _ _ _ fun h => Fin.ext (by first | omega | (simp only []; omega))

theorem piece_5 : (k0_pay22 x sl.v2) (ix2 r l) =
    half (1) l (x (ix2 r ⟨320 + l.val % 64, by omega⟩) * scale) := by
  pointwise [k0_pay22, sl.v2, scale_def]
  rw [high_half]
  exact lane_read x r _ _ _ fun h => Fin.ext (by first | omega | (simp only []; omega))

theorem piece_6 : (k0_pay23 x sl.v2) (ix2 r l) =
    half (1) l (x (ix2 r ⟨384 + l.val % 64, by omega⟩) * scale) := by
  pointwise [k0_pay23, sl.v2, scale_def]
  rw [high_half]
  exact lane_read x r _ _ _ fun h => Fin.ext (by first | omega | (simp only []; omega))

theorem row_7 (p0 p1 p2 p3 p4 p5 p6 p7 : FVec Ideal S128x128 .f32) (c : IVec S128x128 1) (d : IVec S128x128 32) :
    k0_pay27 sl.v2 p0 p1 p2 p3 p4 p5 p6 p7 c d (ix2 ⟨896 + r.val, by omega⟩ l) =
    Scalar.select (IntOp.andi (c (ix2 r l)) (IntOp.cmpi CmpIPredicate.slt (BitVec.ofNat 32 l.val) (d (ix2 r l))))
      (p7 (ix2 r l) * scale) 0 := by
  pointwise [k0_pay27, scale_def]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  have e : (⟨896 + r.val - 128 - 128 - 128 - 128 - 128 - 128 - 128, by omega⟩ : Fin 128) = r := Fin.ext (by simp only []; omega)
  rw [e]
  pointwise [sl.v2]

theorem piece_7 : Scalar.select (IntOp.andi (k0_pay25 sl.v2 (ix2 r l))
      (IntOp.cmpi CmpIPredicate.slt (BitVec.ofNat 32 l.val) (k0_pay26 (ix2 r l))))
      (k0_pay24 x (ix2 r l) * scale) 0 =
    half (1) l (x (ix2 r ⟨448 + l.val % 64, by omega⟩) * scale) := by
  pointwise [k0_pay24, k0_pay25, k0_pay26, sl.v2]
  rw [high_half]
  exact lane_read x r _ _ _ fun h => Fin.ext (by first | omega | (simp only []; omega))

theorem row_0 (p0 p1 p2 p3 p4 p5 p6 p7 : FVec Ideal S128x128 .f32) (c : IVec S128x128 1) (d : IVec S128x128 32) :
    k0_pay27 sl.v2 p0 p1 p2 p3 p4 p5 p6 p7 c d (ix2 ⟨0 + r.val, by omega⟩ l) = p0 (ix2 r l) := by
  pointwise [k0_pay27]

theorem row_1 (p0 p1 p2 p3 p4 p5 p6 p7 : FVec Ideal S128x128 .f32) (c : IVec S128x128 1) (d : IVec S128x128 32) :
    k0_pay27 sl.v2 p0 p1 p2 p3 p4 p5 p6 p7 c d (ix2 ⟨128 + r.val, by omega⟩ l) = p1 (ix2 r l) := by
  pointwise [k0_pay27]

theorem row_2 (p0 p1 p2 p3 p4 p5 p6 p7 : FVec Ideal S128x128 .f32) (c : IVec S128x128 1) (d : IVec S128x128 32) :
    k0_pay27 sl.v2 p0 p1 p2 p3 p4 p5 p6 p7 c d (ix2 ⟨256 + r.val, by omega⟩ l) = p2 (ix2 r l) := by
  pointwise [k0_pay27]
  refine (dif_neg (by omega)).trans ?_
  refine (dif_neg (by omega)).trans ?_
  refine (dif_pos (by omega)).trans ?_
  exact congrArg p2 (congrArg (ix2 · l) (Fin.ext (by simp only []; omega)))

theorem row_3 (p0 p1 p2 p3 p4 p5 p6 p7 : FVec Ideal S128x128 .f32) (c : IVec S128x128 1) (d : IVec S128x128 32) :
    k0_pay27 sl.v2 p0 p1 p2 p3 p4 p5 p6 p7 c d (ix2 ⟨384 + r.val, by omega⟩ l) = p3 (ix2 r l) := by
  pointwise [k0_pay27]
  refine (dif_neg (by omega)).trans ?_
  refine (dif_neg (by omega)).trans ?_
  refine (dif_neg (by omega)).trans ?_
  refine (dif_pos (by omega)).trans ?_
  exact congrArg p3 (congrArg (ix2 · l) (Fin.ext (by simp only []; omega)))

theorem row_4 (p0 p1 p2 p3 p4 p5 p6 p7 : FVec Ideal S128x128 .f32) (c : IVec S128x128 1) (d : IVec S128x128 32) :
    k0_pay27 sl.v2 p0 p1 p2 p3 p4 p5 p6 p7 c d (ix2 ⟨512 + r.val, by omega⟩ l) = p4 (ix2 r l) := by
  pointwise [k0_pay27]
  refine (dif_neg (by omega)).trans ?_
  refine (dif_neg (by omega)).trans ?_
  refine (dif_neg (by omega)).trans ?_
  refine (dif_neg (by omega)).trans ?_
  refine (dif_pos (by omega)).trans ?_
  exact congrArg p4 (congrArg (ix2 · l) (Fin.ext (by simp only []; omega)))

theorem row_5 (p0 p1 p2 p3 p4 p5 p6 p7 : FVec Ideal S128x128 .f32) (c : IVec S128x128 1) (d : IVec S128x128 32) :
    k0_pay27 sl.v2 p0 p1 p2 p3 p4 p5 p6 p7 c d (ix2 ⟨640 + r.val, by omega⟩ l) = p5 (ix2 r l) := by
  pointwise [k0_pay27]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg p5 (congrArg (ix2 · l) (Fin.ext (by simp only []; omega)))

theorem row_6 (p0 p1 p2 p3 p4 p5 p6 p7 : FVec Ideal S128x128 .f32) (c : IVec S128x128 1) (d : IVec S128x128 32) :
    k0_pay27 sl.v2 p0 p1 p2 p3 p4 p5 p6 p7 c d (ix2 ⟨768 + r.val, by omega⟩ l) = p6 (ix2 r l) := by
  pointwise [k0_pay27]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg p6 (congrArg (ix2 · l) (Fin.ext (by simp only []; omega)))

end Pieces

theorem q2_at (h : Fin 8) (r l : Fin 128) : (sl.r_10 B.c B.arg2 B.harg2 B.x0) (ix2 ⟨128 * h.val + r.val, by omega⟩ l) =
    half (h.val / 4) l (B.x0 (ix2 r ⟨64 * h.val + l.val % 64, by omega⟩) * scale) := by
  rw [sl.r_10, show (sl.r_1 B.c B.arg2 B.harg2 B.x0) = k0_pay14 B.x0 from congrArg k0_pay14 (q_eq B),
    show (sl.r_2 B.c B.arg2 B.harg2 B.x0) = k0_pay15 B.x0 from congrArg k0_pay15 (q_eq B),
    show (sl.r_3 B.c B.arg2 B.harg2 B.x0) = k0_pay16 B.x0 from congrArg k0_pay16 (q_eq B), sl.r_5,
    show (sl.r_4 B.c B.arg2 B.harg2 B.x0) = k0_pay17 B.x0 from congrArg k0_pay17 (q_eq B), sl.r_6, sl.r_7, sl.r_8,
    show (sl.r_9 B.c B.arg2 B.harg2 B.x0) = k0_pay24 B.x0 from congrArg k0_pay24 (q_eq B), q_eq B]
  obtain ⟨h, hh⟩ := h
  rcases (by omega : h = 0 ∨ h = 1 ∨ h = 2 ∨ h = 3 ∨ h = 4 ∨ h = 5 ∨ h = 6 ∨ h = 7) with
    rfl | rfl | rfl | rfl | rfl | rfl | rfl | rfl
  · simp only [Nat.reduceMul, Nat.reduceDiv]
    exact (row_0 r l _ _ _ _ _ _ _ _ _ _).trans (piece_0 B.x0 r l)
  · simp only [Nat.reduceMul, Nat.reduceDiv]
    exact (row_1 r l _ _ _ _ _ _ _ _ _ _).trans (piece_1 B.x0 r l)
  · simp only [Nat.reduceMul, Nat.reduceDiv]
    exact (row_2 r l _ _ _ _ _ _ _ _ _ _).trans (piece_2 B.x0 r l)
  · simp only [Nat.reduceMul, Nat.reduceDiv]
    exact (row_3 r l _ _ _ _ _ _ _ _ _ _).trans (piece_3 B.x0 r l)
  · simp only [Nat.reduceMul, Nat.reduceDiv]
    exact (row_4 r l _ _ _ _ _ _ _ _ _ _).trans (piece_4 B.x0 r l)
  · simp only [Nat.reduceMul, Nat.reduceDiv]
    exact (row_5 r l _ _ _ _ _ _ _ _ _ _).trans (piece_5 B.x0 r l)
  · simp only [Nat.reduceMul, Nat.reduceDiv]
    exact (row_6 r l _ _ _ _ _ _ _ _ _ _).trans (piece_6 B.x0 r l)
  · simp only [Nat.reduceMul, Nat.reduceDiv]
    exact (row_7 r l _ _ _ _ _ _ _ _ _ _).trans (piece_7 B.x0 r l)

end Cert.Proof.AttnKernel
-- ==== Proof.AttnScore.lean ====
module

public import proofs.«01_k».proof.Proof.AttnBlock

/-!
# The attention's scores

The kernel adds the masks to the scores inside one product: behind the 128 lanes of a key lie 128 lanes holding `-∞`
for the queries the key is hidden from, and behind a query's lanes a one in its own lane.
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath

set_option maxRecDepth 16384

variable (B : Blk)

/-! ## Loads of whole blocks -/

theorem kc_eq (hb) : View.readAt (Elt Ideal) B.arg6.view (Rect.unit ![0, 0] S256x128.size hb).toLoadRect
    (Memref.IsWhole.unread B.harg6 B.x4) = B.x4 := by
  funext j
  refine (Memref.IsWhole.readAt_unread B.harg6 B.x4 _ _).trans (congrArg B.x4 ?_)
  idx_ext

theorem vc_eq (hb) : View.readAt (Elt Ideal) B.arg7.view (Rect.unit ![0, 0] S256x128.size hb).toLoadRect
    (Memref.IsWhole.unread B.harg7 B.x5) = B.x5 := by
  funext j
  refine (Memref.IsWhole.readAt_unread B.harg7 B.x5 _ _).trans (congrArg B.x5 ?_)
  idx_ext

theorem later_eq (hb) : View.readAt (Elt Ideal) B.arg8.view (Rect.unit ![0, 0, 0] S1x256x128.size hb).toLoadRect
    (Memref.IsWhole.unread B.harg8 B.x6) = B.x6 := by
  funext j
  refine (Memref.IsWhole.readAt_unread B.harg8 B.x6 _ _).trans (congrArg B.x6 ?_)
  idx_ext

theorem own_eq (hb) : View.readAt (Elt Ideal) B.arg12.view (Rect.unit ![0, 0] S1024x128.size hb).toLoadRect
    (Memref.IsWhole.unread B.harg12 B.x10) = B.x10 := by
  funext j
  refine (Memref.IsWhole.readAt_unread B.harg12 B.x10 _ _).trans (congrArg B.x10 ?_)
  idx_ext

theorem overlap_eq (hb) : View.readAt (Elt Ideal) B.arg13.view (Rect.unit ![0, 0] S128x256.size hb).toLoadRect
    (Memref.IsWhole.unread B.harg13 B.x11) = B.x11 := by
  funext j
  refine (Memref.IsWhole.readAt_unread B.harg13 B.x11 _ _).trans (congrArg B.x11 ?_)
  idx_ext

theorem gates_eq (hb) : View.readAt (Elt Ideal) B.arg3.view (Rect.unit ![0, 0] S128x128.size hb).toLoadRect
    (Memref.IsWhole.unread B.harg3 B.x1) = B.x1 := by
  funext j
  refine (Memref.IsWhole.readAt_unread B.harg3 B.x1 _ _).trans (congrArg B.x1 ?_)
  idx_ext

/-! ## Sums over lanes -/

theorem sum_256 (f : Fin 256 → EReal) :
    ∑ l, f l = (∑ l : Fin 128, f ⟨l.val, by omega⟩) + ∑ l : Fin 128, f ⟨128 + l.val, by omega⟩ :=
  Fin.sum_univ_add (a := 128) (b := 128) f

theorem sum_128 (f : Fin 128 → EReal) :
    ∑ l, f l = (∑ d : Fin 64, f ⟨d.val, by omega⟩) + ∑ d : Fin 64, f ⟨64 + d.val, by omega⟩ :=
  Fin.sum_univ_add (a := 64) (b := 64) f

/-- One eighth, the scale of the scores. -/
def eighth : EReal := Ideal.ofBits .f32 0x3E000000#32

theorem eighth_eq : eighth = ((8⁻¹ : ℝ) : EReal) := by
  rw [eighth, Ideal.ofBits]
  simp [Ideal.ieee]
  rw [← EReal.coe_mul]
  norm_num

theorem scale_eq : scale = (c : EReal) * eighth := by
  rw [eighth_eq, scale, ← EReal.coe_mul, c, mul_comm (Real.log 2)⁻¹,
    show Real.sqrt 64 = 8 from by rw [show (64 : ℝ) = 8 ^ 2 by norm_num]; exact Real.sqrt_sq (by norm_num)]

/-- The product of head `h` of query `r` with a key, scaled. -/
def dotq (h : Fin 8) (r : Fin 128) (K : Fin 128 → EReal) : EReal :=
  ∑ d : Fin 64, K ⟨64 * (h.val / 4) + d.val, by omega⟩ * (B.x0 (ix2 r ⟨64 * h.val + d.val, by omega⟩) * eighth)

theorem term_eq (x k : EReal) : x * scale * k = (c : EReal) * (k * (x * eighth)) := by
  rw [scale_eq]
  ac_rfl

/-- The product over the half of the lanes that head `h` uses. -/
theorem half_sum (h : Fin 8) (r : Fin 128) (K : Fin 128 → EReal) :
    ∑ d : Fin 64, B.x0 (ix2 r ⟨64 * h.val + d.val, by omega⟩) * scale * K ⟨64 * (h.val / 4) + d.val, by omega⟩ =
      (c : EReal) * dotq B h r K := by
  rw [dotq, real_mul_sum _ _ c_pos.le]
  exact Finset.sum_congr rfl fun d _ => term_eq _ _

theorem dot_q2 (h : Fin 8) (r : Fin 128) (K : Fin 128 → EReal) :
    ∑ l : Fin 128, (sl.r_10 B.c B.arg2 B.harg2 B.x0) (ix2 ⟨128 * h.val + r.val, by omega⟩ l) * K l = (c : EReal) * dotq B h r K := by
  rw [← half_sum, sum_128]
  simp only [q2_at]
  rcases (by omega : h.val / 4 = 0 ∨ h.val / 4 = 1) with hg | hg
  · rw [Finset.sum_eq_zero (f := fun d : Fin 64 => _ * K ⟨64 + d.val, _⟩) (fun d _ => ?_), add_zero]
    · refine Finset.sum_congr rfl fun d _ => ?_
      rw [half, if_pos (show d.val / 64 = h.val / 4 by omega)]
      have e1 : (⟨64 * h.val + d.val % 64, by omega⟩ : Fin 512) = ⟨64 * h.val + d.val, by omega⟩ := Fin.ext (by simp only []; omega)
      have e2 : (⟨64 * (h.val / 4) + d.val, by omega⟩ : Fin 128) = ⟨d.val, by omega⟩ := Fin.ext (by simp only []; omega)
      rw [e1, e2]
    · rw [half, if_neg (show ¬ (64 + d.val) / 64 = h.val / 4 by omega), zero_mul]
  · rw [Finset.sum_eq_zero (f := fun d : Fin 64 => _ * K ⟨d.val, _⟩) (fun d _ => ?_), zero_add]
    · refine Finset.sum_congr rfl fun d _ => ?_
      rw [half, if_pos (show (64 + d.val) / 64 = h.val / 4 by omega)]
      have e1 : (⟨64 * h.val + (64 + d.val) % 64, by omega⟩ : Fin 512) = ⟨64 * h.val + d.val, by omega⟩ := Fin.ext (by simp only []; omega)
      have e2 : (⟨64 * (h.val / 4) + d.val, by omega⟩ : Fin 128) = ⟨64 + d.val, by omega⟩ := Fin.ext (by simp only []; omega)
      rw [e1, e2]
    · rw [half, if_neg (show ¬ d.val / 64 = h.val / 4 by omega), zero_mul]

/-- The mask's part of a score: what the table holds for the row's own query. -/
theorem own_sum (h : Fin 8) (r : Fin 128) (T : Fin 128 → EReal) :
    ∑ l : Fin 128, B.x10 (ix2 ⟨128 * h.val + r.val, by omega⟩ l) * (T l * ⊥) = T r * ⊥ := by
  rw [Finset.sum_eq_single r]
  · rw [B.own, if_pos (by simp only []; omega), one_mul]
  · intro l _ hl
    rw [B.own, if_neg (by simp only []; intro e; exact hl (Fin.ext (by omega))), zero_mul]
  · intro h; exact absurd (Finset.mem_univ _) h

theorem masked_def : (Named.named κ "masked" 0xF180#16 : Ideal .bf16) = (⊥ : EReal) := rfl

/-- A mask's entry is `⊥` or nothing. -/
theorem mask_add (p : Prop) [Decidable p] (x : EReal) :
    x + (if p then (1 : EReal) else 0) * ⊥ = if p then ⊥ else x := by
  by_cases h : p
  · rw [if_pos h, if_pos h, one_mul, EReal.add_bot]
  · rw [if_neg h, if_neg h, zero_mul, add_zero]

theorem scaled_mask (p : Prop) [Decidable p] (x : EReal) :
    (if p then ⊥ else (c : EReal) * x) = (c : EReal) * if p then ⊥ else x := by
  by_cases h : p
  · rw [if_pos h, if_pos h, c_mul_bot]
  · rw [if_neg h, if_neg h]

/-! ## Choices by the lane -/

theorem below_64 (l : Fin 128) (a b : EReal) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by
    decide +kernel
  rw [h l]
  by_cases hl : l.val < 64
  · rw [if_pos hl, if_pos hl]; rfl
  · rw [if_neg hl, if_neg hl]; rfl

theorem from_64 (l : Fin 128) (a b : EReal) :
    Scalar.select (IntOp.cmpi CmpIPredicate.sge (BitVec.ofNat 32 l.val) 64#32) a b = if 64 ≤ l.val then a else b := by
  have h : ∀ l : Fin 128, IntOp.cmpi CmpIPredicate.sge (BitVec.ofNat 32 l.val) 64#32 = if 64 ≤ l.val then 1#1 else 0#1 := by
    decide +kernel
  rw [h l]
  by_cases hl : 64 ≤ l.val
  · rw [if_pos hl, if_pos hl]; rfl
  · rw [if_neg hl, if_neg hl]; rfl

/-! ## Positions as words -/

theorem choose_ite (p : Prop) [Decidable p] (a b : EReal) :
    Scalar.select (BitVec.ofBool (decide p)) a b = if p then a else b := by
  by_cases h : p
  · rw [if_pos h, decide_eq_true h]; rfl
  · rw [if_neg h, decide_eq_false h]; rfl

theorem block_lt : (B.i 1).val < 32 := (B.i 1).isLt

theorem low_bits (n : ℕ) (hn : n < 1024) : IntOp.andi (BitVec.ofNat 32 n) 127#32 = BitVec.ofNat 32 (n % 128) := by
  have h : ∀ n : Fin 1024, IntOp.andi (BitVec.ofNat 32 n.val) 127#32 = BitVec.ofNat 32 (n.val % 128) := by
    decide +kernel
  exact h ⟨n, hn⟩

theorem first_query (a : ℕ) : Scalar.muli (BitVec.ofNat 32 a) 128#32 = BitVec.ofNat 32 (a * 128) :=
  (BitVec.ofNat_mul a 128).symm

theorem add_words (a b : ℕ) : IntOp.addi (BitVec.ofNat 32 a) (BitVec.ofNat 32 b) = BitVec.ofNat 32 (a + b) :=
  (BitVec.ofNat_add a b).symm

/-- The position of the query of row `n`. -/
theorem position (n : ℕ) (hn : n < 1024) :
    IntOp.addi (Scalar.muli (BitVec.ofNat 32 (B.i 1).val) 128#32) (IntOp.andi (BitVec.ofNat 32 n) 127#32) =
      BitVec.ofNat 32 (128 * (B.i 1).val + n % 128) := by
  rw [low_bits n hn, first_query, add_words, mul_comm]

/-! ## The largest score -/

theorem low_16 : Ideal.ofBits .bf16 0xFF80#16 = ⊥ := by simp [Ideal.ofBits, Ideal.ieee]

theorem low_32 : Ideal.ofBits .f32 0xFF800000#32 = ⊥ := by simp [Ideal.ofBits, Ideal.ieee]

theorem fold_max {ι : Type*} [Fintype ι] (f : ι → EReal) : Finset.univ.fold max ⊥ f = Finset.univ.sup f := rfl

/-! ## Values in one half of the lanes -/

/-- A group's value in its own half of the lanes, one in the other half. -/
def ones (g : ℕ) (l : Fin 128) (x : EReal) : EReal := if l.val / 64 = g then x else 1

theorem ones_low {g : ℕ} (hg : g = 0) (l : Fin 128) (x : EReal) : (if l.val < 64 then x else 1) = ones g l x := by
  unfold ones
  by_cases hl : l.val < 64
  · rw [if_pos hl, if_pos (by omega)]
  · rw [if_neg hl, if_neg (by omega)]

theorem ones_high {g : ℕ} (hg : g = 1) (l : Fin 128) (x : EReal) : (if 64 ≤ l.val then x else 1) = ones g l x := by
  unfold ones
  by_cases hl : 64 ≤ l.val
  · rw [if_pos hl, if_pos (by omega)]
  · rw [if_neg hl, if_neg (by omega)]

theorem ones_own {g : ℕ} (d : Fin 64) (hg : g < 2) (x : EReal) : ones g ⟨64 * g + d.val, by omega⟩ x = x := by
  rw [ones, if_pos (by simp only []; omega)]

theorem ones_other {g : ℕ} (d : Fin 64) (hg : g < 2) (x : EReal) :
    ones g ⟨(64 * g + d.val + 128 - 64) % 128, by omega⟩ x = 1 := by
  rw [ones, if_neg (by simp only []; omega)]

/-! ## The queries with their ones -/

theorem qa_eq : (sl.r_12 B.c B.arg2 B.harg2 B.arg12 B.harg12 B.x0 B.x10) = concatenate S1024x256 1 [⟨S1024x128, (sl.r_10 B.c B.arg2 B.harg2 B.x0)⟩, ⟨S1024x128, B.x10⟩]
    concatenates_S1024x128_S1024x128_S1024x256_d1 := by
  have e : k0_pay28 B.x10 = B.x10 := by
    funext j
    idx_vars j
    pointwise [k0_pay28]
  rw [sl.r_12, k0_pay29, own_eq, e, sl.r_10]

theorem qa_low (R : Fin 1024) (l : Fin 128) : (sl.r_12 B.c B.arg2 B.harg2 B.arg12 B.harg12 B.x0 B.x10) (ix2 R ⟨l.val, by omega⟩) = (sl.r_10 B.c B.arg2 B.harg2 B.x0) (ix2 R l) := by
  rw [qa_eq]
  generalize (sl.r_10 B.c B.arg2 B.harg2 B.x0) = q
  pointwise []

theorem qa_high (R : Fin 1024) (l : Fin 128) : (sl.r_12 B.c B.arg2 B.harg2 B.arg12 B.harg12 B.x0 B.x10) (ix2 R ⟨128 + l.val, by omega⟩) = B.x10 (ix2 R l) := by
  rw [qa_eq]
  generalize (sl.r_10 B.c B.arg2 B.harg2 B.x0) = q
  pointwise []

/-- The score of one key: the product, or `⊥` where the key's table entry is one. -/
theorem score (h : Fin 8) (r : Fin 128) (k : Fin 256 → EReal) (K T : Fin 128 → EReal)
    (hK : ∀ l : Fin 128, k ⟨l.val, by omega⟩ = K l) (hT : ∀ l : Fin 128, k ⟨128 + l.val, by omega⟩ = T l * ⊥) :
    ∑ l : Fin 256, (sl.r_12 B.c B.arg2 B.harg2 B.arg12 B.harg12 B.x0 B.x10) (ix2 ⟨128 * h.val + r.val, by omega⟩ l) * k l = (c : EReal) * dotq B h r K + T r * ⊥ := by
  rw [sum_256]
  simp only [qa_low, qa_high, hK, hT]
  rw [dot_q2, own_sum]

end Cert.Proof.AttnKernel
-- ==== Proof.AttnCmp.lean ====
module

public import proofs.«01_k».proof.Proof.AttnScore

/-!
# The attention over the compressed keys
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath

set_option maxRecDepth 16384

variable (B : Blk)

/-- The score of compressed key `n` for head `h` of query `r`. -/
def sc (h : Fin 8) (r : Fin 128) (n : Fin 256) : EReal :=
  if 16 * n.val + 31 > 128 * (B.i 1).val + r.val then ⊥ else dotq B h r (fun l => B.x4 (ix2 n l))

theorem kca_eq : (sl.r_13 B.c B.arg6 B.harg6 B.arg8 B.harg8 B.x4 B.x6) = k0_pay30 B.x4 B.x6 := by
  rw [sl.r_13, kc_eq, later_eq]

theorem kca_low (n : Fin 256) (l : Fin 128) : (sl.r_13 B.c B.arg6 B.harg6 B.arg8 B.harg8 B.x4 B.x6) (ix2 n ⟨l.val, by omega⟩) = B.x4 (ix2 n l) := by
  rw [kca_eq]
  pointwise [k0_pay30]

theorem kca_high (n : Fin 256) (l : Fin 128) :
    (sl.r_13 B.c B.arg6 B.harg6 B.arg8 B.harg8 B.x4 B.x6) (ix2 n ⟨128 + l.val, by omega⟩) = B.x6 (ix3 0 n l) * ⊥ := by
  rw [kca_eq]
  pointwise [k0_pay30, masked_def]

theorem cmp_sum (h : Fin 8) (r : Fin 128) (n : Fin 256) :
    ∑ l : Fin 256, (sl.r_12 B.c B.arg2 B.harg2 B.arg12 B.harg12 B.x0 B.x10) (ix2 ⟨128 * h.val + r.val, by omega⟩ l) * (sl.r_13 B.c B.arg6 B.harg6 B.arg8 B.harg8 B.x4 B.x6) (ix2 n l) = (c : EReal) * sc B h r n := by
  rw [score B h r (fun l => (sl.r_13 B.c B.arg6 B.harg6 B.arg8 B.harg8 B.x4 B.x6) (ix2 n l)) _ _ (kca_low B n) (kca_high B n), B.later_c, mask_add, scaled_mask]
  rfl

theorem s_c_at (h : Fin 8) (r : Fin 128) (n : Fin 256) :
    (sl.r_14 B.c B.arg2 B.harg2 B.arg6 B.harg6 B.arg8 B.harg8 B.arg12 B.harg12 B.x0 B.x4 B.x6 B.x10) (ix2 ⟨128 * h.val + r.val, by omega⟩ n) = (c : EReal) * sc B h r n := by
  rw [← cmp_sum]
  have e : (sl.r_14 B.c B.arg2 B.harg2 B.arg6 B.harg6 B.arg8 B.harg8 B.arg12 B.harg12 B.x0 B.x4 B.x6 B.x10) = truncf .bf16 (matmul dot_S1024x256_S256x256_S1024x256_1_1_0_0_n_n none ((sl.r_12 B.c B.arg2 B.harg2 B.arg12 B.harg12 B.x0 B.x10)) ((sl.r_13 B.c B.arg6 B.harg6 B.arg8 B.harg8 B.x4 B.x6))
      (constant S1024x256 .f32 0x00000000#32)) bitsLt_bf16_f32 := rfl
  rw [e]
  generalize (sl.r_12 B.c B.arg2 B.harg2 B.arg12 B.harg12 B.x0 B.x10) = a
  generalize (sl.r_13 B.c B.arg6 B.harg6 B.arg8 B.harg8 B.x4 B.x6) = b
  pointwise []

theorem vc_low (n : Fin 256) (l : Fin 128) :
    (sl.r_16 B.c B.arg7 B.harg7 B.x5) (ix2 n l) = if l.val < 64 then B.x5 (ix2 n l) else 1 := by
  rw [sl.r_16, vc_eq]
  pointwise [k0_pay35, k0_pay33, k0_pay34]
  exact below_64 l _ _

theorem vc_high (n : Fin 256) (l : Fin 128) :
    (sl.r_17 B.c B.arg7 B.harg7 B.x5) (ix2 n l) = if 64 ≤ l.val then B.x5 (ix2 n l) else 1 := by
  rw [sl.r_17, vc_eq]
  pointwise [k0_pay36, k0_pay33, k0_pay34]
  exact from_64 l _ _

theorem soft_low (R : Fin 512) (l : Fin 128) : (sl.v124 B.c B.arg2 B.harg2 B.arg6 B.harg6 B.arg7 B.harg7 B.arg8 B.harg8 B.arg12 B.harg12 B.x0 B.x4 B.x5 B.x6 B.x10) (ix2 R l) =
    ∑ n, wt2 (fun n => (sl.r_14 B.c B.arg2 B.harg2 B.arg6 B.harg6 B.arg8 B.harg8 B.arg12 B.harg12 B.x0 B.x4 B.x6 B.x10) (ix2 ⟨R.val, by omega⟩ n)) n * (sl.r_16 B.c B.arg7 B.harg7 B.x5) (ix2 n l) := by
  have e18 : (sl.r_18 B.c B.arg2 B.harg2 B.arg6 B.harg6 B.arg8 B.harg8 B.arg12 B.harg12 B.x0 B.x4 B.x6 B.x10) = extractStridedSlice S512x256 ![0, 0] ((sl.r_14 B.c B.arg2 B.harg2 B.arg6 B.harg6 B.arg8 B.harg8 B.arg12 B.harg12 B.x0 B.x4 B.x6 B.x10)) slices_S1024x256_o0_0_S512x256 := rfl
  have e19 : (sl.r_19 B.c B.arg2 B.harg2 B.arg6 B.harg6 B.arg8 B.harg8 B.arg12 B.harg12 B.x0 B.x4 B.x6 B.x10) = broadcastTo S512x256 (shapeCast S512x1 (multiReduction .maximumf [1] S512 ((sl.r_18 B.c B.arg2 B.harg2 B.arg6 B.harg6 B.arg8 B.harg8 B.arg12 B.harg12 B.x0 B.x4 B.x6 B.x10)) 0xFF80#16
      reduces_S512x256_S512 (.inr rfl) rfl) shapeCasts_S512_S512x1) broadcasts_S512x1_S512x256 := rfl
  pointwise [sl.v124, sl.v123, sl.v122, e19, e18, sl.cst_49]
  rw [low_16]
  rfl

theorem soft_high (R : Fin 512) (l : Fin 128) : (sl.v131 B.c B.arg2 B.harg2 B.arg6 B.harg6 B.arg7 B.harg7 B.arg8 B.harg8 B.arg12 B.harg12 B.x0 B.x4 B.x5 B.x6 B.x10) (ix2 R l) =
    ∑ n, wt2 (fun n => (sl.r_14 B.c B.arg2 B.harg2 B.arg6 B.harg6 B.arg8 B.harg8 B.arg12 B.harg12 B.x0 B.x4 B.x6 B.x10) (ix2 ⟨512 + R.val, by omega⟩ n)) n * (sl.r_17 B.c B.arg7 B.harg7 B.x5) (ix2 n l) := by
  pointwise [sl.v125, sl.v126, sl.v127, sl.v128, sl.v129, sl.v130, sl.v131, sl.cst_50, sl.cst_49]
  rw [low_16]
  rfl

theorem acc_c (h : Fin 8) (r l : Fin 128) : (sl.v132 B.c B.arg2 B.harg2 B.arg6 B.harg6 B.arg7 B.harg7 B.arg8 B.harg8 B.arg12 B.harg12 B.x0 B.x4 B.x5 B.x6 B.x10) (ix2 ⟨128 * h.val + r.val, by omega⟩ l) =
    ∑ n, wt (sc B h r) n * ones (h.val / 4) l (B.x5 (ix2 n l)) := by
  have e0 : ∀ R : Fin 512, (sl.v132 B.c B.arg2 B.harg2 B.arg6 B.harg6 B.arg7 B.harg7 B.arg8 B.harg8 B.arg12 B.harg12 B.x0 B.x4 B.x5 B.x6 B.x10) (ix2 ⟨R.val, by omega⟩ l) = (sl.v124 B.c B.arg2 B.harg2 B.arg6 B.harg6 B.arg7 B.harg7 B.arg8 B.harg8 B.arg12 B.harg12 B.x0 B.x4 B.x5 B.x6 B.x10) (ix2 R l) := fun R => by
    pointwise [sl.v132]
  have e1 : ∀ R : Fin 512, (sl.v132 B.c B.arg2 B.harg2 B.arg6 B.harg6 B.arg7 B.harg7 B.arg8 B.harg8 B.arg12 B.harg12 B.x0 B.x4 B.x5 B.x6 B.x10) (ix2 ⟨512 + R.val, by omega⟩ l) = (sl.v131 B.c B.arg2 B.harg2 B.arg6 B.harg6 B.arg7 B.harg7 B.arg8 B.harg8 B.arg12 B.harg12 B.x0 B.x4 B.x5 B.x6 B.x10) (ix2 R l) := fun R => by
    pointwise [sl.v132]
  rcases (by omega : h.val / 4 = 0 ∨ h.val / 4 = 1) with hg | hg
  · refine (e0 ⟨128 * h.val + r.val, by omega⟩).trans ((soft_low B _ l).trans ?_)
    simp only [s_c_at, wt2_scaled, vc_low]
    refine Finset.sum_congr rfl fun n _ => congrArg (wt (sc B h r) n * ·) ?_
    unfold ones
    by_cases hl : l.val < 64
    · rw [if_pos hl, if_pos (by omega)]
    · rw [if_neg hl, if_neg (by omega)]
  · have hr : (⟨128 * h.val + r.val, by omega⟩ : Fin 1024) = ⟨512 + (128 * h.val + r.val - 512), by omega⟩ :=
      Fin.ext (by simp only []; omega)
    rw [hr]
    refine (e1 ⟨128 * h.val + r.val - 512, by omega⟩).trans ((soft_high B _ l).trans ?_)
    simp only [← hr]
    simp only [s_c_at, wt2_scaled, vc_high]
    refine Finset.sum_congr rfl fun n _ => congrArg (wt (sc B h r) n * ·) ?_
    unfold ones
    by_cases hl : 64 ≤ l.val
    · rw [if_pos hl, if_pos (by omega)]
    · rw [if_neg hl, if_neg (by omega)]

theorem tiny_def : (FloatOps.ofBits .f32 0x0DA24260#32 : Ideal .f32) = tiny := rfl

theorem o_c_open (R : Fin 1024) (l : Fin 128) : (sl.v142 B.c B.i B.arg2 B.harg2 B.arg6 B.harg6 B.arg7 B.harg7 B.arg8 B.harg8 B.arg12 B.harg12 B.x0 B.x4 B.x5 B.x6 B.x10) (ix2 R l) =
    Scalar.select ((sl.r_15 B.i) (ix2 R 0)) ((sl.v132 B.c B.arg2 B.harg2 B.arg6 B.harg6 B.arg7 B.harg7 B.arg8 B.harg8 B.arg12 B.harg12 B.x0 B.x4 B.x5 B.x6 B.x10) (ix2 R l) *
      Ideal.div 1 (max ((sl.v132 B.c B.arg2 B.harg2 B.arg6 B.harg6 B.arg7 B.harg7 B.arg8 B.harg8 B.arg12 B.harg12 B.x0 B.x4 B.x5 B.x6 B.x10) (ix2 R ⟨(l.val + 128 - 64) % 128, by omega⟩)) tiny)) 0 := by
  pointwise [sl.v133, sl.v134, sl.v135, sl.v136, sl.v137, sl.v138, sl.v139, sl.v140, sl.v141, sl.v142, sl.cst_53, sl.cst_54, sl.cst_55, tiny]

theorem reach (h : Fin 8) (r : Fin 128) (a b : EReal) :
    Scalar.select ((sl.r_15 B.i) (ix2 ⟨128 * h.val + r.val, by omega⟩ 0)) a b =
      if 31 ≤ 128 * (B.i 1).val + r.val then a else b := by
  have hi := block_lt B
  pointwise [sl.r_15, k0_pay32, sl.v0]
  rw [position B _ (by omega), WordCmp.cmpi_sge_ofNat (by omega) (by omega), choose_ite]
  have e : (128 * h.val + r.val) % 128 = r.val := by omega
  simp only [e]

/-- The attention over the compressed keys. -/
theorem o_c_at (h : Fin 8) (r : Fin 128) (d : Fin 64) :
    (sl.v142 B.c B.i B.arg2 B.harg2 B.arg6 B.harg6 B.arg7 B.harg7 B.arg8 B.harg8 B.arg12 B.harg12 B.x0 B.x4 B.x5 B.x6 B.x10) (ix2 ⟨128 * h.val + r.val, by omega⟩ ⟨64 * (h.val / 4) + d.val, by omega⟩) =
      att (sc B h r) (fun n => B.x5 (ix2 n ⟨64 * (h.val / 4) + d.val, by omega⟩)) := by
  rw [o_c_open, reach, acc_c, acc_c]
  simp only [ones_own d (show h.val / 4 < 2 by omega), ones_other d (show h.val / 4 < 2 by omega), mul_one]
  by_cases ht : 31 ≤ 128 * (B.i 1).val + r.val
  · rw [if_pos ht]; rfl
  · rw [if_neg ht, att_masked]
    intro n
    rw [sc, if_pos (by omega)]

end Cert.Proof.AttnKernel
-- ==== Proof.AttnWeight.lean ====
module

public import proofs.«01_k».proof.Proof.AttnCmp

/-!
# The importance of the blocks

For every query and group the probabilities of the compressed keys, added over the group's heads, give each block of keys
its importance.
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath

set_option maxRecDepth 16384

variable (B : Blk)

theorem s_t_at (h : Fin 8) (r : Fin 128) (n : Fin 256) :
    (sl.v143 B.c B.arg2 B.harg2 B.arg6 B.harg6 B.arg8 B.harg8 B.arg12 B.harg12 B.x0 B.x4 B.x6 B.x10) (ix2 n ⟨128 * h.val + r.val, by omega⟩) = (c : EReal) * sc B h r n := by
  rw [← cmp_sum]
  have e : (sl.v143 B.c B.arg2 B.harg2 B.arg6 B.harg6 B.arg8 B.harg8 B.arg12 B.harg12 B.x0 B.x4 B.x6 B.x10) = matmul dot_S256x256_S1024x256_S256x1024_1_1_0_0_n_n none ((sl.r_13 B.c B.arg6 B.harg6 B.arg8 B.harg8 B.x4 B.x6)) ((sl.r_12 B.c B.arg2 B.harg2 B.arg12 B.harg12 B.x0 B.x10))
      (constant S256x1024 .f32 0x00000000#32) := rfl
  rw [e]
  generalize (sl.r_12 B.c B.arg2 B.harg2 B.arg12 B.harg12 B.x0 B.x10) = a
  generalize (sl.r_13 B.c B.arg6 B.harg6 B.arg8 B.harg8 B.x4 B.x6) = b
  pointwise []
  exact Finset.sum_congr rfl fun l _ => mul_comm _ _

theorem e_t_open (R : Fin 1024) (n : Fin 256) :
    (sl.v148 B.c B.arg2 B.harg2 B.arg6 B.harg6 B.arg8 B.harg8 B.arg12 B.harg12 B.x0 B.x4 B.x6 B.x10) (ix2 n R) = wt2 (fun n => (sl.v143 B.c B.arg2 B.harg2 B.arg6 B.harg6 B.arg8 B.harg8 B.arg12 B.harg12 B.x0 B.x4 B.x6 B.x10) (ix2 n R)) n := by
  pointwise [sl.v144, sl.v145, sl.v146, sl.v147, sl.v148]
  rw [low_32]
  rfl

theorem p_t_open (R : Fin 1024) (n : Fin 256) :
    (sl.v165 B.c B.i B.arg2 B.harg2 B.arg6 B.harg6 B.arg8 B.harg8 B.arg12 B.harg12 B.x0 B.x4 B.x6 B.x10) (ix2 n R) = (sl.v148 B.c B.arg2 B.harg2 B.arg6 B.harg6 B.arg8 B.harg8 B.arg12 B.harg12 B.x0 B.x4 B.x6 B.x10) (ix2 n R) *
      Scalar.select ((sl.v157 B.i) (ix2 0 R)) (Ideal.div 1 (max (∑ n, (sl.v148 B.c B.arg2 B.harg2 B.arg6 B.harg6 B.arg8 B.harg8 B.arg12 B.harg12 B.x0 B.x4 B.x6 B.x10) (ix2 n R)) tiny)) 0 := by
  pointwise [sl.v158, sl.v159, sl.v160, sl.v161, sl.v162, sl.v163, sl.v164, sl.v165, sl.v149, sl.v150, sl.cst_53, sl.cst_54, sl.cst_55, tiny]

theorem reach_lane (h : Fin 8) (r : Fin 128) (a b : EReal) :
    Scalar.select ((sl.v157 B.i) (ix2 0 ⟨128 * h.val + r.val, by omega⟩)) a b =
      if 31 ≤ 128 * (B.i 1).val + r.val then a else b := by
  have hi := block_lt B
  pointwise [sl.v151, sl.v152, sl.v154, sl.v155, sl.v156, sl.v157, sl.v0]
  rw [position B _ (by omega), WordCmp.cmpi_sge_ofNat (by omega) (by omega), choose_ite]
  have e : (128 * h.val + r.val) % 128 = r.val := by omega
  simp only [e]

/-- The probability of a compressed key. -/
theorem p_t_at (h : Fin 8) (r : Fin 128) (n : Fin 256) :
    (sl.v165 B.c B.i B.arg2 B.harg2 B.arg6 B.harg6 B.arg8 B.harg8 B.arg12 B.harg12 B.x0 B.x4 B.x6 B.x10) (ix2 n ⟨128 * h.val + r.val, by omega⟩) = prob (sc B h r) n := by
  rw [p_t_open, reach_lane]
  simp only [e_t_open, s_t_at, wt2_scaled]
  by_cases ht : 31 ≤ 128 * (B.i 1).val + r.val
  · rw [if_pos ht]; rfl
  · rw [if_neg ht, prob, wt_masked, zero_mul, zero_mul]
    rw [sc, if_pos (by omega)]

/-- The probabilities of a compressed key, added over the four heads of group `g`. -/
def share (g : Fin 2) (r : Fin 128) (n : Fin 256) : EReal := ∑ k : Fin 4, prob (sc B ⟨4 * g.val + k.val, by omega⟩ r) n

theorem share_real (g : Fin 2) (r : Fin 128) (n : Fin 256) : ∃ a : ℝ, 0 ≤ a ∧ share B g r n = a :=
  sum_real _ _ fun _ => prob_real _ _

theorem share_low (r : Fin 128) (n : Fin 256) : (sl.v180 B.c B.i B.arg2 B.harg2 B.arg6 B.harg6 B.arg8 B.harg8 B.arg12 B.harg12 B.x0 B.x4 B.x6 B.x10) (ix2 n ⟨r.val, by omega⟩) = share B 0 r n := by
  have e : ∀ k : Fin 8, (sl.v165 B.c B.i B.arg2 B.harg2 B.arg6 B.harg6 B.arg8 B.harg8 B.arg12 B.harg12 B.x0 B.x4 B.x6 B.x10) (ix2 n ⟨128 * k.val + r.val, by omega⟩) = prob (sc B k r) n := fun k => p_t_at B k r n
  have e0 := e 0
  have e1 := e 1
  have e2 := e 2
  have e3 := e 3
  simp only [Fin.val_zero, Fin.val_one, Fin.val_two, show (3 : Fin 8).val = 3 from rfl, Nat.reduceMul, Nat.zero_add] at e0 e1 e2 e3
  pointwise [sl.v180, sl.v166, sl.v167, sl.v168, sl.v169, sl.v170, sl.v171, sl.v172]
  rw [e0, e1, e2, e3, share, Fin.sum_univ_four]
  rfl

theorem share_high (r : Fin 128) (n : Fin 256) : (sl.v180 B.c B.i B.arg2 B.harg2 B.arg6 B.harg6 B.arg8 B.harg8 B.arg12 B.harg12 B.x0 B.x4 B.x6 B.x10) (ix2 n ⟨128 + r.val, by omega⟩) = share B 1 r n := by
  have e : ∀ k : Fin 8, (sl.v165 B.c B.i B.arg2 B.harg2 B.arg6 B.harg6 B.arg8 B.harg8 B.arg12 B.harg12 B.x0 B.x4 B.x6 B.x10) (ix2 n ⟨128 * k.val + r.val, by omega⟩) = prob (sc B k r) n := fun k => p_t_at B k r n
  have e0 := e 4
  have e1 := e 5
  have e2 := e 6
  have e3 := e 7
  simp only [show (4 : Fin 8).val = 4 from rfl, show (5 : Fin 8).val = 5 from rfl, show (6 : Fin 8).val = 6 from rfl,
    show (7 : Fin 8).val = 7 from rfl, Nat.reduceMul] at e0 e1 e2 e3
  pointwise [sl.v180, sl.v173, sl.v174, sl.v175, sl.v176, sl.v177, sl.v178, sl.v179]
  rw [e0, e1, e2, e3, share, Fin.sum_univ_four]
  rfl

theorem share_at (g : Fin 2) (r : Fin 128) (n : Fin 256) :
    (sl.v180 B.c B.i B.arg2 B.harg2 B.arg6 B.harg6 B.arg8 B.harg8 B.arg12 B.harg12 B.x0 B.x4 B.x6 B.x10) (ix2 n ⟨128 * g.val + r.val, by omega⟩) = share B g r n := by
  match g with
  | ⟨0, _⟩ =>
    refine Eq.trans ?_ (share_low B r n)
    refine congrArg _ ?_
    idx_ext
  | ⟨1, _⟩ => exact share_high B r n

theorem imp_open (j : Fin 128) (R : Fin 256) :
    (sl.v189 B.c B.i B.arg2 B.harg2 B.arg6 B.harg6 B.arg8 B.harg8 B.arg12 B.harg12 B.arg13 B.harg13 B.x0 B.x4 B.x6 B.x10 B.x11) (ix2 j R) = (∑ n, B.x11 (ix2 j n) * (sl.v180 B.c B.i B.arg2 B.harg2 B.arg6 B.harg6 B.arg8 B.harg8 B.arg12 B.harg12 B.x0 B.x4 B.x6 B.x10) (ix2 n R)) +
      ∑ n, B.x11 (ix2 j n) * ((sl.v180 B.c B.i B.arg2 B.harg2 B.arg6 B.harg6 B.arg8 B.harg8 B.arg12 B.harg12 B.x0 B.x4 B.x6 B.x10) (ix2 n R) - (sl.v180 B.c B.i B.arg2 B.harg2 B.arg6 B.harg6 B.arg8 B.harg8 B.arg12 B.harg12 B.x0 B.x4 B.x6 B.x10) (ix2 n R)) := by
  have e : (sl.v182 B.c B.arg13 B.harg13 B.x11) = B.x11 := by
    rw [sl.v182, overlap_eq]
    funext y
    pointwise []
  pointwise [sl.v183, sl.v184, sl.v185, sl.v186, sl.v187, sl.v188, sl.v189, sl.cst_66, e]

/-- The importance of block `j` for group `g` of query `r`. -/
def imp (g : Fin 2) (r j : Fin 128) : EReal := ∑ n, B.x11 (ix2 j n) * share B g r n

theorem imp_at (g : Fin 2) (r j : Fin 128) :
    (sl.v189 B.c B.i B.arg2 B.harg2 B.arg6 B.harg6 B.arg8 B.harg8 B.arg12 B.harg12 B.arg13 B.harg13 B.x0 B.x4 B.x6 B.x10 B.x11) (ix2 j ⟨128 * g.val + r.val, by omega⟩) = imp B g r j := by
  rw [imp_open]
  simp only [share_at]
  rw [Finset.sum_eq_zero (f := fun n => B.x11 (ix2 j n) * (share B g r n - share B g r n)) fun n _ => ?_, add_zero]
  · rfl
  · obtain ⟨a, _, e⟩ := share_real B g r n
    rw [e, ← EReal.coe_sub, sub_self, EReal.coe_zero, mul_zero]

theorem imp_real (g : Fin 2) (r j : Fin 128) : ∃ a : ℝ, 0 ≤ a ∧ imp B g r j = a := by
  refine sum_real _ _ fun n => ?_
  obtain ⟨a, ha, e⟩ := share_real B g r n
  rw [e, B.overlap]
  split_ifs
  · exact ⟨a, ha, one_mul _⟩
  · exact ⟨0, le_refl _, zero_mul _⟩

end Cert.Proof.AttnKernel
-- ==== Proof.TopEight.lean ====
module

public import Idealize.ShloMosaic.PureOps.Ideal
public import Idealize.ShloMosaic.Lib.SortPrefix

/-!
# The best entries of a row

The entries of a row are ordered by their scores, the greatest first, and among equal scores by their places. `rank` counts
the entries ahead of a place. Taking the greatest entry again and again, the lowest place first, takes the ranks in order;
so does a stable sort.
-/

@[expose] public section

noncomputable section

namespace Cert.Proof.TopEight

open Idealize.ShloMosaic

variable {n : Nat} (s : Fin n → EReal)

/-- Place `j` comes before place `k`. -/
def ahead (j k : Fin n) : Prop := s k < s j ∨ (s j = s k ∧ j < k)

open Classical in
/-- How many places come before place `k`. -/
def rank (k : Fin n) : ℕ := (Finset.univ.filter fun j => ahead s j k).card

variable {s}

theorem ahead_irrefl (j : Fin n) : ¬ ahead s j j := by
  rintro (h | ⟨_, h⟩)
  · exact lt_irrefl _ h
  · exact lt_irrefl _ h

theorem ahead_trans {i j k : Fin n} (h : ahead s i j) (h' : ahead s j k) : ahead s i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem ahead_total {j k : Fin n} (h : j ≠ k) : ahead s j k ∨ ahead s k j := by
  rcases lt_trichotomy (s j) (s k) with e | e | e
  · exact Or.inr (Or.inl e)
  · rcases lt_or_gt_of_ne h with l | l
    · exact Or.inl (Or.inr ⟨e, l⟩)
    · exact Or.inr (Or.inr ⟨e.symm, l⟩)
  · exact Or.inl (Or.inl e)

theorem rank_lt_of_ahead {j k : Fin n} (h : ahead s j k) : rank s j < rank s k := by
  classical
  unfold rank
  refine Finset.card_lt_card ⟨fun i hi => ?_, fun hs => ?_⟩
  · rw [Finset.mem_filter] at hi ⊢
    exact ⟨hi.1, ahead_trans hi.2 h⟩
  · have := hs (Finset.mem_filter.mpr ⟨Finset.mem_univ j, h⟩)
    exact ahead_irrefl j (Finset.mem_filter.mp this).2

theorem rank_lt (k : Fin n) : rank s k < n := by
  classical
  unfold rank
  refine (Finset.card_lt_univ_of_notMem (x := k) ?_).trans_eq (Fintype.card_fin n)
  intro h
  exact ahead_irrefl k (Finset.mem_filter.mp h).2

theorem ahead_iff {j k : Fin n} : ahead s j k ↔ rank s j < rank s k := by
  refine ⟨rank_lt_of_ahead, fun h => ?_⟩
  have hne : j ≠ k := fun e => by rw [e] at h; exact lt_irrefl _ h
  rcases ahead_total (s := s) hne with h' | h'
  · exact h'
  · exact absurd (rank_lt_of_ahead h') (by omega)

theorem rank_injective {j k : Fin n} (h : rank s j = rank s k) : j = k := by
  by_contra hne
  rcases ahead_total (s := s) hne with h' | h'
  · exact absurd (rank_lt_of_ahead h') (by omega)
  · exact absurd (rank_lt_of_ahead h') (by omega)

theorem exists_rank {i : ℕ} (hi : i < n) : ∃ e, rank s e = i := by
  have hinj : Function.Injective fun k : Fin n => (⟨rank s k, rank_lt k⟩ : Fin n) := fun j k h =>
    rank_injective (congrArg Fin.val h)
  obtain ⟨e, he⟩ := Finite.surjective_of_injective hinj ⟨i, hi⟩
  exact ⟨e, congrArg Fin.val he⟩

/-! ## One round after another -/

variable (s) in
/-- The scores before round `i`: the entries taken so far have the score `low`. -/
def left (low : EReal) (i : ℕ) (j : Fin n) : EReal := if rank s j < i then low else s j

variable (s) in
/-- The place taken in round `i`, as the kernel finds it. -/
def pick (low big : EReal) (i : ℕ) : EReal :=
  Finset.univ.fold min ⊤ fun j : Fin n =>
    if left s low i j = Finset.univ.fold max ⊥ (left s low i) then ((j.val : ℝ) : EReal) else big

theorem max_left {low : EReal} (hlow : ∀ j, low < s j) {i : ℕ} {e : Fin n} (he : rank s e = i) :
    Finset.univ.fold max ⊥ (left s low i) = s e := by
  apply le_antisymm
  · rw [Finset.fold_max_le]
    refine ⟨bot_le, fun j _ => ?_⟩
    unfold left
    by_cases h : rank s j < i
    · rw [if_pos h]; exact (hlow e).le
    · rw [if_neg h]
      by_contra hc
      have := rank_lt_of_ahead (Or.inl (not_le.mp hc) : ahead s j e)
      omega
  · rw [Finset.le_fold_max]
    refine Or.inr ⟨e, Finset.mem_univ e, ?_⟩
    rw [left, if_neg (by omega)]

theorem pick_eq {low big : EReal} (hlow : ∀ j, low < s j) (hbig : ((n : ℝ) : EReal) ≤ big) {i : ℕ} {e : Fin n}
    (he : rank s e = i) : pick s low big i = ((e.val : ℝ) : EReal) := by
  unfold pick
  rw [max_left hlow he]
  apply le_antisymm
  · rw [Finset.fold_min_le]
    refine Or.inr ⟨e, Finset.mem_univ e, ?_⟩
    rw [if_pos (by rw [left, if_neg (by omega)])]
  · rw [Finset.le_fold_min]
    refine ⟨le_top, fun j _ => ?_⟩
    by_cases h : left s low i j = s e
    · rw [if_pos h]
      rw [left] at h
      by_cases hr : rank s j < i
      · rw [if_pos hr] at h
        exact absurd h (hlow e).ne
      · rw [if_neg hr] at h
        have hj : e.val ≤ j.val := by
          by_contra hc
          have := rank_lt_of_ahead (Or.inr ⟨h, by omega⟩ : ahead s j e)
          omega
        exact_mod_cast hj
    · rw [if_neg h]
      refine le_trans ?_ hbig
      exact_mod_cast e.isLt.le

theorem hit_iff {low big : EReal} (hlow : ∀ j, low < s j) (hbig : ((n : ℝ) : EReal) ≤ big) {i : ℕ} (hi : i < n)
    (j : Fin n) : ((j.val : ℝ) : EReal) = pick s low big i ↔ rank s j = i := by
  obtain ⟨e, he⟩ := exists_rank (s := s) hi
  rw [pick_eq hlow hbig he]
  constructor
  · intro h
    have : j = e := Fin.ext (by exact_mod_cast h)
    rw [this, he]
  · intro h
    rw [rank_injective (h.trans he.symm)]

theorem left_succ {low big : EReal} (hlow : ∀ j, low < s j) (hbig : ((n : ℝ) : EReal) ≤ big) {i : ℕ} (hi : i < n)
    (j : Fin n) : (if ((j.val : ℝ) : EReal) = pick s low big i then low else left s low i j) = left s low (i + 1) j := by
  by_cases h : rank s j = i
  · rw [if_pos ((hit_iff hlow hbig hi j).mpr h), left, if_pos (by omega)]
  · rw [if_neg fun e => h ((hit_iff hlow hbig hi j).mp e), left, left]
    by_cases hr : rank s j < i
    · rw [if_pos hr, if_pos (by omega)]
    · rw [if_neg hr, if_neg (by omega)]

theorem hit_succ {low big : EReal} (hlow : ∀ j, low < s j) (hbig : ((n : ℝ) : EReal) ≤ big) {i : ℕ} (hi : i < n)
    (j : Fin n) : (if ((j.val : ℝ) : EReal) = pick s low big i then (0 : EReal) else if rank s j < i then 0 else 1) =
      if rank s j < i + 1 then 0 else 1 := by
  by_cases h : rank s j = i
  · rw [if_pos ((hit_iff hlow hbig hi j).mpr h), if_pos (by omega)]
  · rw [if_neg fun e => h ((hit_iff hlow hbig hi j).mp e)]
    by_cases hr : rank s j < i
    · rw [if_pos hr, if_pos (by omega)]
    · rw [if_neg hr, if_neg (by omega)]

/-- Places with lower scores behind a row do not change the row's ranks. -/
theorem rank_castLE {m : Nat} (hm : m ≤ n) (s : Fin n → EReal)
    (h : ∀ (j : Fin n) (k : Fin m), m ≤ j.val → s j < s (k.castLE hm)) (k : Fin m) :
    rank s (k.castLE hm) = rank (fun j => s (Fin.castLE hm j)) k := by
  classical
  unfold rank
  symm
  refine Finset.card_bij (fun j _ => Fin.castLE hm j) (fun j hj => ?_) (fun i _ j _ e => ?_) (fun j hj => ?_)
  · rw [Finset.mem_filter] at hj ⊢
    refine ⟨Finset.mem_univ _, ?_⟩
    exact hj.2
  · exact Fin.castLE_injective hm e
  · rw [Finset.mem_filter] at hj
    have hjm : j.val < m := by
      by_contra hc
      have := h j k (by omega)
      rcases hj.2 with h' | ⟨h', _⟩
      · exact absurd (h'.trans this) (lt_irrefl _)
      · rw [h'] at this; exact absurd this (lt_irrefl _)
    exact ⟨⟨j.val, hjm⟩, Finset.mem_filter.mpr ⟨Finset.mem_univ _, hj.2⟩, rfl⟩

/-! ## A stable sort -/

variable (s) in
open Classical in
/-- `ahead`, as a comparison. -/
def before (j k : Fin n) : Bool := decide (ahead s j k)

open Classical in
theorem before_total : StrictTotalBefore (before s) where
  irrefl j := decide_eq_false (ahead_irrefl j)
  trans i j k h h' := decide_eq_true (ahead_trans (of_decide_eq_true h) (of_decide_eq_true h'))
  total j k h := (ahead_total (s := s) h).imp decide_eq_true decide_eq_true

theorem insert_eq (b : Fin n → Fin n → Bool) (hb : ∀ j k, b j k = true ↔ s k < s j) (a : Fin n) (l : List (Fin n))
    (h : ∀ k ∈ l, a < k) : insertBefore b a l = insertBefore (before s) a l := by
  induction l with
  | nil => rfl
  | cons k l ih =>
    have e : b k a = before s k a := by
      classical
      rw [Bool.eq_iff_iff, hb]
      unfold before
      rw [decide_eq_true_iff]
      refine ⟨Or.inl, ?_⟩
      rintro (h' | ⟨_, h'⟩)
      · exact h'
      · exact absurd (h k (by simp)) (not_lt.mpr h'.le)
    simp only [insertBefore, e, ih fun k' hk' => h k' (by simp [hk'])]

theorem sort_eq (b : Fin n → Fin n → Bool) (hb : ∀ j k, b j k = true ↔ s k < s j) (l : List (Fin n))
    (h : l.Pairwise (· < ·)) : stableSort b l = stableSort (before s) l := by
  induction l with
  | nil => rfl
  | cons a l ih =>
    rw [List.pairwise_cons] at h
    show insertBefore b a (stableSort b l) = insertBefore (before s) a (stableSort (before s) l)
    rw [ih h.2]
    exact insert_eq b hb a _ fun k hk => h.1 k ((perm_stableSort _ l).mem_iff.mp hk)

/-- A stable sort by the scores alone, the greatest first, puts the places in the order of their ranks. -/
theorem rank_sortedFrom (b : Fin n → Fin n → Bool) (hb : ∀ j k, b j k = true ↔ s k < s j) (i : Fin n) :
    rank s (sortedFrom b i) = i.val := by
  have e : sortedFrom b = sortedFrom (before s) := by
    funext i
    unfold sortedFrom sortPositions
    simp only [List.get_eq_getElem]
    congr 1
    exact sort_eq b hb _ (List.pairwise_lt_finRange n)
  rw [e]
  classical
  have hmono : StrictMono fun i : Fin n => (⟨rank s (sortedFrom (before s) i), rank_lt _⟩ : Fin n) := by
    intro i j hij
    have hp := before_total (s := s) |>.sorted_stableSort (List.finRange n)
    have := List.pairwise_iff_getElem.mp hp i.val j.val (by rw [length_stableSort, List.length_finRange]; exact i.isLt)
      (by rw [length_stableSort, List.length_finRange]; exact j.isLt) hij
    have hne : sortedFrom (before s) i ≠ sortedFrom (before s) j := fun h =>
      absurd (sortedFrom_injective _ h) (ne_of_lt hij)
    rcases ahead_total (s := s) hne with h | h
    · exact rank_lt_of_ahead h
    · exact absurd (decide_eq_true h : before s _ _ = true) (by rw [Bool.not_eq_true]; exact this)
  have hid := (hmono.range_inj strictMono_id).mp (by
    rw [Set.range_eq_univ.mpr (Finite.surjective_of_injective hmono.injective), Set.range_id])
  exact congrArg Fin.val (congrFun hid i)

end Cert.Proof.TopEight
-- ==== Proof.AttnSpec.lean ====
module

public import proofs.«01_k».proof.Proof.AttnMath
public import proofs.«01_k».proof.Proof.TopEight
public import Idealize.ShloMosaic.Lib.WordCmp

/-!
# The selection of blocks, in plain terms

A query at position `t` scores every block of 64 keys: a block it can see by its importance, with a bonus for the first
block, the query's own and the one before; a block it cannot see by `-1`. It reads the blocks with the eight best scores.
-/

@[expose] public section

noncomputable section

namespace Cert.Proof.AttnMath

open Idealize.ShloMosaic

/-- The bonus that brings a block to the top. -/
def large : EReal := Ideal.ofBits .f32 0x447A0000#32

/-- The score of a block out of sight. -/
def unseen : EReal := Ideal.ofBits .f32 0xBF800000#32

theorem large_eq : large = ((1000 : ℝ) : EReal) := by
  unfold large
  rw [Ideal.ofBits]
  simp [Ideal.ieee]
  rw [← EReal.coe_mul]
  norm_num

theorem unseen_eq : unseen = ((-1 : ℝ) : EReal) := by
  unfold unseen
  rw [Ideal.ofBits]
  simp [Ideal.ieee]
  rw [← EReal.coe_mul]
  norm_num

/-- Whether block `j` is read in any case by the query at position `t`. -/
def bonus (t j : ℕ) : EReal := if j = 0 ∨ j = t / 64 ∨ j + 1 = t / 64 then 1 else 0

/-- The score of block `j` of importance `x`. -/
def scoreOf (t j : ℕ) (x : EReal) : EReal := if 64 * j ≤ t then x + large * bonus t j else unseen

theorem bonus_real (t j : ℕ) : ∃ r : ℝ, 0 ≤ r ∧ bonus t j = r := by
  unfold bonus
  split_ifs
  · exact ⟨1, zero_le_one, rfl⟩
  · exact ⟨0, le_refl _, rfl⟩

theorem scoreOf_ge (t j : ℕ) {x : EReal} (hx : ∃ r : ℝ, 0 ≤ r ∧ x = r) : ((-1 : ℝ) : EReal) ≤ scoreOf t j x := by
  obtain ⟨a, ha, rfl⟩ := hx
  obtain ⟨b, hb, e⟩ := bonus_real t j
  unfold scoreOf
  split_ifs
  · rw [e, large_eq, ← EReal.coe_mul, ← EReal.coe_add]
    have : -1 ≤ a + 1000 * b := by linarith
    exact_mod_cast this
  · rw [unseen_eq]

/-! ## Words -/

theorem shift_six (a : ℕ) (ha : a < 4096) :
    IntOp.shrsi ArithUnit.vector (BitVec.ofNat 32 a) 6#32 = BitVec.ofNat 32 (a / 64) := by
  unfold IntOp.shrsi
  rw [if_pos (by decide)]
  have hm : (BitVec.ofNat 32 a).msb = false := by
    rw [BitVec.msb_eq_false_iff_two_mul_lt, BitVec.toNat_ofNat]
    omega
  rw [BitVec.sshiftRight', BitVec.sshiftRight_eq_of_msb_false hm]
  apply BitVec.eq_of_toNat_eq
  rw [BitVec.toNat_ushiftRight, BitVec.toNat_ofNat, BitVec.toNat_ofNat, BitVec.toNat_ofNat, Nat.shiftRight_eq_div_pow]
  norm_num
  omega

theorem before_eq (a j : ℕ) (ha : a < 4096) (hj : j < 4096) :
    IntOp.cmpi .eq (BitVec.ofNat 32 j) (IntOp.subi (BitVec.ofNat 32 a) 1#32) = BitVec.ofBool (decide (j + 1 = a)) := by
  rw [WordCmp.cmpi_eq_eq]
  congr 1
  rw [decide_eq_decide]
  show BitVec.ofNat 32 j = BitVec.ofNat 32 a - 1#32 ↔ _
  rw [BitVec.eq_sub_iff_add_eq, ← BitVec.ofNat_add, WordCmp.ofNat_eq_ofNat_iff (by omega) (by omega)]

theorem forced_eq (t j : ℕ) (ht : t < 4096) (hj : j < 4096) :
    IntOp.ori (IntOp.ori (IntOp.cmpi .eq (BitVec.ofNat 32 j) 0#32) (IntOp.cmpi .eq (BitVec.ofNat 32 j) (BitVec.ofNat 32 (t / 64))))
      (IntOp.cmpi .eq (BitVec.ofNat 32 j) (IntOp.subi (BitVec.ofNat 32 (t / 64)) 1#32)) =
      BitVec.ofBool (decide (j = 0 ∨ j = t / 64 ∨ j + 1 = t / 64)) := by
  rw [before_eq _ _ (by omega) hj, WordCmp.cmpi_eq_ofNat (by omega) (by omega), WordCmp.cmpi_eq_ofNat (by omega) (by omega)]
  rw [WordCmp.ori_ofBool, WordCmp.ori_ofBool]
  congr 1
  simp only [Bool.decide_or, Bool.or_assoc]

theorem signed_bit (p : Prop) [Decidable p] :
    (FloatOps.sitofp .f32 (BitVec.setWidth 32 (BitVec.ofBool (decide p))) : Ideal .f32) = if p then (1 : EReal) else 0 := by
  show (((BitVec.setWidth 32 (BitVec.ofBool (decide p))).toInt : ℝ) : EReal) = _
  by_cases h : p
  · simp [h]
  · simp [h]

theorem unsigned_bit (p : Prop) [Decidable p] :
    (FloatOps.uitofp .f32 (BitVec.ofBool (decide p)) : Ideal .f32) = if p then (1 : EReal) else 0 := by
  show (((BitVec.ofBool (decide p)).toNat : ℝ) : EReal) = _
  by_cases h : p
  · simp [h]
  · simp [h]

end Cert.Proof.AttnMath
-- ==== Proof.AttnRounds.lean ====
module

public import proofs.«01_k».proof.Proof.AttnWeight
public import proofs.«01_k».proof.Proof.AttnSpec

/-!
# The eight rounds

In every round the kernel takes the block with the greatest score, the lowest one among equals, and gives it the score `-3`.
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath Cert.Proof.TopEight

set_option maxRecDepth 16384

variable (B : Blk)

/-- The score of a row behind the blocks. -/
def spare : EReal := Ideal.ofBits .f32 0xC0000000#32

/-- The score of a block that was taken. -/
def taken : EReal := Ideal.ofBits .f32 0xC0400000#32

/-- A number above all places. -/
def beyond : EReal := Ideal.ofBits .f32 0x4E6E6B28#32

theorem spare_eq : spare = ((-2 : ℝ) : EReal) := by
  unfold spare
  rw [Ideal.ofBits]
  simp [Ideal.ieee]
  rw [← EReal.coe_mul]
  norm_num

theorem taken_eq : taken = ((-3 : ℝ) : EReal) := by
  unfold taken
  rw [Ideal.ofBits]
  simp [Ideal.ieee]
  rw [← EReal.coe_mul]
  norm_num

theorem beyond_eq : beyond = ((1000000000 : ℝ) : EReal) := by
  unfold beyond
  rw [Ideal.ofBits]
  simp [Ideal.ieee]
  rw [← EReal.coe_pow, ← EReal.coe_mul]
  norm_num

theorem top_32 : Ideal.ofBits .f32 0x7F800000#32 = ⊤ := by simp [Ideal.ofBits, Ideal.ieee]

/-- The score of row `j` for group `g` of query `r`. -/
def blockScore (g : Fin 2) (r j : Fin 128) : EReal :=
  if j.val < 64 then scoreOf (128 * (B.i 1).val + r.val) j.val (imp B g r j) else spare

theorem score_gt (g : Fin 2) (r j : Fin 128) : taken < blockScore B g r j := by
  unfold blockScore
  rw [taken_eq]
  split_ifs
  · refine lt_of_lt_of_le ?_ (scoreOf_ge _ _ (imp_real B g r j))
    have : (-3 : ℝ) < -1 := by norm_num
    exact_mod_cast this
  · rw [spare_eq]
    have : (-3 : ℝ) < -2 := by norm_num
    exact_mod_cast this

theorem beyond_ge : (((128 : ℕ) : ℝ) : EReal) ≤ beyond := by
  rw [beyond_eq]
  have : ((128 : ℕ) : ℝ) ≤ 1000000000 := by norm_num
  exact_mod_cast this

theorem words (j : Fin 128) : IntOp.muli (BitVec.ofNat 32 j.val) 64#32 = BitVec.ofNat 32 (64 * j.val) := by
  rw [mul_comm]
  exact (BitVec.ofNat_mul _ _).symm

theorem score_at (g : Fin 2) (r j : Fin 128) : (sl.v218 B.c B.i B.arg2 B.harg2 B.arg6 B.harg6 B.arg8 B.harg8 B.arg12 B.harg12 B.arg13 B.harg13 B.x0 B.x4 B.x6 B.x10 B.x11) (ix2 j ⟨128 * g.val + r.val, by omega⟩) = blockScore B g r j := by
  have hi := block_lt B
  pointwise [sl.v190, sl.v191, sl.v192, sl.v193, sl.v194, sl.v196, sl.v197, sl.v198, sl.v200, sl.v201, sl.v202, sl.v203, sl.v204, sl.v205, sl.v206, sl.v207, sl.v208, sl.v209, sl.v210, sl.v211, sl.v212, sl.v213, sl.v214, sl.v217, sl.v218, sl.v151, sl.v152, sl.v154, sl.v155, sl.v0, sl.cst_70, sl.cst_71, sl.cst_73]
  have e : (128 * g.val + r.val) % 128 = r.val := by omega
  rw [position B _ (by omega), e, shift_six _ (by omega), forced_eq _ _ (by omega) (by omega), signed_bit, words,
    WordCmp.cmpi_sle_ofNat (by omega) (by omega), WordCmp.cmpi_slt_ofNat (by omega) (by omega), choose_ite, choose_ite,
    imp_at]
  rfl

theorem place_at (R : Fin 256) (j : Fin 128) : (sl.v219 (F := Ideal)) (ix2 j R) = ((j.val : ℝ) : EReal) := by
  pointwise [sl.v219, sl.v191]
  show (((BitVec.ofNat 32 j.val).toInt : ℝ) : EReal) = _
  rw [WordCmp.toInt_ofNat_of_lt (by omega)]
  rfl

theorem beyond_at (R : Fin 256) (j : Fin 128) : (sl.v225 (F := Ideal)) (ix2 j R) = beyond := by
  pointwise [sl.v225, sl.cst_76, beyond]

theorem taken_at (R : Fin 256) (j : Fin 128) : (sl.v233 (F := Ideal)) (ix2 j R) = taken := by
  pointwise [sl.v233, sl.cst_79, taken]

theorem zero_at (R : Fin 256) (j : Fin 128) : (sl.v231 (F := Ideal)) (ix2 j R) = 0 := by
  pointwise [sl.v231, sl.cst_55]

theorem one_at (R : Fin 256) (j : Fin 128) : (sl.v220 (F := Ideal)) (ix2 j R) = 1 := by
  pointwise [sl.v220, sl.cst_54]

theorem open_score_1 (R : Fin 256) (j : Fin 128) : (sl.v234 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v218 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v218 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v218 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v221, sl.v222, sl.v223, sl.v224, sl.v225, sl.v226, sl.v227, sl.v228, sl.v229, sl.v230, sl.v234]

theorem open_rest_1 (R : Fin 256) (j : Fin 128) : (sl.v232 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v218 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v218 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v220 (F := Ideal)) (ix2 j R) := by
  rw [← low_32, ← top_32]
  pointwise [sl.v221, sl.v222, sl.v223, sl.v224, sl.v225, sl.v226, sl.v227, sl.v228, sl.v229, sl.v230, sl.v232]

theorem open_score_2 (R : Fin 256) (j : Fin 128) : (sl.v248 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v234 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v234 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v234 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v235, sl.v236, sl.v237, sl.v238, sl.v240, sl.v241, sl.v242, sl.v243, sl.v244, sl.v244, sl.v248]

theorem open_rest_2 (R : Fin 256) (j : Fin 128) : (sl.v246 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v234 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v234 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v232 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v235, sl.v236, sl.v237, sl.v238, sl.v240, sl.v241, sl.v242, sl.v243, sl.v244, sl.v244, sl.v246]

theorem open_score_3 (R : Fin 256) (j : Fin 128) : (sl.v262 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v248 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v248 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v248 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v249, sl.v250, sl.v251, sl.v252, sl.v254, sl.v255, sl.v256, sl.v257, sl.v258, sl.v258, sl.v262]

theorem open_rest_3 (R : Fin 256) (j : Fin 128) : (sl.v260 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v248 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v248 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v246 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v249, sl.v250, sl.v251, sl.v252, sl.v254, sl.v255, sl.v256, sl.v257, sl.v258, sl.v258, sl.v260]

theorem open_score_4 (R : Fin 256) (j : Fin 128) : (sl.v276 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v262 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v262 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v262 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v263, sl.v264, sl.v265, sl.v266, sl.v268, sl.v269, sl.v270, sl.v271, sl.v272, sl.v272, sl.v276]

theorem open_rest_4 (R : Fin 256) (j : Fin 128) : (sl.v274 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v262 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v262 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v260 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v263, sl.v264, sl.v265, sl.v266, sl.v268, sl.v269, sl.v270, sl.v271, sl.v272, sl.v272, sl.v274]

theorem open_score_5 (R : Fin 256) (j : Fin 128) : (sl.v290 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v276 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v276 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v276 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v277, sl.v278, sl.v279, sl.v280, sl.v282, sl.v283, sl.v284, sl.v285, sl.v286, sl.v286, sl.v290]

theorem open_rest_5 (R : Fin 256) (j : Fin 128) : (sl.v288 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v276 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v276 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v274 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v277, sl.v278, sl.v279, sl.v280, sl.v282, sl.v283, sl.v284, sl.v285, sl.v286, sl.v286, sl.v288]

theorem open_score_6 (R : Fin 256) (j : Fin 128) : (sl.v304 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v290 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v290 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v290 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v291, sl.v292, sl.v293, sl.v294, sl.v296, sl.v297, sl.v298, sl.v299, sl.v300, sl.v300, sl.v304]

theorem open_rest_6 (R : Fin 256) (j : Fin 128) : (sl.v302 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v290 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v290 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v288 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v291, sl.v292, sl.v293, sl.v294, sl.v296, sl.v297, sl.v298, sl.v299, sl.v300, sl.v300, sl.v302]

theorem open_score_7 (R : Fin 256) (j : Fin 128) : (sl.v318 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v304 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v304 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v233 (F := Ideal)) (ix2 j R) else (sl.v304 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v305, sl.v306, sl.v307, sl.v308, sl.v310, sl.v311, sl.v312, sl.v313, sl.v314, sl.v314, sl.v318]

theorem open_rest_7 (R : Fin 256) (j : Fin 128) : (sl.v316 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v304 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v304 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v302 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v305, sl.v306, sl.v307, sl.v308, sl.v310, sl.v311, sl.v312, sl.v313, sl.v314, sl.v314, sl.v316]

theorem open_rest_8 (R : Fin 256) (j : Fin 128) : (sl.v330 B.c B.i B.arg2 B.harg2 B.arg6 B.harg6 B.arg8 B.harg8 B.arg12 B.harg12 B.arg13 B.harg13 B.x0 B.x4 B.x6 B.x10 B.x11) (ix2 j R) =
    if (sl.v219 (F := Ideal)) (ix2 j R) = Finset.univ.fold min ⊤ (fun k : Fin 128 =>
      if (sl.v318 B.c B.i B.arg2 B.harg2 B.arg6 B.harg6 B.arg8 B.harg8 B.arg12 B.harg12 B.arg13 B.harg13 B.x0 B.x4 B.x6 B.x10 B.x11) (ix2 k R) = Finset.univ.fold max ⊥ (fun k : Fin 128 => (sl.v318 B.c B.i B.arg2 B.harg2 B.arg6 B.harg6 B.arg8 B.harg8 B.arg12 B.harg12 B.arg13 B.harg13 B.x0 B.x4 B.x6 B.x10 B.x11) (ix2 k R)) then
        (sl.v219 (F := Ideal)) (ix2 k R) else (sl.v225 (F := Ideal)) (ix2 k R)) then (sl.v231 (F := Ideal)) (ix2 j R) else (sl.v316 B.c B.i B.arg2 B.harg2 B.arg6 B.harg6 B.arg8 B.harg8 B.arg12 B.harg12 B.arg13 B.harg13 B.x0 B.x4 B.x6 B.x10 B.x11) (ix2 j R) := by
  rw [← low_32, ← top_32]
  pointwise [sl.v319, sl.v320, sl.v321, sl.v322, sl.v324, sl.v325, sl.v326, sl.v327, sl.v328, sl.v328, sl.v330]

theorem rest_0 (g : Fin 2) (r j : Fin 128) : (sl.v220 (F := Ideal)) (ix2 j ⟨128 * g.val + r.val, by omega⟩) =
    if rank (blockScore B g r) j < 0 then 0 else 1 := by
  rw [one_at, if_neg (Nat.not_lt_zero _)]

theorem score_0 (g : Fin 2) (r j : Fin 128) : (sl.v218 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 0 j := by
  rw [score_at, left, if_neg (Nat.not_lt_zero _)]

theorem score_1 (g : Fin 2) (r j : Fin 128) : (sl.v234 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 1 j := by
  rw [open_score_1]
  simp only [score_0 B, place_at, beyond_at, taken_at]
  exact left_succ (score_gt B g r) beyond_ge (show 0 < 128 by omega) j

theorem rest_1 (g : Fin 2) (r j : Fin 128) : (sl.v232 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 1 then 0 else 1 := by
  rw [open_rest_1]
  simp only [score_0 B, rest_0 B, place_at, beyond_at, zero_at]
  exact hit_succ (score_gt B g r) beyond_ge (show 0 < 128 by omega) j

theorem score_2 (g : Fin 2) (r j : Fin 128) : (sl.v248 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 2 j := by
  rw [open_score_2]
  simp only [score_1 B, place_at, beyond_at, taken_at]
  exact left_succ (score_gt B g r) beyond_ge (show 1 < 128 by omega) j

theorem rest_2 (g : Fin 2) (r j : Fin 128) : (sl.v246 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 2 then 0 else 1 := by
  rw [open_rest_2]
  simp only [score_1 B, rest_1 B, place_at, beyond_at, zero_at]
  exact hit_succ (score_gt B g r) beyond_ge (show 1 < 128 by omega) j

theorem score_3 (g : Fin 2) (r j : Fin 128) : (sl.v262 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 3 j := by
  rw [open_score_3]
  simp only [score_2 B, place_at, beyond_at, taken_at]
  exact left_succ (score_gt B g r) beyond_ge (show 2 < 128 by omega) j

theorem rest_3 (g : Fin 2) (r j : Fin 128) : (sl.v260 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 3 then 0 else 1 := by
  rw [open_rest_3]
  simp only [score_2 B, rest_2 B, place_at, beyond_at, zero_at]
  exact hit_succ (score_gt B g r) beyond_ge (show 2 < 128 by omega) j

theorem score_4 (g : Fin 2) (r j : Fin 128) : (sl.v276 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 4 j := by
  rw [open_score_4]
  simp only [score_3 B, place_at, beyond_at, taken_at]
  exact left_succ (score_gt B g r) beyond_ge (show 3 < 128 by omega) j

theorem rest_4 (g : Fin 2) (r j : Fin 128) : (sl.v274 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 4 then 0 else 1 := by
  rw [open_rest_4]
  simp only [score_3 B, rest_3 B, place_at, beyond_at, zero_at]
  exact hit_succ (score_gt B g r) beyond_ge (show 3 < 128 by omega) j

theorem score_5 (g : Fin 2) (r j : Fin 128) : (sl.v290 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 5 j := by
  rw [open_score_5]
  simp only [score_4 B, place_at, beyond_at, taken_at]
  exact left_succ (score_gt B g r) beyond_ge (show 4 < 128 by omega) j

theorem rest_5 (g : Fin 2) (r j : Fin 128) : (sl.v288 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 5 then 0 else 1 := by
  rw [open_rest_5]
  simp only [score_4 B, rest_4 B, place_at, beyond_at, zero_at]
  exact hit_succ (score_gt B g r) beyond_ge (show 4 < 128 by omega) j

theorem score_6 (g : Fin 2) (r j : Fin 128) : (sl.v304 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 6 j := by
  rw [open_score_6]
  simp only [score_5 B, place_at, beyond_at, taken_at]
  exact left_succ (score_gt B g r) beyond_ge (show 5 < 128 by omega) j

theorem rest_6 (g : Fin 2) (r j : Fin 128) : (sl.v302 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 6 then 0 else 1 := by
  rw [open_rest_6]
  simp only [score_5 B, rest_5 B, place_at, beyond_at, zero_at]
  exact hit_succ (score_gt B g r) beyond_ge (show 5 < 128 by omega) j

theorem score_7 (g : Fin 2) (r j : Fin 128) : (sl.v318 B.c B.i B.arg2 B.harg2 B.arg6 B.harg6 B.arg8 B.harg8 B.arg12 B.harg12 B.arg13 B.harg13 B.x0 B.x4 B.x6 B.x10 B.x11) (ix2 j ⟨128 * g.val + r.val, by omega⟩) =
    left (blockScore B g r) taken 7 j := by
  rw [open_score_7]
  simp only [score_6 B, place_at, beyond_at, taken_at]
  exact left_succ (score_gt B g r) beyond_ge (show 6 < 128 by omega) j

theorem rest_7 (g : Fin 2) (r j : Fin 128) : (sl.v316 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 7 then 0 else 1 := by
  rw [open_rest_7]
  simp only [score_6 B, rest_6 B, place_at, beyond_at, zero_at]
  exact hit_succ (score_gt B g r) beyond_ge (show 6 < 128 by omega) j

theorem rest_8 (g : Fin 2) (r j : Fin 128) : (sl.v330 B.c B.i B.arg2 B.harg2 B.arg6 B.harg6 B.arg8 B.harg8 B.arg12 B.harg12 B.arg13 B.harg13 B.x0 B.x4 B.x6 B.x10 B.x11) (ix2 j ⟨128 * g.val + r.val, by omega⟩) =
    if rank (blockScore B g r) j < 8 then 0 else 1 := by
  rw [open_rest_8]
  simp only [score_7 B, rest_7 B, place_at, beyond_at, zero_at]
  exact hit_succ (score_gt B g r) beyond_ge (show 7 < 128 by omega) j

end Cert.Proof.AttnKernel
-- ==== Proof.AttnLhs.lean ====
module

public import proofs.«01_k».proof.Proof.AttnRounds

/-!
# The queries with the blocks they have not chosen

In the half of the lanes that a head's product leaves free stands, for each block of keys, one where the block is not chosen.
A key holds `-∞` in the lane of its own block there, so that one product gives the scores and hides the other blocks.
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath Cert.Proof.TopEight

set_option maxRecDepth 16384

variable (B : Blk)

/-- Whether block `j` is left out for group `g` of query `r`. -/
def unsel (g : Fin 2) (r j : Fin 128) : EReal := if rank (blockScore B g r) j < 8 then 0 else 1

theorem bits_low (r l : Fin 128) (h : 64 ≤ l.val) : (sl.v336 B.c B.i B.arg2 B.harg2 B.arg6 B.harg6 B.arg8 B.harg8 B.arg12 B.harg12 B.arg13 B.harg13 B.x0 B.x4 B.x6 B.x10 B.x11) (ix2 r l) = unsel B 0 r ⟨l.val % 64, by omega⟩ := by
  have e : (sl.v336 B.c B.i B.arg2 B.harg2 B.arg6 B.harg6 B.arg8 B.harg8 B.arg12 B.harg12 B.arg13 B.harg13 B.x0 B.x4 B.x6 B.x10 B.x11) (ix2 r l) = (sl.v330 B.c B.i B.arg2 B.harg2 B.arg6 B.harg6 B.arg8 B.harg8 B.arg12 B.harg12 B.arg13 B.harg13 B.x0 B.x4 B.x6 B.x10 B.x11) (ix2 ⟨(l.val + 128 - 64) % 128, by omega⟩ ⟨r.val, by omega⟩) := by
    pointwise [sl.v331, sl.v332, sl.v334, sl.v335, sl.v336]
  have h1 : (⟨r.val, by omega⟩ : Fin 256) = ⟨128 * (0 : Fin 2).val + r.val, by have : (0 : Fin 2).val = 0 := rfl; omega⟩ := Fin.ext (by have : (0 : Fin 2).val = 0 := rfl; simp only []; omega)
  have h2 : (⟨(l.val + 128 - 64) % 128, by omega⟩ : Fin 128) = ⟨l.val % 64, by omega⟩ := Fin.ext (by simp only []; omega)
  rw [e, h1, h2, rest_8]
  rfl

theorem bits_high (r l : Fin 128) (h : l.val < 64) : (sl.v338 B.c B.i B.arg2 B.harg2 B.arg6 B.harg6 B.arg8 B.harg8 B.arg12 B.harg12 B.arg13 B.harg13 B.x0 B.x4 B.x6 B.x10 B.x11) (ix2 r l) = unsel B 1 r ⟨l.val % 64, by omega⟩ := by
  have e : (sl.v338 B.c B.i B.arg2 B.harg2 B.arg6 B.harg6 B.arg8 B.harg8 B.arg12 B.harg12 B.arg13 B.harg13 B.x0 B.x4 B.x6 B.x10 B.x11) (ix2 r l) = (sl.v330 B.c B.i B.arg2 B.harg2 B.arg6 B.harg6 B.arg8 B.harg8 B.arg12 B.harg12 B.arg13 B.harg13 B.x0 B.x4 B.x6 B.x10 B.x11) (ix2 l ⟨128 + r.val, by omega⟩) := by
    pointwise [sl.v331, sl.v332, sl.v334, sl.v335, sl.v336, sl.v337, sl.v338]
  have h1 : (⟨128 + r.val, by omega⟩ : Fin 256) = ⟨128 * (1 : Fin 2).val + r.val, by have : (1 : Fin 2).val = 1 := rfl; omega⟩ := Fin.ext (by have : (1 : Fin 2).val = 1 := rfl; simp only []; omega)
  have h2 : l = ⟨l.val % 64, by omega⟩ := Fin.ext (by simp only []; omega)
  rw [e, h1, rest_8, ← h2]
  rfl

theorem four (x : FVec Ideal S128x128 .bf16) (hx) (k : Fin 4) (r l : Fin 128) :
    concatenate S512x128 0 [⟨S128x128, x⟩, ⟨S128x128, x⟩, ⟨S128x128, x⟩, ⟨S128x128, x⟩] hx
      (ix2 ⟨128 * k.val + r.val, by omega⟩ l) = x (ix2 r l) := by
  match k with
  | ⟨0, _⟩ => simp only [Nat.mul_zero, Nat.zero_add]; pointwise []
  | ⟨1, _⟩ => simp only [Nat.mul_one]; pointwise []
  | ⟨2, _⟩ =>
    simp only [Nat.reduceMul]
    pointwise []
    refine (dif_neg (by omega)).trans ?_
    refine (dif_neg (by omega)).trans ?_
    refine (dif_pos (by omega)).trans ?_
    exact congrArg x (congrArg (fun R => ix2 R l) (Fin.ext (by simp only []; omega)))
  | ⟨3, _⟩ =>
    simp only [Nat.reduceMul]
    pointwise []
    refine (dif_neg (by omega)).trans ?_
    refine (dif_neg (by omega)).trans ?_
    refine (dif_neg (by omega)).trans ?_
    exact congrArg x (congrArg (fun R => ix2 R l) (Fin.ext (by simp only []; omega)))

theorem choose_low (x : FVec Ideal S1024x128 .bf16) (y : FVec Ideal S512x128 .bf16) (hx) (R : Fin 512) (l : Fin 128) :
    select (cmpi CmpIPredicate.slt sl.v332 sl.v339) (extractStridedSlice S512x128 ![0, 0] x hx) y (ix2 R l) =
      if l.val < 64 then x (ix2 ⟨R.val, by omega⟩ l) else y (ix2 R l) := by
  pointwise [sl.v332, sl.v339]
  exact below_64 l _ _

theorem choose_high (x : FVec Ideal S1024x128 .bf16) (y : FVec Ideal S512x128 .bf16) (hx) (R : Fin 512) (l : Fin 128) :
    select (cmpi CmpIPredicate.sge sl.v332 sl.v339) (extractStridedSlice S512x128 ![512, 0] x hx) y (ix2 R l) =
      if 64 ≤ l.val then x (ix2 ⟨512 + R.val, by omega⟩ l) else y (ix2 R l) := by
  pointwise [sl.v332, sl.v339]
  exact from_64 l _ _

theorem free_low (k : Fin 4) (r l : Fin 128) : (sl.v343 B.c B.i B.arg2 B.harg2 B.arg6 B.harg6 B.arg8 B.harg8 B.arg12 B.harg12 B.arg13 B.harg13 B.x0 B.x4 B.x6 B.x10 B.x11) (ix2 ⟨128 * k.val + r.val, by omega⟩ l) =
    if l.val < 64 then (sl.r_10 B.c B.arg2 B.harg2 B.x0) (ix2 ⟨128 * k.val + r.val, by omega⟩ l) else unsel B 0 r ⟨l.val % 64, by omega⟩ := by
  rw [sl.v343, sl.v341, choose_low]
  by_cases h : l.val < 64
  · rw [if_pos h, if_pos h]
  · rw [if_neg h, if_neg h, sl.v342, four, bits_low B r l (by omega)]

theorem free_high (k : Fin 4) (r l : Fin 128) : (sl.v348 B.c B.i B.arg2 B.harg2 B.arg6 B.harg6 B.arg8 B.harg8 B.arg12 B.harg12 B.arg13 B.harg13 B.x0 B.x4 B.x6 B.x10 B.x11) (ix2 ⟨128 * k.val + r.val, by omega⟩ l) =
    if 64 ≤ l.val then (sl.r_10 B.c B.arg2 B.harg2 B.x0) (ix2 ⟨512 + (128 * k.val + r.val), by omega⟩ l) else unsel B 1 r ⟨l.val % 64, by omega⟩ := by
  rw [sl.v348, sl.v346, choose_high]
  by_cases h : 64 ≤ l.val
  · rw [if_pos h, if_pos h]
  · rw [if_neg h, if_neg h, sl.v347, four, bits_high B r l (by omega)]

theorem lane_one (k : Fin 4) (r l : Fin 128) :
    (sl.v349 B.c B.arg12 B.harg12 B.x10) (ix2 ⟨128 * k.val + r.val, by omega⟩ l) = if l.val = r.val then 1 else 0 := by
  have e : (sl.r_11 B.c B.arg12 B.harg12 B.x10) = B.x10 := by
    funext j
    idx_vars j
    rw [sl.r_11, own_eq]
    pointwise [k0_pay28]
  have e' : (sl.v349 B.c B.arg12 B.harg12 B.x10) (ix2 ⟨128 * k.val + r.val, by omega⟩ l) = (sl.r_11 B.c B.arg12 B.harg12 B.x10) (ix2 ⟨128 * k.val + r.val, by omega⟩ l) := by
    rw [sl.v349]
    pointwise []
  rw [e', e, B.own]
  simp only []
  rw [show (128 * k.val + r.val) % 128 = r.val from by omega]

/-- The heads of the first group. -/
def head0 (k : Fin 4) : Fin 8 := ⟨k.val, by omega⟩

/-- The heads of the second group. -/
def head1 (k : Fin 4) : Fin 8 := ⟨4 + k.val, by omega⟩

/-- A head's group. -/
def group (h : Fin 8) : Fin 2 := ⟨h.val / 4, by omega⟩

/-- One row of the left factor: the query of a head, the blocks left out, and a one in the query's own lane. -/
def lhs (h : Fin 8) (r : Fin 128) (l : Fin 256) : EReal :=
  if hl : l.val < 128 then
    if l.val / 64 = h.val / 4 then (sl.r_10 B.c B.arg2 B.harg2 B.x0) (ix2 ⟨128 * h.val + r.val, by omega⟩ ⟨l.val, hl⟩)
    else unsel B (group h) r ⟨l.val % 64, by omega⟩
  else if l.val - 128 = r.val then 1 else 0

theorem pair_first (x y : FVec Ideal S512x128 .bf16) (R : Fin 512) (l : Fin 128) :
    concatenate S512x256 1 [⟨S512x128, x⟩, ⟨S512x128, y⟩] concatenates_S512x128_S512x128_S512x256_d1
      (ix2 R ⟨l.val, by omega⟩) = x (ix2 R l) := by
  pointwise []

theorem pair_second (x y : FVec Ideal S512x128 .bf16) (R : Fin 512) (l : Fin 128) :
    concatenate S512x256 1 [⟨S512x128, x⟩, ⟨S512x128, y⟩] concatenates_S512x128_S512x128_S512x256_d1
      (ix2 R ⟨128 + l.val, by omega⟩) = y (ix2 R l) := by
  pointwise []

theorem pair_cases (x y : FVec Ideal S512x128 .bf16) (R : Fin 512) (l : Fin 256) :
    concatenate S512x256 1 [⟨S512x128, x⟩, ⟨S512x128, y⟩] concatenates_S512x128_S512x128_S512x256_d1 (ix2 R l) =
      if hl : l.val < 128 then x (ix2 R ⟨l.val, hl⟩) else y (ix2 R ⟨l.val - 128, by omega⟩) := by
  by_cases hl : l.val < 128
  · rw [dif_pos hl]
    exact pair_first x y R ⟨l.val, hl⟩
  · rw [dif_neg hl, ← pair_second x y R ⟨l.val - 128, by omega⟩]
    exact congrArg _ (congrArg (fun m => ix2 R m) (Fin.ext (by simp only []; omega)))

theorem lhs_low (k : Fin 4) (r : Fin 128) (l : Fin 256) :
    (sl.v350 B.c B.i B.arg2 B.harg2 B.arg6 B.harg6 B.arg8 B.harg8 B.arg12 B.harg12 B.arg13 B.harg13 B.x0 B.x4 B.x6 B.x10 B.x11) (ix2 ⟨128 * k.val + r.val, by omega⟩ l) = lhs B (head0 k) r l := by
  rw [sl.v350, pair_cases, lhs]
  by_cases hl : l.val < 128
  · rw [dif_pos hl, dif_pos hl, free_low]
    have hk : (head0 k).val / 4 = 0 := by simp only [head0]; omega
    have hg : group (head0 k) = 0 := Fin.ext hk
    simp only [hk, hg]
    by_cases h : l.val < 64
    · rw [if_pos h, if_pos (by omega)]
      rfl
    · rw [if_neg h, if_neg (by omega)]
  · rw [dif_neg hl, dif_neg hl, lane_one]

theorem lhs_high (k : Fin 4) (r : Fin 128) (l : Fin 256) :
    (sl.r_20 B.c B.i B.arg2 B.harg2 B.arg6 B.harg6 B.arg8 B.harg8 B.arg12 B.harg12 B.arg13 B.harg13 B.x0 B.x4 B.x6 B.x10 B.x11) (ix2 ⟨128 * k.val + r.val, by omega⟩ l) = lhs B (head1 k) r l := by
  rw [sl.r_20, k0_pay66, pair_cases, lhs]
  by_cases hl : l.val < 128
  · rw [dif_pos hl, dif_pos hl, free_high]
    have hk : (head1 k).val / 4 = 1 := by simp only [head1]; omega
    have hg : group (head1 k) = 1 := Fin.ext hk
    simp only [hk, hg]
    by_cases h : 64 ≤ l.val
    · rw [if_pos h, if_pos (by omega)]
      refine congrArg _ ?_
      unfold head1
      idx_ext
    · rw [if_neg h, if_neg (by omega)]
  · rw [dif_neg hl, dif_neg hl, lane_one]

/-- Half of the lanes give the product of the query and the key, the other half hides the key if its block is left out. -/
theorem chosen_sum (h : Fin 8) (r : Fin 128) (b : Fin 64) (K : Fin 128 → EReal) :
    (∑ l : Fin 128, (if l.val / 64 = h.val / 4 then (sl.r_10 B.c B.arg2 B.harg2 B.x0) (ix2 ⟨128 * h.val + r.val, by omega⟩ l)
        else unsel B (group h) r ⟨l.val % 64, by omega⟩) *
      (if l.val / 64 = h.val / 4 then K l else (if b.val = l.val % 64 then 1 else 0) * ⊥)) =
    (c : EReal) * dotq B h r K + unsel B (group h) r ⟨b.val, by omega⟩ * ⊥ := by
  rw [← dot_q2]
  have hs : ∀ l : Fin 128, (if l.val / 64 = h.val / 4 then (sl.r_10 B.c B.arg2 B.harg2 B.x0) (ix2 ⟨128 * h.val + r.val, by omega⟩ l)
        else unsel B (group h) r ⟨l.val % 64, by omega⟩) *
      (if l.val / 64 = h.val / 4 then K l else (if b.val = l.val % 64 then 1 else 0) * ⊥) =
      (sl.r_10 B.c B.arg2 B.harg2 B.x0) (ix2 ⟨128 * h.val + r.val, by omega⟩ l) * K l +
        if l.val / 64 = h.val / 4 then 0 else unsel B (group h) r ⟨l.val % 64, by omega⟩ *
          ((if b.val = l.val % 64 then 1 else 0) * ⊥) := by
    intro l
    by_cases hl : l.val / 64 = h.val / 4
    · rw [if_pos hl, if_pos hl, if_pos hl, add_zero]
    · rw [if_neg hl, if_neg hl, if_neg hl, q2_at, half, if_neg hl, zero_mul, zero_add]
  rw [Finset.sum_congr rfl fun l _ => hs l, Finset.sum_add_distrib]
  congr 1
  rw [Finset.sum_eq_single (⟨64 * (1 - h.val / 4) + b.val, by omega⟩ : Fin 128)]
  · rw [if_neg (by simp only []; omega), if_pos (by simp only []; omega), one_mul]
    refine congrArg (fun j => unsel B (group h) r j * ⊥) (Fin.ext ?_)
    simp only []
    omega
  · intro l _ hl
    by_cases hl' : l.val / 64 = h.val / 4
    · rw [if_pos hl']
    · rw [if_neg hl', if_neg, zero_mul, mul_zero]
      intro e
      exact hl (Fin.ext (by simp only []; omega))
  · intro hn; exact absurd (Finset.mem_univ _) hn

/-- One key of the right factor. -/
theorem chunk_score (h : Fin 8) (r : Fin 128) (b : Fin 64) (K T : Fin 128 → EReal) (k : Fin 256 → EReal)
    (hK : ∀ l : Fin 128, k ⟨l.val, by omega⟩ =
      if l.val / 64 = h.val / 4 then K l else (if b.val = l.val % 64 then 1 else 0) * ⊥)
    (hT : ∀ l : Fin 128, k ⟨128 + l.val, by omega⟩ = T l * ⊥) :
    ∑ l : Fin 256, lhs B h r l * k l =
      (c : EReal) * dotq B h r K + unsel B (group h) r ⟨b.val, by omega⟩ * ⊥ + T r * ⊥ := by
  rw [sum_256]
  congr 1
  · rw [← chosen_sum]
    refine Finset.sum_congr rfl fun l _ => ?_
    rw [hK, lhs, dif_pos (show l.val < 128 from l.isLt)]
  · rw [Finset.sum_eq_single r]
    · rw [hT, lhs, dif_neg (by simp only []; omega), if_pos (by simp only []; omega), one_mul]
    · intro l _ hl
      rw [lhs, dif_neg (by simp only []; omega), if_neg, zero_mul]
      intro e
      exact hl (Fin.ext (by simp only [] at e; omega))
    · intro hn; exact absurd (Finset.mem_univ _) hn

end Cert.Proof.AttnKernel
-- ==== Proof.AttnOnline.lean ====
module

public import proofs.«01_k».proof.Proof.AttnMath

/-!
# A softmax over keys that come in chunks

`top s n` is the greatest of the first `n` scores, `total s v n` the values of the first `n` keys added with their weights.
Each chunk of keys updates both.
-/

@[expose] public section

noncomputable section

namespace Cert.Proof.AttnMath

open Idealize.ShloMosaic

/-- The greatest of the first `n` scores. -/
def top (s : ℕ → EReal) (n : ℕ) : EReal := Finset.univ.sup fun p : Fin n => s p.val

/-- The first `n` values, added with their weights. -/
def total (s v : ℕ → EReal) (n : ℕ) : EReal := ∑ p : Fin n, Ideal.exp2 (s p.val - top s n) * v p.val

theorem top_zero (s : ℕ → EReal) : top s 0 = ⊥ := by
  rw [top, Finset.univ_eq_empty, Finset.sup_empty]

theorem total_zero (s v : ℕ → EReal) : total s v 0 = 0 := by
  rw [total, Finset.univ_eq_empty, Finset.sum_empty]

theorem le_top (s : ℕ → EReal) {n p : ℕ} (h : p < n) : s p ≤ top s n :=
  Finset.le_sup (f := fun p : Fin n => s p.val) (Finset.mem_univ ⟨p, h⟩)

theorem top_add (s : ℕ → EReal) (n m : ℕ) :
    top s (n + m) = max (top s n) (Finset.univ.sup fun k : Fin m => s (n + k.val)) := by
  apply le_antisymm
  · refine Finset.sup_le fun p _ => ?_
    by_cases h : p.val < n
    · exact le_max_of_le_left (le_top s h)
    · refine le_max_of_le_right ?_
      have e : p.val = n + (p.val - n) := by omega
      rw [e]
      exact Finset.le_sup (f := fun k : Fin m => s (n + k.val)) (Finset.mem_univ ⟨p.val - n, by omega⟩)
  · refine max_le (Finset.sup_le fun p _ => le_top s (by omega)) (Finset.sup_le fun k _ => le_top s (by omega))

theorem total_add (s v : ℕ → EReal) (n m : ℕ) :
    total s v (n + m) = Ideal.exp2 (top s n - top s (n + m)) * total s v n +
      ∑ k : Fin m, Ideal.exp2 (s (n + k.val) - top s (n + m)) * v (n + k.val) := by
  rw [total, Fin.sum_univ_add]
  congr 1
  have hle : top s n ≤ top s (n + m) := by rw [top_add]; exact le_max_left _ _
  obtain ⟨a, ha, ea⟩ := exp2_real _ (sub_le_zero hle)
  rw [total, ea, real_mul_sum _ _ ha]
  refine Finset.sum_congr rfl fun p _ => ?_
  rw [← mul_assoc, ← ea, exp2_step (le_top s p.isLt) hle]
  rfl

/-- The totals, of the values and of ones, give the attention. -/
theorem online (s v : ℕ → EReal) (n : ℕ) :
    total s v n * Ideal.div 1 (max (total s (fun _ => 1) n) tiny) =
      att2 (fun p : Fin n => s p.val) fun p => v p.val := by
  rw [att2, inv2]
  simp only [total, mul_one]
  rfl

end Cert.Proof.AttnMath
-- ==== Proof.AttnLoop.lean ====
module

public import proofs.«01_k».proof.Proof.AttnLhs
public import proofs.«01_k».proof.Proof.AttnOnline

/-!
# The attention over the chosen blocks

The keys come in chunks of 512, with a running maximum and running totals. Each trip of the loop computes the scores of the
next chunk and adds up the one before.
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath Cert.Proof.TopEight

set_option maxRecDepth 16384

variable (B : Blk)

/-! ## The scores of a chunk -/

/-- The score of the key at position `p`: hidden if its block is not chosen or if it lies behind the query. -/
def ss (h : Fin 8) (r : Fin 128) (p : Fin 4096) : EReal :=
  if rank (blockScore B (group h) r) ⟨p.val / 64, by omega⟩ < 8 ∧ p.val ≤ 128 * (B.i 1).val + r.val then
    dotq B h r (fun l => B.x2 (ix2 p ⟨l.val, by omega⟩)) else ⊥

/-- The scaled score of the key at position `p`. -/
def sN (h : Fin 8) (r : Fin 128) (p : ℕ) : EReal := if hp : p < 4096 then (c : EReal) * ss B h r ⟨p, hp⟩ else ⊥

/-- The value of the key at position `p`, with ones in the other half of the lanes. -/
def vN (g : ℕ) (l : Fin 128) (p : ℕ) : EReal :=
  if hp : p < 4096 then ones g l (B.x2 (ix2 ⟨p, hp⟩ ⟨128 + l.val, by omega⟩)) else 0

/-- The table of the chunk's later keys. -/
def tab (B : Blk) (J : ℕ) : Fin 5 :=
  ⟨if J = (B.i 1).val / 4 then (B.i 1).val % 4 else 4, by split <;> omega⟩

/-- The keys of chunk `J`, their blocks and the table of later keys, as loaded. -/
structure Loads (J : ℕ) (a : FVec Ideal S512x128 .bf16) (s t : FVec Ideal S1x512x128 .bf16) : Prop where
  le : J ≤ (B.i 1).val / 4
  keys : ∀ (q : Fin 512) (l : Fin 128), a (ix2 q l) =
    B.x2 (ix2 ⟨512 * J + q.val, by have := block_lt B; omega⟩ ⟨l.val, by omega⟩)
  blocks : ∀ (q : Fin 512) (l : Fin 128), s (ix3 0 q l) = B.x7 (ix3 ⟨J, by have := block_lt B; omega⟩ q l)
  later : ∀ (q : Fin 512) (l : Fin 128), t (ix3 0 q l) = B.x8 (ix3 (tab B J) q l)

theorem masked_score (h : Fin 8) (r : Fin 128) (J : ℕ) (hJ : J ≤ (B.i 1).val / 4) (q : Fin 512) (b : Fin 64)
    (hb : b.val = (512 * J + q.val) / 64) (p : Fin 4096) (hp : p.val = 512 * J + q.val) :
    (c : EReal) * dotq B h r (fun l => B.x2 (ix2 p ⟨l.val, by omega⟩)) + unsel B (group h) r ⟨b.val, by omega⟩ * ⊥ +
      B.x8 (ix3 (tab B J) q r) * ⊥ = sN B h r (512 * J + q.val) := by
  have hi := block_lt B
  have hlt : 512 * J + q.val < 4096 := by omega
  rw [B.later_s, sN, dif_pos hlt, ss, unsel]
  have e : (⟨512 * J + q.val, hlt⟩ : Fin 4096) = p := Fin.ext hp.symm
  have eb : (⟨p.val / 64, by omega⟩ : Fin 128) = ⟨b.val, by omega⟩ := Fin.ext (by simp only []; omega)
  rw [e, eb]
  generalize dotq B h r _ = x
  by_cases h1 : rank (blockScore B (group h) r) ⟨b.val, by omega⟩ < 8
  · rw [if_pos h1, zero_mul, add_zero]
    by_cases h2 : p.val ≤ 128 * (B.i 1).val + r.val
    · rw [if_neg, zero_mul, add_zero, if_pos ⟨h1, h2⟩]
      unfold tab
      split <;> simp only [] <;> omega
    · rw [if_pos, one_mul, EReal.add_bot, if_neg (fun h => h2 h.2), c_mul_bot]
      unfold tab
      split <;> simp only [] <;> omega
  · rw [if_neg h1, one_mul, EReal.add_bot, EReal.bot_add, if_neg (fun h => h1 h.1), c_mul_bot]

/-- The keys with their blocks and masks, for the first group of heads. -/
def keysLow (a : FVec Ideal S512x128 .bf16) (s t : FVec Ideal S1x512x128 .bf16) : FVec Ideal S512x256 .bf16 :=
  concatenate S512x256 1 [⟨S512x128, select (cmpi CmpIPredicate.slt sl.v332 (broadcast S512x128 64#32)) a
      (mulf (shapeCast S512x128 s shapeCasts_S1x512x128_S512x128)
        (broadcast S512x128 (Named.named κ "masked" 0xF180#16 : Ideal .bf16)))⟩,
    ⟨S512x128, mulf (shapeCast S512x128 t shapeCasts_S1x512x128_S512x128)
      (broadcast S512x128 (Named.named κ "masked" 0xF180#16 : Ideal .bf16))⟩]
    concatenates_S512x128_S512x128_S512x256_d1

/-- The keys with their blocks and masks, for the second group of heads. -/
def keysHigh (a : FVec Ideal S512x128 .bf16) (s t : FVec Ideal S1x512x128 .bf16) : FVec Ideal S512x256 .bf16 :=
  concatenate S512x256 1 [⟨S512x128, select (cmpi CmpIPredicate.sge sl.v332 (broadcast S512x128 64#32)) a
      (mulf (shapeCast S512x128 s shapeCasts_S1x512x128_S512x128)
        (broadcast S512x128 (Named.named κ "masked" 0xF180#16 : Ideal .bf16)))⟩,
    ⟨S512x128, mulf (shapeCast S512x128 t shapeCasts_S1x512x128_S512x128)
      (broadcast S512x128 (Named.named κ "masked" 0xF180#16 : Ideal .bf16))⟩]
    concatenates_S512x128_S512x128_S512x256_d1

theorem keysLow_first (a : FVec Ideal S512x128 .bf16) (s t : FVec Ideal S1x512x128 .bf16) (q : Fin 512) (l : Fin 128) :
    keysLow a s t (ix2 q ⟨l.val, by omega⟩) = if l.val < 64 then a (ix2 q l) else s (ix3 0 q l) * ⊥ := by
  rw [keysLow, pair_first]
  pointwise [sl.v332, masked_def]
  exact below_64 l _ _

theorem keysHigh_first (a : FVec Ideal S512x128 .bf16) (s t : FVec Ideal S1x512x128 .bf16) (q : Fin 512) (l : Fin 128) :
    keysHigh a s t (ix2 q ⟨l.val, by omega⟩) = if 64 ≤ l.val then a (ix2 q l) else s (ix3 0 q l) * ⊥ := by
  rw [keysHigh, pair_first]
  pointwise [sl.v332, masked_def]
  exact from_64 l _ _

theorem keysLow_second (a : FVec Ideal S512x128 .bf16) (s t : FVec Ideal S1x512x128 .bf16) (q : Fin 512) (l : Fin 128) :
    keysLow a s t (ix2 q ⟨128 + l.val, by omega⟩) = t (ix3 0 q l) * ⊥ := by
  rw [keysLow, pair_second]
  pointwise [masked_def]

theorem keysHigh_second (a : FVec Ideal S512x128 .bf16) (s t : FVec Ideal S1x512x128 .bf16) (q : Fin 512) (l : Fin 128) :
    keysHigh a s t (ix2 q ⟨128 + l.val, by omega⟩) = t (ix3 0 q l) * ⊥ := by
  rw [keysHigh, pair_second]
  pointwise [masked_def]

theorem product_at (x y : FVec Ideal S512x256 .bf16) (R q : Fin 512) :
    truncf .bf16 (matmul dot_S512x256_S512x256_S512x512_1_1_0_0_n_n none x y (constant S512x512 .f32 0x00000000#32))
      bitsLt_bf16_f32 (ix2 R q) = ∑ l : Fin 256, x (ix2 R l) * y (ix2 q l) := by
  pointwise []

theorem chunk_low {J : ℕ} {a s t} (H : Loads B J a s t) (k : Fin 4) (r : Fin 128) (q : Fin 512) :
    k0_pay4 (F := Ideal) sl.v332 ((sl.v350 B.c B.i B.arg2 B.harg2 B.arg6 B.harg6 B.arg8 B.harg8 B.arg12 B.harg12 B.arg13 B.harg13 B.x0 B.x4 B.x6 B.x10 B.x11)) a s t (ix2 ⟨128 * k.val + r.val, by omega⟩ q) = sN B (head0 k) r (512 * J + q.val) := by
  have hi := block_lt B
  have hJ := H.le
  refine (product_at ((sl.v350 B.c B.i B.arg2 B.harg2 B.arg6 B.harg6 B.arg8 B.harg8 B.arg12 B.harg12 B.arg13 B.harg13 B.x0 B.x4 B.x6 B.x10 B.x11)) (keysLow a s t) _ q).trans ?_
  simp only [lhs_low]
  rw [chunk_score B (head0 k) r ⟨(512 * J + q.val) / 64, by omega⟩
    (fun l => B.x2 (ix2 ⟨512 * J + q.val, by omega⟩ ⟨l.val, by omega⟩)) (fun l => B.x8 (ix3 (tab B J) q l)) _ ?_ ?_]
  · exact masked_score B (head0 k) r J hJ q _ rfl ⟨512 * J + q.val, by omega⟩ rfl
  · intro l
    have hk : (head0 k).val / 4 = 0 := by simp only [head0]; omega
    rw [keysLow_first, H.keys, H.blocks, B.block_of, hk]
    by_cases hl : l.val < 64
    · rw [if_pos hl, if_pos (by omega)]
    · rw [if_neg hl, if_neg (show ¬ l.val / 64 = 0 by omega)]
  · intro l
    rw [keysLow_second, H.later]

theorem chunk_high {J : ℕ} {a s t} (H : Loads B J a s t) (k : Fin 4) (r : Fin 128) (q : Fin 512) :
    k0_pay5 (F := Ideal) sl.v332 ((sl.r_20 B.c B.i B.arg2 B.harg2 B.arg6 B.harg6 B.arg8 B.harg8 B.arg12 B.harg12 B.arg13 B.harg13 B.x0 B.x4 B.x6 B.x10 B.x11)) a s t (ix2 ⟨128 * k.val + r.val, by omega⟩ q) = sN B (head1 k) r (512 * J + q.val) := by
  have hi := block_lt B
  have hJ := H.le
  refine (product_at ((sl.r_20 B.c B.i B.arg2 B.harg2 B.arg6 B.harg6 B.arg8 B.harg8 B.arg12 B.harg12 B.arg13 B.harg13 B.x0 B.x4 B.x6 B.x10 B.x11)) (keysHigh a s t) _ q).trans ?_
  simp only [lhs_high]
  rw [chunk_score B (head1 k) r ⟨(512 * J + q.val) / 64, by omega⟩
    (fun l => B.x2 (ix2 ⟨512 * J + q.val, by omega⟩ ⟨l.val, by omega⟩)) (fun l => B.x8 (ix3 (tab B J) q l)) _ ?_ ?_]
  · exact masked_score B (head1 k) r J hJ q _ rfl ⟨512 * J + q.val, by omega⟩ rfl
  · intro l
    have hk : (head1 k).val / 4 = 1 := by simp only [head1]; omega
    rw [keysHigh_first, H.keys, H.blocks, B.block_of, hk]
    by_cases hl : 64 ≤ l.val
    · rw [if_pos hl, if_pos (by omega)]
    · rw [if_neg hl, if_neg (show ¬ l.val / 64 = 1 by omega)]
  · intro l
    rw [keysHigh_second, H.later]

/-! ## Adding up a chunk -/

/-- One step of the running totals. -/
theorem step (x v : ℕ → EReal) (n : ℕ) (s w : Fin 512 → EReal) (hs : ∀ q, s q = x (n + q.val)) (hw : ∀ q, w q = v (n + q.val)) :
    max (top x n) (Finset.univ.sup s) = top x (n + 512) ∧
      Ideal.exp2 (top x n - top x (n + 512)) * total x v n + ∑ q, Ideal.exp2 (s q - top x (n + 512)) * w q =
        total x v (n + 512) := by
  obtain rfl : s = fun q : Fin 512 => x (n + q.val) := funext hs
  obtain rfl : w = fun q : Fin 512 => v (n + q.val) := funext hw
  exact ⟨(top_add x n 512).symm, (total_add x v n 512).symm⟩

theorem max_at (s : FVec Ideal S512x512 .bf16) (m : FVec Ideal S512x1 .f32) (R : Fin 512) :
    k0_pay77 s m (ix2 R 0) = max (m (ix2 R 0)) (Finset.univ.sup fun q => s (ix2 R q)) := by
  pointwise [k0_pay77]
  rw [low_16, fold_max]

theorem total_at (s : FVec Ideal S512x512 .bf16) (m : FVec Ideal S512x1 .f32) (a : FVec Ideal S512x128 .f32)
    (v : FVec Ideal S512x128 .bf16) (R : Fin 512) (l : Fin 128) :
    k0_pay78 s m a v (ix2 R l) = Ideal.exp2 (m (ix2 R 0) - max (m (ix2 R 0)) (Finset.univ.sup fun q => s (ix2 R q))) *
      a (ix2 R l) + ∑ q, Ideal.exp2 (s (ix2 R q) - max (m (ix2 R 0)) (Finset.univ.sup fun q => s (ix2 R q))) * v (ix2 q l) := by
  pointwise [k0_pay78, k0_pay77]
  rw [low_16, fold_max]
  rfl

theorem value_low (v : FVec Ideal S512x128 .bf16) (q : Fin 512) (l : Fin 128) :
    k0_pay7 (F := Ideal) v (ix2 q l) = (if l.val < 64 then v (ix2 q l) else 1 : EReal) := by
  pointwise [k0_pay7, k0_pay6]
  exact below_64 l _ _

/-- Values in the second half of the lanes, ones in the first. -/
def valueHigh (v : FVec Ideal S512x128 .bf16) : FVec Ideal S512x128 .bf16 :=
  select (cmpi CmpIPredicate.sge sl.v332 (broadcast S512x128 64#32)) v (k0_pay6 (F := Ideal))

theorem value_high (v : FVec Ideal S512x128 .bf16) (q : Fin 512) (l : Fin 128) :
    valueHigh v (ix2 q l) = if 64 ≤ l.val then v (ix2 q l) else 1 := by
  pointwise [valueHigh, k0_pay6, sl.v332]
  exact from_64 l _ _

theorem max_high (s : FVec Ideal S512x512 .bf16) (m : FVec Ideal S512x1 .f32) : k0_pay79 s m = k0_pay77 s m := rfl

theorem total_high (s : FVec Ideal S512x512 .bf16) (m : FVec Ideal S512x1 .f32) (a : FVec Ideal S512x128 .f32)
    (v : FVec Ideal S512x128 .bf16) : k0_pay80 s m a v sl.v332 k0_pay6 = k0_pay78 s m a (valueHigh v) := rfl

theorem first_low (a : FVec Ideal S512x128 .bf16) (s t : FVec Ideal S1x512x128 .bf16) (L : FVec Ideal S512x256 .bf16) :
    k0_pay75 sl.v332 L a (k0_pay71 s) (k0_pay72 t) k0_pay73 = k0_pay4 sl.v332 L a s t := rfl

theorem first_high (a : FVec Ideal S512x128 .bf16) (s t : FVec Ideal S1x512x128 .bf16) (L : FVec Ideal S512x256 .bf16) :
    k0_pay76 sl.v332 L a (k0_pay71 s) (k0_pay72 t) k0_pay73 = k0_pay5 sl.v332 L a s t := rfl

theorem last_low (s : FVec Ideal S512x512 .bf16) (m : FVec Ideal S512x1 .f32) (a : FVec Ideal S512x128 .f32)
    (v : FVec Ideal S512x128 .bf16) : addf (k0_pay88 s m a) (k0_pay89 s m v) = k0_pay78 s m a (k0_pay7 v) := rfl

/-- The totals of all heads, divided. -/
def divided (x y : FVec Ideal S512x128 .f32) : FVec Ideal S1024x128 .f32 :=
  let a : FVec Ideal S1024x128 .f32 :=
    concatenate S1024x128 0 [⟨S512x128, x⟩, ⟨S512x128, y⟩] concatenates_S512x128_S512x128_S1024x128_d0
  mulf a (divf (broadcast S1024x128 (Scalar.ofBits .f32 0x3F800000#32 : Ideal .f32))
    (maximumf (dynamicRotate 1 64#32 none a rotates_S1024x128_d1)
      (broadcast S1024x128 (Scalar.ofBits .f32 0x0DA24260#32 : Ideal .f32))))

theorem last_high (s : FVec Ideal S512x512 .bf16) (m : FVec Ideal S512x1 .f32) (a : FVec Ideal S512x128 .f32)
    (v : FVec Ideal S512x128 .bf16) (x y : FVec Ideal S512x128 .f32) :
    k0_pay90 s m a (k0_pay86 v) x y = divided (addf x y) (k0_pay78 s m a (valueHigh v)) := rfl

theorem divided_low (x y : FVec Ideal S512x128 .f32) (R : Fin 512) (l : Fin 128) :
    divided x y (ix2 ⟨R.val, by omega⟩ l) =
      x (ix2 R l) * Ideal.div 1 (max (x (ix2 R ⟨(l.val + 128 - 64) % 128, by omega⟩)) tiny) := by
  pointwise [divided, tiny]

theorem divided_high (x y : FVec Ideal S512x128 .f32) (R : Fin 512) (l : Fin 128) :
    divided x y (ix2 ⟨512 + R.val, by omega⟩ l) =
      y (ix2 R l) * Ideal.div 1 (max (y (ix2 R ⟨(l.val + 128 - 64) % 128, by omega⟩)) tiny) := by
  pointwise [divided, tiny]

end Cert.Proof.AttnKernel
-- ==== Proof.AttnState.lean ====
module

public import proofs.«01_k».proof.Proof.AttnLoop

/-!
# The loop over the chunks of keys
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath Cert.Proof.TopEight

set_option maxRecDepth 16384

variable (B : Blk)

/-! ## Where the loop reads -/

theorem trips_1 : ∀ i : grid0.Coords, (k0_t1_loop i).trips = (i 1).val / 4 := by decide +kernel

theorem trips_2 : ∀ i : grid0.Coords, (k0_t2_loop i).trips = 0 := by decide +kernel

theorem off_1 : ∀ i : grid0.Coords, k0_off1 i = ![if 0 = (i 1).val / 4 then (i 1).val % 4 else 4, 0, 0] := by decide +kernel

theorem off_2 : ∀ (i : grid0.Coords) (k : Fin (k0_t1_loop i).trips), k0_off2 i k = ![512 * (k.val + 1), 0] := by
  decide +kernel

theorem off_3 : ∀ (i : grid0.Coords) (k : Fin (k0_t1_loop i).trips), k0_off3 i k = ![k.val + 1, 0, 0] := by
  decide +kernel

theorem off_4 : ∀ (i : grid0.Coords) (k : Fin (k0_t1_loop i).trips), k0_off4 i k =
    ![if k.val + 1 = (i 1).val / 4 then (i 1).val % 4 else 4, 0, 0] := by
  decide +kernel

theorem off_5 : ∀ (i : grid0.Coords) (k : Fin (k0_t1_loop i).trips), k0_off5 i k = ![512 * k.val, 128] := by
  decide +kernel

theorem off_10 : ∀ i : grid0.Coords, k0_off10 i = ![512 * ((i 1).val / 4), 128] := by decide +kernel

theorem trip_le (k : Fin (k0_t1_loop B.i).trips) : k.val + 1 ≤ (B.i 1).val / 4 := by
  have := trips_1 B.i
  have := k.isLt
  omega

/-- The values of chunk `J`, as loaded. -/
structure Values (J : ℕ) (v : FVec Ideal S512x128 .bf16) : Prop where
  le : J ≤ (B.i 1).val / 4
  at_key : ∀ (q : Fin 512) (l : Fin 128), v (ix2 q l) =
    B.x2 (ix2 ⟨512 * J + q.val, by have := block_lt B; omega⟩ ⟨128 + l.val, by omega⟩)

theorem loads_0 (ha hs ht) : Loads B 0
    (View.readAt (Elt Ideal) B.arg4.view (Rect.unit (s := S4096x256) ![0, 0] S512x128.size ha).toLoadRect (Memref.IsWhole.unread B.harg4 B.x2))
    (View.readAt (Elt Ideal) B.arg9.view (Rect.unit (s := S8x512x128) ![0, 0, 0] S1x512x128.size hs).toLoadRect (Memref.IsWhole.unread B.harg9 B.x7))
    (View.readAt (Elt Ideal) B.arg10.view (Rect.unit (s := S5x512x128) (k0_off1 B.i) S1x512x128.size ht).toLoadRect
      (Memref.IsWhole.unread B.harg10 B.x8)) where
  le := Nat.zero_le _
  keys q l := by
    refine (Memref.IsWhole.readAt_unread B.harg4 B.x2 _ _).trans (congrArg B.x2 ?_)
    idx_ext
  blocks q l := by
    refine (Memref.IsWhole.readAt_unread B.harg9 B.x7 _ _).trans (congrArg B.x7 ?_)
    idx_ext
  later q l := by
    rw [View.readAt_unit_congr_cast _ (off_1 B.i)]
    refine (Memref.IsWhole.readAt_unread B.harg10 B.x8 _ _).trans (congrArg B.x8 ?_)
    unfold tab
    idx_ext

theorem loads_next (k : Fin (k0_t1_loop B.i).trips) (ha hs ht) : Loads B (k.val + 1)
    (View.readAt (Elt Ideal) B.arg4.view (Rect.unit (s := S4096x256) (k0_off2 B.i k) S512x128.size ha).toLoadRect
      (Memref.IsWhole.unread B.harg4 B.x2))
    (View.readAt (Elt Ideal) B.arg9.view (Rect.unit (s := S8x512x128) (k0_off3 B.i k) S1x512x128.size hs).toLoadRect
      (Memref.IsWhole.unread B.harg9 B.x7))
    (View.readAt (Elt Ideal) B.arg10.view (Rect.unit (s := S5x512x128) (k0_off4 B.i k) S1x512x128.size ht).toLoadRect
      (Memref.IsWhole.unread B.harg10 B.x8)) where
  le := trip_le B k
  keys q l := by
    rw [View.readAt_unit_congr_cast _ (off_2 B.i k)]
    refine (Memref.IsWhole.readAt_unread B.harg4 B.x2 _ _).trans (congrArg B.x2 ?_)
    idx_ext
  blocks q l := by
    rw [View.readAt_unit_congr_cast _ (off_3 B.i k)]
    refine (Memref.IsWhole.readAt_unread B.harg9 B.x7 _ _).trans (congrArg B.x7 ?_)
    idx_ext
  later q l := by
    rw [View.readAt_unit_congr_cast _ (off_4 B.i k)]
    refine (Memref.IsWhole.readAt_unread B.harg10 B.x8 _ _).trans (congrArg B.x8 ?_)
    unfold tab
    idx_ext

theorem values_trip (k : Fin (k0_t1_loop B.i).trips) (ha) : Values B k.val
    (View.readAt (Elt Ideal) B.arg4.view (Rect.unit (s := S4096x256) (k0_off5 B.i k) S512x128.size ha).toLoadRect
      (Memref.IsWhole.unread B.harg4 B.x2)) where
  le := by have := trip_le B k; omega
  at_key q l := by
    rw [View.readAt_unit_congr_cast _ (off_5 B.i k)]
    refine (Memref.IsWhole.readAt_unread B.harg4 B.x2 _ _).trans (congrArg B.x2 ?_)
    idx_ext

theorem values_last (ha) : Values B ((B.i 1).val / 4)
    (View.readAt (Elt Ideal) B.arg4.view (Rect.unit (s := S4096x256) (k0_off10 B.i) S512x128.size ha).toLoadRect
      (Memref.IsWhole.unread B.harg4 B.x2)) where
  le := le_rfl
  at_key q l := by
    rw [View.readAt_unit_congr_cast _ (off_10 B.i)]
    refine (Memref.IsWhole.readAt_unread B.harg4 B.x2 _ _).trans (congrArg B.x2 ?_)
    idx_ext

theorem value_first {J : ℕ} {v} (H : Values B J v) (q : Fin 512) (l : Fin 128) :
    (k0_pay7 (F := Ideal) v (ix2 q l) : EReal) = vN B 0 l (512 * J + q.val) := by
  have hi := block_lt B
  have hJ := H.le
  rw [value_low, ones_low rfl, H.at_key, vN, dif_pos]

theorem value_second {J : ℕ} {v} (H : Values B J v) (q : Fin 512) (l : Fin 128) :
    (valueHigh v (ix2 q l) : EReal) = vN B 1 l (512 * J + q.val) := by
  have hi := block_lt B
  have hJ := H.le
  rw [value_high, ones_high rfl, H.at_key, vN, dif_pos]

/-! ## The invariant -/

/-- A trip's values: the next scores, the running maxima and the running totals, of both groups of heads. -/
abbrev St := FVec Ideal S512x512 .bf16 × FVec Ideal S512x512 .bf16 × FVec Ideal S512x1 .f32 × FVec Ideal S512x128 .f32 ×
  FVec Ideal S512x1 .f32 × FVec Ideal S512x128 .f32

/-- Before trip `J` the scores are those of chunk `J`, the maxima and totals those of the chunks before. -/
structure Inv (J : ℕ) (st : St) : Prop where
  score0 : ∀ (k : Fin 4) (r : Fin 128) (q : Fin 512),
    st.1 (ix2 ⟨128 * k.val + r.val, by omega⟩ q) = sN B (head0 k) r (512 * J + q.val)
  score1 : ∀ (k : Fin 4) (r : Fin 128) (q : Fin 512),
    st.2.1 (ix2 ⟨128 * k.val + r.val, by omega⟩ q) = sN B (head1 k) r (512 * J + q.val)
  max0 : ∀ (k : Fin 4) (r : Fin 128),
    st.2.2.1 (ix2 ⟨128 * k.val + r.val, by omega⟩ 0) = top (sN B (head0 k) r) (512 * J)
  total0 : ∀ (k : Fin 4) (r l : Fin 128),
    st.2.2.2.1 (ix2 ⟨128 * k.val + r.val, by omega⟩ l) = total (sN B (head0 k) r) (vN B 0 l) (512 * J)
  max1 : ∀ (k : Fin 4) (r : Fin 128),
    st.2.2.2.2.1 (ix2 ⟨128 * k.val + r.val, by omega⟩ 0) = top (sN B (head1 k) r) (512 * J)
  total1 : ∀ (k : Fin 4) (r l : Fin 128),
    st.2.2.2.2.2 (ix2 ⟨128 * k.val + r.val, by omega⟩ l) = total (sN B (head1 k) r) (vN B 1 l) (512 * J)

theorem Inv.max0' {J : ℕ} {st : St} (H : Inv B J st) (k : Fin 4) (r : Fin 128) :
    k0_pay77 st.1 st.2.2.1 (ix2 ⟨128 * k.val + r.val, by omega⟩ 0) = top (sN B (head0 k) r) (512 * J + 512) := by
  rw [max_at, H.max0]
  exact (step (sN B (head0 k) r) (fun _ => 0) _ _ (fun _ => 0) (fun q => H.score0 k r q) fun _ => rfl).1

theorem Inv.max1' {J : ℕ} {st : St} (H : Inv B J st) (k : Fin 4) (r : Fin 128) :
    k0_pay77 st.2.1 st.2.2.2.2.1 (ix2 ⟨128 * k.val + r.val, by omega⟩ 0) = top (sN B (head1 k) r) (512 * J + 512) := by
  rw [max_at, H.max1]
  exact (step (sN B (head1 k) r) (fun _ => 0) _ _ (fun _ => 0) (fun q => H.score1 k r q) fun _ => rfl).1

theorem Inv.total0' {J : ℕ} {st : St} (H : Inv B J st) {v} (V : Values B J v) (k : Fin 4) (r l : Fin 128) :
    (k0_pay78 st.1 st.2.2.1 st.2.2.2.1 (k0_pay7 v) (ix2 ⟨128 * k.val + r.val, by omega⟩ l) : EReal) =
      total (sN B (head0 k) r) (vN B 0 l) (512 * J + 512) := by
  obtain ⟨h1, h2⟩ := step (sN B (head0 k) r) (vN B 0 l) (512 * J) _ (fun q => k0_pay7 (F := Ideal) v (ix2 q l))
    (fun q => H.score0 k r q) fun q => value_first B V q l
  rw [total_at, H.max0, H.total0, h1]
  exact h2

theorem Inv.total1' {J : ℕ} {st : St} (H : Inv B J st) {v} (V : Values B J v) (k : Fin 4) (r l : Fin 128) :
    (k0_pay78 st.2.1 st.2.2.2.2.1 st.2.2.2.2.2 (valueHigh v) (ix2 ⟨128 * k.val + r.val, by omega⟩ l) : EReal) =
      total (sN B (head1 k) r) (vN B 1 l) (512 * J + 512) := by
  obtain ⟨h1, h2⟩ := step (sN B (head1 k) r) (vN B 1 l) (512 * J) _ (fun q => valueHigh v (ix2 q l))
    (fun q => H.score1 k r q) fun q => value_second B V q l
  rw [total_at, H.max1, H.total1, h1]
  exact h2

/-- One trip. -/
theorem Inv.next {J : ℕ} {st : St} (H : Inv B J st) {v a s t} (V : Values B J v) (L : Loads B (J + 1) a s t) :
    Inv B (J + 1) (k0_pay4 sl.v332 ((sl.v350 B.c B.i B.arg2 B.harg2 B.arg6 B.harg6 B.arg8 B.harg8 B.arg12 B.harg12 B.arg13 B.harg13 B.x0 B.x4 B.x6 B.x10 B.x11)) a s t, k0_pay5 sl.v332 ((sl.r_20 B.c B.i B.arg2 B.harg2 B.arg6 B.harg6 B.arg8 B.harg8 B.arg12 B.harg12 B.arg13 B.harg13 B.x0 B.x4 B.x6 B.x10 B.x11)) a s t, k0_pay77 st.1 st.2.2.1,
      k0_pay78 st.1 st.2.2.1 st.2.2.2.1 (k0_pay7 v), k0_pay77 st.2.1 st.2.2.2.2.1,
      k0_pay78 st.2.1 st.2.2.2.2.1 st.2.2.2.2.2 (valueHigh v)) where
  score0 k r q := chunk_low B L k r q
  score1 k r q := chunk_high B L k r q
  max0 k r := H.max0' B k r
  total0 k r l := H.total0' B V k r l
  max1 k r := H.max1' B k r
  total1 k r l := H.total1' B V k r l

theorem lowest_def : (Named.named κ "lowest" 0xFF61B1E6#32 : Ideal .f32) = (⊥ : EReal) := rfl

/-- Before the first trip. -/
theorem Inv.zero {a s t} (L : Loads B 0 a s t) :
    Inv B 0 (k0_pay4 sl.v332 ((sl.v350 B.c B.i B.arg2 B.harg2 B.arg6 B.harg6 B.arg8 B.harg8 B.arg12 B.harg12 B.arg13 B.harg13 B.x0 B.x4 B.x6 B.x10 B.x11)) a s t, k0_pay5 sl.v332 ((sl.r_20 B.c B.i B.arg2 B.harg2 B.arg6 B.harg6 B.arg8 B.harg8 B.arg12 B.harg12 B.arg13 B.harg13 B.x0 B.x4 B.x6 B.x10 B.x11)) a s t, k0_pay67, k0_pay68, k0_pay69, k0_pay70) where
  score0 k r q := chunk_low B L k r q
  score1 k r q := chunk_high B L k r q
  max0 k r := by
    rw [Nat.mul_zero, top_zero]
    exact lowest_def
  total0 k r l := by
    rw [Nat.mul_zero, total_zero]
    pointwise [k0_pay68]
  max1 k r := by
    rw [Nat.mul_zero, top_zero]
    exact lowest_def
  total1 k r l := by
    rw [Nat.mul_zero, total_zero]
    pointwise [k0_pay70]

theorem trip_inv (w v369 : BitVec 32) (v370 : FVec Ideal S512x1 .f32) (v371 : FVec Ideal S512x128 .f32) (v372 : FVec Ideal S512x1 .f32)
    (v373 : FVec Ideal S512x128 .f32) (v376 : Vec Ideal S512x128 .bf16) (v380 v387 v388 : FVec Ideal S512x128 .bf16) (k : Fin (k0_t1_loop B.i).trips)
    (st : St) (H : Inv B k.val st) :
    Inv B (k.val + 1) (tripR_k0_t1 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14
      w sl.v332 ((sl.v350 B.c B.i B.arg2 B.harg2 B.arg6 B.harg6 B.arg8 B.harg8 B.arg12 B.harg12 B.arg13 B.harg13 B.x0 B.x4 B.x6 B.x10 B.x11)) ((sl.r_20 B.c B.i B.arg2 B.harg2 B.arg6 B.harg6 B.arg8 B.harg8 B.arg12 B.harg12 B.arg13 B.harg13 B.x0 B.x4 B.x6 B.x10 B.x11)) v369 v370 v371 v372 v373 v376 v380 v387 v388
      (B.harg4.unread B.x2) (B.harg9.unread B.x7) (B.harg10.unread B.x8) k st) := by
  unfold tripR_k0_t1 trip_k0_t1
  dsimp only
  unfold trip_k0_t1.sl.r trip_k0_t1.sl.r_1 trip_k0_t1.sl.r_2 trip_k0_t1.sl.r_3
  rw [show trip_k0_t1.sl.v668 = sl.v332 from rfl, total_high, max_high]
  exact H.next B (values_trip B k _) (loads_next B k _ _ _)

theorem loop_inv (w v369 : BitVec 32) (v370 : FVec Ideal S512x1 .f32) (v371 : FVec Ideal S512x128 .f32) (v372 : FVec Ideal S512x1 .f32)
    (v373 : FVec Ideal S512x128 .f32) (v376 : Vec Ideal S512x128 .bf16) (v380 v387 v388 : FVec Ideal S512x128 .bf16) (init : St)
    (H : Inv B 0 init) : ∀ n, n ≤ (B.i 1).val / 4 →
    Inv B n (st_k0_t1 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 w sl.v332 ((sl.v350 B.c B.i B.arg2 B.harg2 B.arg6 B.harg6 B.arg8 B.harg8 B.arg12 B.harg12 B.arg13 B.harg13 B.x0 B.x4 B.x6 B.x10 B.x11)) ((sl.r_20 B.c B.i B.arg2 B.harg2 B.arg6 B.harg6 B.arg8 B.harg8 B.arg12 B.harg12 B.arg13 B.harg13 B.x0 B.x4 B.x6 B.x10 B.x11)) v369 v370 v371 v372 v373 v376 v380 v387 v388
      (B.harg4.unread B.x2) (B.harg9.unread B.x7) (B.harg10.unread B.x8) init n)
  | 0, _ => H
  | n + 1, hn => by
    have hk : n < (k0_t1_loop B.i).trips := by rw [trips_1]; omega
    refine (congrArg (Inv B (n + 1)) (st_k0_t1_succ (k := ⟨n, hk⟩) ..)).mpr ?_
    exact trip_inv B _ _ _ _ _ _ _ _ _ _ ⟨n, hk⟩ _ (loop_inv w v369 v370 v371 v372 v373 v376 v380 v387 v388 init H n (by omega))

theorem no_trips (w : BitVec 32) (v333 : IVec S512x128 32) (v350 v352 : FVec Ideal S512x256 .bf16) (v369 : BitVec 32)
    (v370 : FVec Ideal S512x1 .f32) (v371 : FVec Ideal S512x128 .f32) (v372 : FVec Ideal S512x1 .f32)
    (v373 : FVec Ideal S512x128 .f32) (v376 : Vec Ideal S512x128 .bf16) (v380 v387 v388 : FVec Ideal S512x128 .bf16)
    (v406 : BitVec 32) X4 X9 X10 (init : St) :
    st_k0_t2 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 w v333 v350 v352 v369 v370 v371 v372 v373 v376 v380 v387 v388 v406
      X4 X9 X10 init (Scf.trips (k0_t2_loop B.i).lb (k0_t2_loop B.i).ub (k0_t2_loop B.i).st) = init := by
  rw [show Scf.trips (k0_t2_loop B.i).lb (k0_t2_loop B.i).ub (k0_t2_loop B.i).st = 0 from trips_2 B.i]
  rfl

/-! ## The result -/

theorem total_congr (s v v' : ℕ → EReal) (n : ℕ) (h : ∀ p, p < n → v p = v' p) : total s v n = total s v' n :=
  Finset.sum_congr rfl fun p _ => by rw [h p.val p.isLt]

theorem att_online (h : Fin 8) (r : Fin 128) (d : Fin 64) :
    total (sN B h r) (vN B (h.val / 4) ⟨64 * (h.val / 4) + d.val, by omega⟩) (512 * ((B.i 1).val / 4) + 512) *
      Ideal.div 1 (max (total (sN B h r) (vN B (h.val / 4) ⟨(64 * (h.val / 4) + d.val + 128 - 64) % 128, by omega⟩)
        (512 * ((B.i 1).val / 4) + 512)) tiny) =
      att (ss B h r) (fun p => B.x2 (ix2 p ⟨128 + (64 * (h.val / 4) + d.val), by omega⟩)) := by
  have hi := block_lt B
  rw [total_congr _ (vN B (h.val / 4) ⟨(64 * (h.val / 4) + d.val + 128 - 64) % 128, by omega⟩) (fun _ => 1) _
    (fun p hp => by rw [vN, dif_pos (by omega), ones_other d (by omega)]), online]
  have hn : 512 * ((B.i 1).val / 4) + 512 ≤ 4096 := by omega
  have hs : (fun p : Fin (512 * ((B.i 1).val / 4) + 512) => sN B h r p.val) =
      fun p => (c : EReal) * ss B h r ⟨p.val, by omega⟩ := funext fun p => by rw [sN, dif_pos]
  have hv : (fun p : Fin (512 * ((B.i 1).val / 4) + 512) => vN B (h.val / 4) ⟨64 * (h.val / 4) + d.val, by omega⟩ p.val) =
      fun p => B.x2 (ix2 ⟨p.val, by omega⟩ ⟨128 + (64 * (h.val / 4) + d.val), by omega⟩) :=
    funext fun p => by rw [vN, dif_pos (by omega), ones_own d (by omega)]
  rw [hs, hv, att2_scaled (fun p : Fin (512 * ((B.i 1).val / 4) + 512) => ss B h r ⟨p.val, by omega⟩)]
  refine att_restrict (fun p : Fin (512 * ((B.i 1).val / 4) + 512) => (⟨p.val, by omega⟩ : Fin 4096)) ?_ (ss B h r)
    (fun p => B.x2 (ix2 p ⟨128 + (64 * (h.val / 4) + d.val), by omega⟩)) fun p hp => ?_
  · intro a b e
    exact Fin.ext (Fin.mk.inj_iff.mp e)
  · rw [ss, if_neg]
    rintro ⟨_, hq⟩
    exact hp ⟨p.val, by omega⟩ rfl

/-- The loop's last values. -/
theorem final_inv : ∃ st : St, Inv B ((B.i 1).val / 4) st ∧ ∃ v, Values B ((B.i 1).val / 4) v ∧
    (sl.r_30 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x2 B.x4 B.x6 B.x7 B.x8 B.x10 B.x11) = divided (k0_pay78 st.1 st.2.2.1 st.2.2.2.1 (k0_pay7 v))
      (k0_pay78 st.2.1 st.2.2.2.2.1 st.2.2.2.2.2 (valueHigh v)) := by
  have H := loop_inv B (BitVec.ofNat 32 (B.i 1).val) (sl.v369 B.i) k0_pay67 k0_pay68 k0_pay69 k0_pay70 ((sl.r_21 B.c B.arg4 B.harg4 B.x2)) ((sl.r_22 B.c B.arg9 B.harg9 B.x7)) ((sl.r_23 B.c B.i B.arg10 B.harg10 B.x8))
    k0_pay73 (k0_pay75 sl.v332 ((sl.v350 B.c B.i B.arg2 B.harg2 B.arg6 B.harg6 B.arg8 B.harg8 B.arg12 B.harg12 B.arg13 B.harg13 B.x0 B.x4 B.x6 B.x10 B.x11)) ((sl.r_21 B.c B.arg4 B.harg4 B.x2)) ((sl.r_22 B.c B.arg9 B.harg9 B.x7)) ((sl.r_23 B.c B.i B.arg10 B.harg10 B.x8)) k0_pay73,
      k0_pay76 sl.v332 ((sl.r_20 B.c B.i B.arg2 B.harg2 B.arg6 B.harg6 B.arg8 B.harg8 B.arg12 B.harg12 B.arg13 B.harg13 B.x0 B.x4 B.x6 B.x10 B.x11)) ((sl.r_21 B.c B.arg4 B.harg4 B.x2)) ((sl.r_22 B.c B.arg9 B.harg9 B.x7)) ((sl.r_23 B.c B.i B.arg10 B.harg10 B.x8)) k0_pay73, k0_pay67, k0_pay68, k0_pay69, k0_pay70)
    (by
      rw [sl.r_22, sl.r_23, sl.r_21, first_low, first_high]
      exact Inv.zero B (loads_0 B _ _ _)) _ le_rfl
  refine ⟨_, H, _, values_last B (k0_off10_inb B.i), ?_⟩
  rw [← last_low, ← last_high, sl.r_30, sl.r_28, sl.r_29, sl.r_24, sl.r_25, sl.r_26, sl.r_27]
  rw [no_trips B, show Scf.trips (k0_t1_loop B.i).lb (k0_t1_loop B.i).ub (k0_t1_loop B.i).st = (B.i 1).val / 4 from trips_1 B.i]

/-- The attention over the chosen blocks. -/
theorem o_s_at (h : Fin 8) (r : Fin 128) (d : Fin 64) :
    (sl.r_30 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x2 B.x4 B.x6 B.x7 B.x8 B.x10 B.x11) (ix2 ⟨128 * h.val + r.val, by omega⟩ ⟨64 * (h.val / 4) + d.val, by omega⟩) =
      att (ss B h r) (fun p => B.x2 (ix2 p ⟨128 + (64 * (h.val / 4) + d.val), by omega⟩)) := by
  obtain ⟨st, H, v, V, e⟩ := final_inv B
  rw [e, ← att_online]
  rcases (by omega : h.val / 4 = 0 ∨ h.val / 4 = 1) with hg | hg
  · have hh : h = head0 ⟨h.val, by omega⟩ := rfl
    refine (divided_low _ _ ⟨128 * h.val + r.val, by omega⟩ _).trans ?_
    rw [H.total0' B V ⟨h.val, by omega⟩ r, H.total0' B V ⟨h.val, by omega⟩ r, ← hh, show vN B (h.val / 4) = _ from congrArg (vN B) hg]
  · have hh : h = head1 ⟨h.val - 4, by omega⟩ := Fin.ext (by simp only [head1]; omega)
    have hr : (⟨128 * h.val + r.val, by omega⟩ : Fin 1024) = ⟨512 + (128 * (h.val - 4) + r.val), by omega⟩ :=
      Fin.ext (by simp only []; omega)
    rw [hr]
    refine (divided_high _ _ ⟨128 * (h.val - 4) + r.val, by omega⟩ _).trans ?_
    rw [H.total1' B V ⟨h.val - 4, by omega⟩ r, H.total1' B V ⟨h.val - 4, by omega⟩ r, ← hh, show vN B (h.val / 4) = _ from congrArg (vN B) hg]

end Cert.Proof.AttnKernel
-- ==== Proof.AttnWindow.lean ====
module

public import proofs.«01_k».proof.Proof.AttnScore

/-!
# The attention over the window of recent keys
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath

set_option maxRecDepth 16384

variable (B : Blk)

/-- The first key of the window that is read. -/
def first (B : Blk) : ℕ := 128 * (B.i 1).val - 512

theorem off_k : ∀ i : grid0.Coords, k0_off11 i = ![128 * (i 1).val - 512, 0] := by decide +kernel

theorem off_v : ∀ i : grid0.Coords, k0_off13 i = ![128 * (i 1).val - 512, 128] := by decide +kernel

theorem off_t : ∀ i : grid0.Coords, k0_off12 i = ![min (i 1).val 4, 0, 0] := by decide +kernel

theorem first_le (B : Blk) : first B ≤ 3456 := by
  have := block_lt B
  unfold first
  omega

/-- The score of the key at position `p` for head `h` of query `r`. -/
def sw (h : Fin 8) (r : Fin 128) (p : Fin 4096) : EReal :=
  if p.val ≤ 128 * (B.i 1).val + r.val ∧ 128 * (B.i 1).val + r.val ≤ p.val + 512 then
    dotq B h r (fun l => B.x3 (ix2 p ⟨l.val, by omega⟩)) else ⊥

/-- The position of the window's key `k`. -/
def at_w (B : Blk) (k : Fin 640) : Fin 4096 := ⟨first B + k.val, by have := first_le B; omega⟩

theorem kw_at (hb) (k : Fin 640) (l : Fin 128) :
    View.readAt (Elt Ideal) B.arg5.view (Rect.unit (s := S4096x256) (k0_off11 B.i) S640x128.size hb).toLoadRect
      (Memref.IsWhole.unread B.harg5 B.x3) (ix2 k l) = B.x3 (ix2 (at_w B k) ⟨l.val, by omega⟩) := by
  rw [View.readAt_unit_congr_cast _ (off_k B.i)]
  refine (Memref.IsWhole.readAt_unread B.harg5 B.x3 _ _).trans (congrArg B.x3 ?_)
  unfold at_w first
  idx_ext

theorem vw_at (k : Fin 640) (l : Fin 128) : (sl.r_32 B.c B.i B.arg5 B.harg5 B.x3) (ix2 k l) = B.x3 (ix2 (at_w B k) ⟨128 + l.val, by omega⟩) := by
  rw [sl.r_32, View.readAt_unit_congr_cast _ (off_v B.i)]
  refine (Memref.IsWhole.readAt_unread B.harg5 B.x3 _ _).trans (congrArg B.x3 ?_)
  unfold at_w first
  idx_ext

/-- The window's table. -/
def wtab (B : Blk) : Fin 5 := ⟨min (B.i 1).val 4, by omega⟩

theorem wint_at (hb) (k : Fin 640) (l : Fin 128) :
    View.readAt (Elt Ideal) B.arg11.view (Rect.unit (s := S5x640x128) (k0_off12 B.i) S1x640x128.size hb).toLoadRect
      (Memref.IsWhole.unread B.harg11 B.x9) (ix3 0 k l) = B.x9 (ix3 (wtab B) k l) := by
  rw [View.readAt_unit_congr_cast _ (off_t B.i)]
  refine (Memref.IsWhole.readAt_unread B.harg11 B.x9 _ _).trans (congrArg B.x9 ?_)
  unfold wtab
  idx_ext

/-- Keys, and behind them their masks. -/
def withMasks (a : FVec Ideal S640x128 .bf16) (t : FVec Ideal S1x640x128 .bf16) : FVec Ideal S640x256 .bf16 :=
  concatenate S640x256 1 [⟨S640x128, a⟩, ⟨S640x128, mulf (shapeCast S640x128 t shapeCasts_S1x640x128_S640x128)
    (broadcast S640x128 (Named.named κ "masked" 0xF180#16 : Ideal .bf16))⟩] concatenates_S640x128_S640x128_S640x256_d1

theorem withMasks_low (a : FVec Ideal S640x128 .bf16) (t : FVec Ideal S1x640x128 .bf16) (k : Fin 640) (l : Fin 128) :
    withMasks a t (ix2 k ⟨l.val, by omega⟩) = a (ix2 k l) := by
  pointwise [withMasks]

theorem withMasks_high (a : FVec Ideal S640x128 .bf16) (t : FVec Ideal S1x640x128 .bf16) (k : Fin 640) (l : Fin 128) :
    withMasks a t (ix2 k ⟨128 + l.val, by omega⟩) = t (ix3 0 k l) * ⊥ := by
  pointwise [withMasks, masked_def]

/-- The window's keys with their masks. -/
def ktv (B : Blk) : FVec Ideal S640x256 .bf16 :=
  withMasks (View.readAt (Elt Ideal) B.arg5.view (Rect.unit (s := S4096x256) (k0_off11 B.i) S640x128.size
      (k0_off11_inb B.i)).toLoadRect (Memref.IsWhole.unread B.harg5 B.x3))
    (View.readAt (Elt Ideal) B.arg11.view (Rect.unit (s := S5x640x128) (k0_off12 B.i) S1x640x128.size
      (k0_off12_inb B.i)).toLoadRect (Memref.IsWhole.unread B.harg11 B.x9))

def kt (B : Blk) (k : Fin 640) (l : Fin 256) : EReal := ktv B (ix2 k l)

theorem kt_low (k : Fin 640) (l : Fin 128) : kt B k ⟨l.val, by omega⟩ = B.x3 (ix2 (at_w B k) ⟨l.val, by omega⟩) :=
  (withMasks_low _ _ k l).trans (kw_at B (k0_off11_inb B.i) k l)

theorem kt_high (k : Fin 640) (l : Fin 128) : kt B k ⟨128 + l.val, by omega⟩ = B.x9 (ix3 (wtab B) k l) * ⊥ :=
  (withMasks_high _ _ k l).trans (congrArg (· * ⊥) (wint_at B (k0_off12_inb B.i) k l))

theorem s_w_open (R : Fin 1024) (k : Fin 640) : (sl.r_31 B.c B.i B.arg2 B.harg2 B.arg5 B.harg5 B.arg11 B.harg11 B.arg12 B.harg12 B.x0 B.x3 B.x9 B.x10) (ix2 R k) = ∑ l : Fin 256, (sl.r_12 B.c B.arg2 B.harg2 B.arg12 B.harg12 B.x0 B.x10) (ix2 R l) * kt B k l := by
  have e : (sl.r_31 B.c B.i B.arg2 B.harg2 B.arg5 B.harg5 B.arg11 B.harg11 B.arg12 B.harg12 B.x0 B.x3 B.x9 B.x10) = truncf .bf16 (matmul dot_S1024x256_S640x256_S1024x640_1_1_0_0_n_n none ((sl.r_12 B.c B.arg2 B.harg2 B.arg12 B.harg12 B.x0 B.x10)) (ktv B)
      (constant S1024x640 .f32 0x00000000#32)) bitsLt_bf16_f32 := rfl
  unfold kt
  rw [e]
  generalize (sl.r_12 B.c B.arg2 B.harg2 B.arg12 B.harg12 B.x0 B.x10) = a
  generalize ktv B = b
  pointwise []

theorem s_w_at (h : Fin 8) (r : Fin 128) (k : Fin 640) :
    (sl.r_31 B.c B.i B.arg2 B.harg2 B.arg5 B.harg5 B.arg11 B.harg11 B.arg12 B.harg12 B.x0 B.x3 B.x9 B.x10) (ix2 ⟨128 * h.val + r.val, by omega⟩ k) = (c : EReal) * sw B h r (at_w B k) := by
  rw [s_w_open, score B h r (kt B k) _ _ (kt_low B k) (kt_high B k), B.outside]
  have hi := block_lt B
  unfold sw
  by_cases hp : (at_w B k).val ≤ 128 * (B.i 1).val + r.val ∧ 128 * (B.i 1).val + r.val ≤ (at_w B k).val + 512
  · rw [if_pos hp, if_pos, zero_mul, add_zero]
    simp only [at_w, first, wtab] at hp ⊢
    omega
  · rw [if_neg hp, if_neg, one_mul, EReal.add_bot, c_mul_bot]
    simp only [at_w, first, wtab] at hp ⊢
    omega

theorem soft_low_w (R : Fin 512) (l : Fin 128) : (sl.v486 B.c B.i B.arg2 B.harg2 B.arg5 B.harg5 B.arg11 B.harg11 B.arg12 B.harg12 B.x0 B.x3 B.x9 B.x10) (ix2 R l) =
    ∑ n, wt2 (fun n => (sl.r_31 B.c B.i B.arg2 B.harg2 B.arg5 B.harg5 B.arg11 B.harg11 B.arg12 B.harg12 B.x0 B.x3 B.x9 B.x10) (ix2 ⟨R.val, by omega⟩ n)) n * (sl.r_33 B.c B.i B.arg5 B.harg5 B.x3) (ix2 n l) := by
  pointwise [sl.v480, sl.v481, sl.v482, sl.v483, sl.v484, sl.v485, sl.v486, sl.cst_169, sl.cst_170]
  rw [low_16]
  rfl

theorem soft_high_w (R : Fin 512) (l : Fin 128) : (sl.v493 B.c B.i B.arg2 B.harg2 B.arg5 B.harg5 B.arg11 B.harg11 B.arg12 B.harg12 B.x0 B.x3 B.x9 B.x10) (ix2 R l) =
    ∑ n, wt2 (fun n => (sl.r_31 B.c B.i B.arg2 B.harg2 B.arg5 B.harg5 B.arg11 B.harg11 B.arg12 B.harg12 B.x0 B.x3 B.x9 B.x10) (ix2 ⟨512 + R.val, by omega⟩ n)) n * (sl.v479 B.c B.i B.arg5 B.harg5 B.x3) (ix2 n l) := by
  pointwise [sl.v487, sl.v488, sl.v489, sl.v490, sl.v491, sl.v492, sl.v493, sl.cst_169, sl.cst_170]
  rw [low_16]
  rfl

theorem vw_low (n : Fin 640) (l : Fin 128) :
    (sl.r_33 B.c B.i B.arg5 B.harg5 B.x3) (ix2 n l) = if l.val < 64 then B.x3 (ix2 (at_w B n) ⟨128 + l.val, by omega⟩) else 1 := by
  rw [← vw_at, sl.r_33, sl.r_32]
  pointwise [k0_pay93, k0_pay92]
  exact below_64 l _ _

theorem vw_high (n : Fin 640) (l : Fin 128) :
    (sl.v479 B.c B.i B.arg5 B.harg5 B.x3) (ix2 n l) = if 64 ≤ l.val then B.x3 (ix2 (at_w B n) ⟨128 + l.val, by omega⟩) else 1 := by
  rw [← vw_at]
  pointwise [sl.v479, sl.v472, sl.v477, k0_pay92]
  exact from_64 l _ _

theorem acc_w (h : Fin 8) (r l : Fin 128) : (sl.v494 B.c B.i B.arg2 B.harg2 B.arg5 B.harg5 B.arg11 B.harg11 B.arg12 B.harg12 B.x0 B.x3 B.x9 B.x10) (ix2 ⟨128 * h.val + r.val, by omega⟩ l) =
    ∑ n, wt (fun n => sw B h r (at_w B n)) n * ones (h.val / 4) l (B.x3 (ix2 (at_w B n) ⟨128 + l.val, by omega⟩)) := by
  have e0 : ∀ R : Fin 512, (sl.v494 B.c B.i B.arg2 B.harg2 B.arg5 B.harg5 B.arg11 B.harg11 B.arg12 B.harg12 B.x0 B.x3 B.x9 B.x10) (ix2 ⟨R.val, by omega⟩ l) = (sl.v486 B.c B.i B.arg2 B.harg2 B.arg5 B.harg5 B.arg11 B.harg11 B.arg12 B.harg12 B.x0 B.x3 B.x9 B.x10) (ix2 R l) := fun R => by
    pointwise [sl.v494]
  have e1 : ∀ R : Fin 512, (sl.v494 B.c B.i B.arg2 B.harg2 B.arg5 B.harg5 B.arg11 B.harg11 B.arg12 B.harg12 B.x0 B.x3 B.x9 B.x10) (ix2 ⟨512 + R.val, by omega⟩ l) = (sl.v493 B.c B.i B.arg2 B.harg2 B.arg5 B.harg5 B.arg11 B.harg11 B.arg12 B.harg12 B.x0 B.x3 B.x9 B.x10) (ix2 R l) := fun R => by
    pointwise [sl.v494]
  rcases (by omega : h.val / 4 = 0 ∨ h.val / 4 = 1) with hg | hg
  · refine (e0 ⟨128 * h.val + r.val, by omega⟩).trans ((soft_low_w B _ l).trans ?_)
    simp only [s_w_at, wt2_scaled (fun n => sw B h r (at_w B n)), vw_low, ones_low hg]
  · have hr : (⟨128 * h.val + r.val, by omega⟩ : Fin 1024) = ⟨512 + (128 * h.val + r.val - 512), by omega⟩ :=
      Fin.ext (by simp only []; omega)
    rw [hr]
    refine (e1 ⟨128 * h.val + r.val - 512, by omega⟩).trans ((soft_high_w B _ l).trans ?_)
    simp only [← hr]
    simp only [s_w_at, wt2_scaled (fun n => sw B h r (at_w B n)), vw_high, ones_high hg]

theorem o_w_open (R : Fin 1024) (l : Fin 128) : (sl.v500 B.c B.i B.arg2 B.harg2 B.arg5 B.harg5 B.arg11 B.harg11 B.arg12 B.harg12 B.x0 B.x3 B.x9 B.x10) (ix2 R l) =
    (sl.v494 B.c B.i B.arg2 B.harg2 B.arg5 B.harg5 B.arg11 B.harg11 B.arg12 B.harg12 B.x0 B.x3 B.x9 B.x10) (ix2 R l) * Ideal.div 1 (max ((sl.v494 B.c B.i B.arg2 B.harg2 B.arg5 B.harg5 B.arg11 B.harg11 B.arg12 B.harg12 B.x0 B.x3 B.x9 B.x10) (ix2 R ⟨(l.val + 128 - 64) % 128, by omega⟩)) tiny) := by
  pointwise [sl.v495, sl.v496, sl.v497, sl.v498, sl.v499, sl.v500, sl.cst_174, sl.cst_175, tiny]

/-- The attention over the window. -/
theorem o_w_at (h : Fin 8) (r : Fin 128) (d : Fin 64) :
    (sl.v500 B.c B.i B.arg2 B.harg2 B.arg5 B.harg5 B.arg11 B.harg11 B.arg12 B.harg12 B.x0 B.x3 B.x9 B.x10) (ix2 ⟨128 * h.val + r.val, by omega⟩ ⟨64 * (h.val / 4) + d.val, by omega⟩) =
      att (sw B h r) (fun p => B.x3 (ix2 p ⟨128 + (64 * (h.val / 4) + d.val), by omega⟩)) := by
  rw [o_w_open, acc_w, acc_w]
  simp only [ones_own d (show h.val / 4 < 2 by omega), ones_other d (show h.val / 4 < 2 by omega), mul_one]
  refine Eq.trans ?_ (att_restrict (at_w B) ?_ (sw B h r) _ fun p hp => ?_)
  · rfl
  · intro a b e
    have := congrArg Fin.val e
    simp only [at_w] at this
    exact Fin.ext (by omega)
  · rw [sw, if_neg]
    intro hq
    have hi := block_lt B
    by_cases hw : first B ≤ p.val ∧ p.val < first B + 640
    · exact hp ⟨p.val - first B, by omega⟩ (Fin.ext (by simp only [at_w]; omega))
    · unfold first at hw
      omega

end Cert.Proof.AttnKernel
-- ==== Proof.AttnOut.lean ====
module

public import proofs.«01_k».proof.Proof.AttnState
public import proofs.«01_k».proof.Proof.AttnCmp
public import proofs.«01_k».proof.Proof.AttnWindow

/-!
# One block of the attention's output
-/

@[expose] public section

noncomputable section

namespace Cert.Proof.AttnKernel

open Cert.KernelIdeal Cert.KernelIdeal.Gen Cert.KernelIdeal.Gen.kernelRun0_A Idealize.ShloMosaic Idealize.ShloMosaic.TcCoe
open Cert.Proof.AttnMath

set_option maxRecDepth 16384

variable (B : Blk)

/-- The gated sum of the three attentions, at a lane of head `h`. -/
def gated (h : ℕ) (hh : h < 8) (r l : Fin 128) : EReal :=
  (sl.r_34 B.c B.arg3 B.harg3 B.x1) (ix2 r ⟨h, by omega⟩) * (sl.v142 B.c B.i B.arg2 B.harg2 B.arg6 B.harg6 B.arg7 B.harg7 B.arg8 B.harg8 B.arg12 B.harg12 B.x0 B.x4 B.x5 B.x6 B.x10) (ix2 ⟨128 * h + r.val, by omega⟩ l) +
    (sl.r_34 B.c B.arg3 B.harg3 B.x1) (ix2 r ⟨8 + h, by omega⟩) * (sl.r_30 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x2 B.x4 B.x6 B.x7 B.x8 B.x10 B.x11) (ix2 ⟨128 * h + r.val, by omega⟩ l) +
    (sl.r_34 B.c B.arg3 B.harg3 B.x1) (ix2 r ⟨16 + h, by omega⟩) * (sl.v500 B.c B.i B.arg2 B.harg2 B.arg5 B.harg5 B.arg11 B.harg11 B.arg12 B.harg12 B.x0 B.x3 B.x9 B.x10) (ix2 ⟨128 * h + r.val, by omega⟩ l)

theorem gates_at : (sl.r_34 B.c B.arg3 B.harg3 B.x1) = B.x1 := by
  rw [sl.r_34, gates_eq]

/-- The lane 64 further on. -/
def turn (l : Fin 128) : Fin 128 := ⟨(l.val + 128 - 64) % 128, by omega⟩

theorem gated_0 (r l : Fin 128) : (sl.v516 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 0 (by omega) r l := by
  rw [gated]
  pointwise [sl.v503, sl.v504, sl.v505, sl.v506, sl.v507, sl.v508, sl.v509, sl.v510, sl.v511, sl.v512, sl.v513, sl.v514, sl.v515, sl.v516, sl.r_34]

theorem gated_1 (r l : Fin 128) : (sl.v531 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 1 (by omega) r (turn l) := by
  rw [gated]
  pointwise [sl.v517, sl.v518, sl.v519, sl.v520, sl.v521, sl.v522, sl.v523, sl.v524, sl.v525, sl.v526, sl.v527, sl.v528, sl.v529, sl.v530, sl.v531, sl.r_34]
  rfl

theorem gated_2 (r l : Fin 128) : (sl.v545 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 2 (by omega) r l := by
  rw [gated]
  pointwise [sl.v532, sl.v533, sl.v534, sl.v535, sl.v536, sl.v537, sl.v538, sl.v539, sl.v540, sl.v541, sl.v542, sl.v543, sl.v544, sl.v545, sl.r_34]

theorem gated_3 (r l : Fin 128) : (sl.v560 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 3 (by omega) r (turn l) := by
  rw [gated]
  pointwise [sl.v546, sl.v547, sl.v548, sl.v549, sl.v550, sl.v551, sl.v552, sl.v553, sl.v554, sl.v555, sl.v556, sl.v557, sl.v558, sl.v559, sl.v560, sl.r_34]
  rfl

theorem gated_4 (r l : Fin 128) : (sl.v575 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 4 (by omega) r (turn l) := by
  rw [gated]
  pointwise [sl.v561, sl.v562, sl.v563, sl.v564, sl.v565, sl.v566, sl.v567, sl.v568, sl.v569, sl.v570, sl.v571, sl.v572, sl.v573, sl.v574, sl.v575, sl.r_34]
  rfl

/-- Two heads' values side by side. -/
noncomputable def beside (x y : FVec Ideal S128x128 .f32) : FVec Ideal S128x128 .f32 :=
  select (cmpi CmpIPredicate.slt sl.v502 (broadcast S128x128 64#32)) x y

theorem beside_at (x y : FVec Ideal S128x128 .f32) (r l : Fin 128) :
    beside x y (ix2 r l) = if l.val < 64 then x (ix2 r l) else y (ix2 r l) := by
  pointwise [beside, sl.v502]
  exact below_64 l _ _

theorem gated_6 (r l : Fin 128) : (sl.r_35 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 6 (by omega) r (turn l) := by
  rw [gated, sl.r_35]
  pointwise [k0_pay104]
  rfl

theorem gated_7 (r l : Fin 128) : (sl.r_36 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) = gated B 7 (by omega) r l := by
  rw [gated, sl.r_36]
  pointwise [k0_pay105]

theorem heads_01 (r l : Fin 128) : (sl.r_37 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) =
    if l.val < 64 then gated B 0 (by omega) r l else gated B 1 (by omega) r (turn l) := by
  rw [← gated_0, ← gated_1]
  exact beside_at _ _ r l

theorem heads_23 (r l : Fin 128) : (sl.r_38 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) =
    if l.val < 64 then gated B 2 (by omega) r l else gated B 3 (by omega) r (turn l) := by
  rw [← gated_2, ← gated_3]
  exact beside_at _ _ r l

theorem heads_45 (r l : Fin 128) : (sl.r_39 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11) (ix2 r l) =
    if l.val < 64 then gated B 4 (by omega) r (turn l) else gated B 5 (by omega) r l := by
  rw [← gated_4, gated, sl.r_39]
  pointwise [k0_pay108, sl.v576, sl.v577, sl.v578, sl.v579, sl.v580, sl.v581, sl.v582, sl.v583, sl.v584, sl.v502, sl.r_34]
  exact below_64 l _ _

/-- Four pieces side by side. -/
noncomputable def pieces (a b c d : FVec Ideal S128x128 .f32) : FVec Ideal S128x512 .f32 :=
  concatenate S128x512 1 [⟨S128x128, a⟩, ⟨S128x128, b⟩, ⟨S128x128, c⟩, ⟨S128x128, d⟩]
    concatenates_S128x128_S128x128_S128x128_S128x128_S128x512_d1

theorem part_0 (a b c d : FVec Ideal S128x128 .f32) (r l : Fin 128) :
    pieces a b c d (ix2 r ⟨l.val, by omega⟩) = a (ix2 r l) := by
  pointwise [pieces]

theorem part_1 (a b c d : FVec Ideal S128x128 .f32) (r l : Fin 128) :
    pieces a b c d (ix2 r ⟨128 + l.val, by omega⟩) = b (ix2 r l) := by
  pointwise [pieces]

theorem part_2 (a b c d : FVec Ideal S128x128 .f32) (r l : Fin 128) :
    pieces a b c d (ix2 r ⟨256 + l.val, by omega⟩) = c (ix2 r l) := by
  pointwise [pieces]
  refine (dif_neg (by omega)).trans ?_
  refine (dif_neg (by omega)).trans ?_
  refine (dif_pos (by omega)).trans ?_
  exact congrArg c (congrArg (fun R => ix2 r R) (Fin.ext (by simp only []; omega)))

theorem part_3 (a b c d : FVec Ideal S128x128 .f32) (r l : Fin 128) :
    pieces a b c d (ix2 r ⟨384 + l.val, by omega⟩) = d (ix2 r l) := by
  pointwise [pieces]
  refine (dif_neg (by omega)).trans ?_
  refine (dif_neg (by omega)).trans ?_
  refine (dif_neg (by omega)).trans ?_
  exact congrArg d (congrArg (fun R => ix2 r R) (Fin.ext (by simp only []; omega)))

/-- The block that is written. -/
noncomputable def outv : FVec Ideal S128x512 .f32 := k0_pay1 sl.v502 ((sl.r_35 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_36 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_37 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_38 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_39 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11))

theorem outv_eq : outv B = pieces ((sl.r_37 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_38 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_39 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) (beside ((sl.r_35 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11)) ((sl.r_36 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11))) := rfl

/-- The block at head `h`, lane `d` is the gated sum at the head's own half of the lanes. -/
theorem outv_gated (h : Fin 8) (r : Fin 128) (d : Fin 64) :
    outv B (ix2 r ⟨64 * h.val + d.val, by omega⟩) = gated B h.val h.isLt r ⟨64 * (h.val / 4) + d.val, by omega⟩ := by
  rw [outv_eq]
  match h with
  | ⟨0, _⟩ =>
    have e : (⟨64 * 0 + d.val, by omega⟩ : Fin 512) = ⟨(d.val), by omega⟩ := Fin.ext (by first | rfl | (simp only []; omega))
    simp only [e]
    refine (part_0 _ _ _ _ r ⟨d.val, by omega⟩).trans ?_
    rw [heads_01, if_pos (by simp only []; omega)]
    exact congrArg (gated B 0 (by omega) r) (Fin.ext (by simp only [turn]; omega))
  | ⟨1, _⟩ =>
    have e : (⟨64 * 1 + d.val, by omega⟩ : Fin 512) = ⟨(64 + d.val), by omega⟩ := Fin.ext (by first | rfl | (simp only []; omega))
    simp only [e]
    refine (part_0 _ _ _ _ r ⟨64 + d.val, by omega⟩).trans ?_
    rw [heads_01, if_neg (by simp only []; omega)]
    exact congrArg (gated B 1 (by omega) r) (Fin.ext (by simp only [turn]; omega))
  | ⟨2, _⟩ =>
    have e : (⟨64 * 2 + d.val, by omega⟩ : Fin 512) = ⟨128 + (d.val), by omega⟩ := Fin.ext (by first | rfl | (simp only []; omega))
    simp only [e]
    refine (part_1 _ _ _ _ r ⟨d.val, by omega⟩).trans ?_
    rw [heads_23, if_pos (by simp only []; omega)]
    exact congrArg (gated B 2 (by omega) r) (Fin.ext (by simp only [turn]; omega))
  | ⟨3, _⟩ =>
    have e : (⟨64 * 3 + d.val, by omega⟩ : Fin 512) = ⟨128 + (64 + d.val), by omega⟩ := Fin.ext (by first | rfl | (simp only []; omega))
    simp only [e]
    refine (part_1 _ _ _ _ r ⟨64 + d.val, by omega⟩).trans ?_
    rw [heads_23, if_neg (by simp only []; omega)]
    exact congrArg (gated B 3 (by omega) r) (Fin.ext (by simp only [turn]; omega))
  | ⟨4, _⟩ =>
    have e : (⟨64 * 4 + d.val, by omega⟩ : Fin 512) = ⟨256 + (d.val), by omega⟩ := Fin.ext (by first | rfl | (simp only []; omega))
    simp only [e]
    refine (part_2 _ _ _ _ r ⟨d.val, by omega⟩).trans ?_
    rw [heads_45, if_pos (by simp only []; omega)]
    exact congrArg (gated B 4 (by omega) r) (Fin.ext (by simp only [turn]; omega))
  | ⟨5, _⟩ =>
    have e : (⟨64 * 5 + d.val, by omega⟩ : Fin 512) = ⟨256 + (64 + d.val), by omega⟩ := Fin.ext (by first | rfl | (simp only []; omega))
    simp only [e]
    refine (part_2 _ _ _ _ r ⟨64 + d.val, by omega⟩).trans ?_
    rw [heads_45, if_neg (by simp only []; omega)]
  | ⟨6, _⟩ =>
    have e : (⟨64 * 6 + d.val, by omega⟩ : Fin 512) = ⟨384 + (d.val), by omega⟩ := Fin.ext (by first | rfl | (simp only []; omega))
    simp only [e]
    refine (part_3 _ _ _ _ r ⟨d.val, by omega⟩).trans ?_
    rw [beside_at, if_pos (by simp only []; omega), gated_6]
    exact congrArg (gated B 6 (by omega) r) (Fin.ext (by simp only [turn]; omega))
  | ⟨7, _⟩ =>
    have e : (⟨64 * 7 + d.val, by omega⟩ : Fin 512) = ⟨384 + (64 + d.val), by omega⟩ := Fin.ext (by first | rfl | (simp only []; omega))
    simp only [e]
    refine (part_3 _ _ _ _ r ⟨64 + d.val, by omega⟩).trans ?_
    rw [beside_at, if_neg (by simp only []; omega), gated_7]

/-- The block at head `h`, lane `d`: the three attentions, gated. -/
theorem outv_at (h : Fin 8) (r : Fin 128) (d : Fin 64) :
    outv B (ix2 r ⟨64 * h.val + d.val, by omega⟩) =
      B.x1 (ix2 r ⟨h.val, by omega⟩) * att (sc B h r) (fun n => B.x5 (ix2 n ⟨64 * (h.val / 4) + d.val, by omega⟩)) +
        B.x1 (ix2 r ⟨8 + h.val, by omega⟩) *
          att (ss B h r) (fun p => B.x2 (ix2 p ⟨128 + (64 * (h.val / 4) + d.val), by omega⟩)) +
        B.x1 (ix2 r ⟨16 + h.val, by omega⟩) *
          att (sw B h r) (fun p => B.x3 (ix2 p ⟨128 + (64 * (h.val / 4) + d.val), by omega⟩)) := by
  rw [outv_gated, gated, gates_at, o_c_at, o_s_at, o_w_at]

end Cert.Proof.AttnKernel
-- ==== Proof.AttnGoal.lean ====
module

public import proofs.«01_k».proof.Proof.AttnMath
public import proofs.«01_k».proof.Proof.AttnSpec
public import proofs.«01_k».proof.Proof.TopEight

/-! What the attention computes, written over its five arrays: the rows `Q` of the queries, `GA` of the gates, `KV` of
the keys and values, `KC` and `VC` of the compressed keys and values. -/

@[expose] public section
noncomputable section
namespace Cert.Proof.AttnGoal
open Idealize.ShloMosaic
open Cert.Proof.AttnMath Cert.Proof.TopEight Cert.Proof.AttnMath

variable (Q : Fin 16384 → Fin 512 → EReal) (GA : Fin 16384 → Fin 128 → EReal) (KV : Fin 16384 → Fin 512 → EReal)
  (KC VC : Fin 1024 → Fin 128 → EReal)

/-- One eighth, the scale of the scores. -/
def eighth : EReal := Ideal.ofBits .f32 0x3E000000#32

/-- The row of position `p` of sequence `b`. -/
def row (b : Fin 4) (p : Fin 4096) : Fin 16384 := ⟨4096 * b.val + p.val, by omega⟩

/-- The row of the compressed key `n` of sequence `b`. -/
def crow (b : Fin 4) (n : Fin 256) : Fin 1024 := ⟨256 * b.val + n.val, by omega⟩

/-- The product of a key with the query of head `h` at position `p`. -/
def dotk (b : Fin 4) (h : Fin 8) (p : Fin 4096) (K : Fin 64 → EReal) : EReal :=
  ∑ d : Fin 64, K d * (Q (row b p) ⟨64 * h.val + d.val, by omega⟩ * eighth)

/-- The score of the compressed key `n`. -/
def cmpS (b : Fin 4) (h : Fin 8) (p : Fin 4096) (n : Fin 256) : EReal :=
  if 16 * n.val + 31 > p.val then ⊥ else dotk Q b h p fun d => KC (crow b n) ⟨64 * (h.val / 4) + d.val, by omega⟩

/-- Whether the compressed key `n` overlaps block `j` of 64 keys. -/
def overlaps (j n : ℕ) : EReal := if 16 * n ≤ 64 * j + 63 ∧ 64 * j ≤ 16 * n + 31 ∧ n < 255 then 1 else 0

/-- The probability of a compressed key, summed over the four heads of a group. -/
def shareOf (b : Fin 4) (g : Fin 2) (p : Fin 4096) (n : Fin 256) : EReal :=
  ∑ k : Fin 4, prob (cmpS Q KC b ⟨4 * g.val + k.val, by omega⟩ p) n

/-- The score of block `j`. -/
def blkS (b : Fin 4) (g : Fin 2) (p : Fin 4096) (j : Fin 64) : EReal :=
  scoreOf p.val j.val (∑ n : Fin 256, overlaps j.val n.val * shareOf Q KC b g p n)

/-- The group of a head. -/
def grp (h : Fin 8) : Fin 2 := ⟨h.val / 4, by omega⟩

/-- The score of a key for the selected blocks: the eight best blocks are seen, up to the query. -/
def selS (b : Fin 4) (h : Fin 8) (p k : Fin 4096) : EReal :=
  if rank (blkS Q KC b (grp h) p) ⟨k.val / 64, by omega⟩ < 8 ∧ k.val ≤ p.val then
    dotk Q b h p fun d => KV (row b k) ⟨64 * (h.val / 4) + d.val, by omega⟩ else ⊥

/-- The score of a key for the window. -/
def winS (b : Fin 4) (h : Fin 8) (p k : Fin 4096) : EReal :=
  if k.val ≤ p.val ∧ p.val ≤ k.val + 512 then
    dotk Q b h p fun d => KV (row b k) ⟨256 + (64 * (h.val / 4) + d.val), by omega⟩ else ⊥

/-- Feature `d` of head `h` at position `p` of sequence `b`: the three attentions, each times its gate. -/
def goal (b : Fin 4) (p : Fin 4096) (h : Fin 8) (d : Fin 64) : EReal :=
  GA (row b p) ⟨h.val, by omega⟩ *
      att (cmpS Q KC b h p) (fun n => VC (crow b n) ⟨64 * (h.val / 4) + d.val, by omega⟩) +
    GA (row b p) ⟨8 + h.val, by omega⟩ *
      att (selS Q KV KC b h p) (fun k => KV (row b k) ⟨128 + (64 * (h.val / 4) + d.val), by omega⟩) +
    GA (row b p) ⟨16 + h.val, by omega⟩ *
      att (winS Q KV b h p) (fun k => KV (row b k) ⟨384 + (64 * (h.val / 4) + d.val), by omega⟩)

end Cert.Proof.AttnGoal
-- ==== Proof.AttnTables.lean ====
module

public import proofs.«01_k».proof.Proof.AttnBlock
public import Idealize.ShloMosaic.Lib.Claim
public import Idealize.ShloMosaic.Lib.Pipeline.ValueKit
public import Idealize.ShloMosaic.Lib.Pointwise
public import Idealize.ShloMosaic.Lib.WordCmp

/-! The six tables of zeros and ones that the host builds for the attention, read at an index. Each is a chain of word
operations on counters; the words stay small, so the comparisons are those of the natural numbers. -/

@[expose] public section
noncomputable section
namespace Cert.Proof.AttnKernel
open Cert.KernelIdeal Cert.KernelIdeal.Gen Idealize.ShloMosaic Idealize.ShloMosaic.TcCoe
set_option maxRecDepth 16384

/-! ## Words -/

theorem word_mul (a b : ℕ) : IntOp.muli (BitVec.ofNat 32 a) (BitVec.ofNat 32 b) = BitVec.ofNat 32 (a * b) :=
  (BitVec.ofNat_mul a b).symm

theorem word_add (a b : ℕ) : IntOp.addi (BitVec.ofNat 32 a) (BitVec.ofNat 32 b) = BitVec.ofNat 32 (a + b) :=
  (BitVec.ofNat_add a b).symm

theorem word_sub {a b : ℕ} (h : b ≤ a) : IntOp.subi (BitVec.ofNat 32 a) (BitVec.ofNat 32 b) = BitVec.ofNat 32 (a - b) := by
  obtain ⟨d, rfl⟩ := Nat.exists_eq_add_of_le h
  show BitVec.ofNat 32 (b + d) - BitVec.ofNat 32 b = _
  rw [BitVec.ofNat_add, Nat.add_sub_cancel_left]
  rw [BitVec.add_comm]
  exact BitVec.add_sub_cancel _ _

/-- The signed value of a difference of two small words. -/
theorem word_toInt {a b : ℕ} (ha : a < 2 ^ 30) (hb : b < 2 ^ 30) :
    (BitVec.ofNat 32 a - BitVec.ofNat 32 b).toInt = (a : ℤ) - b := by
  rw [BitVec.toInt_sub, WordCmp.toInt_ofNat_of_lt (by omega), WordCmp.toInt_ofNat_of_lt (by omega)]
  exact Int.bmod_eq_of_le (by omega) (by omega)

theorem word_slt {a b : ℕ} (ha : a < 2 ^ 30) (hb : b < 2 ^ 30) :
    IntOp.cmpi .slt (IntOp.subi (BitVec.ofNat 32 a) (BitVec.ofNat 32 b)) 0#32 = BitVec.ofBool (decide (a < b)) := by
  show BitVec.ofBool (BitVec.slt (BitVec.ofNat 32 a - BitVec.ofNat 32 b) 0#32) = _
  rw [BitVec.slt, word_toInt ha hb]
  congr 1
  exact decide_eq_decide.mpr (by show (a : ℤ) - b < 0 ↔ _; omega)

theorem word_sgt {a b k : ℕ} (ha : a < 2 ^ 30) (hb : b < 2 ^ 30) (hk : k < 2 ^ 30) :
    IntOp.cmpi .sgt (IntOp.subi (BitVec.ofNat 32 a) (BitVec.ofNat 32 b)) (BitVec.ofNat 32 k) =
      BitVec.ofBool (decide (b + k < a)) := by
  show BitVec.ofBool (BitVec.slt (BitVec.ofNat 32 k) (BitVec.ofNat 32 a - BitVec.ofNat 32 b)) = _
  rw [BitVec.slt, word_toInt ha hb, WordCmp.toInt_ofNat_of_lt (by omega)]
  congr 1
  exact decide_eq_decide.mpr (by omega)

theorem word_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem word_or (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem bit_low (p : Prop) [Decidable p] :
    (FloatOps.uitofp .bf16 (BitVec.ofBool (decide p)) : Ideal .bf16) = if p then (1 : EReal) else 0 := by
  show (((BitVec.ofBool (decide p)).toNat : ℝ) : EReal) = _
  by_cases h : p
  · simp [h]
  · simp [h]

theorem bit_full (p : Prop) [Decidable p] :
    (FloatOps.uitofp .f32 (BitVec.ofBool (decide p)) : Ideal .f32) = if p then (1 : EReal) else 0 := by
  show (((BitVec.ofBool (decide p)).toNat : ℝ) : EReal) = _
  by_cases h : p
  · simp [h]
  · simp [h]

/-- The host's floor division of a small word by 64. -/
theorem word_floor : ∀ p : Fin 4096,
    Scalar.select
      (IntOp.andi
        (IntOp.cmpi CmpIPredicate.ne
          (if BitVec.ofNat 32 p.val = 0 then 0 else if (BitVec.ofNat 32 p.val).msb = true then -1 else 1 : BitVec 32)
          (if 64#32 = 0 then 0 else if (64#32).msb = true then -1 else 1 : BitVec 32))
        (IntOp.cmpi CmpIPredicate.ne (IntOp.remsi ArithUnit.host (BitVec.ofNat 32 p.val) 64#32) 0#32))
      (IntOp.subi (IntOp.divsi ArithUnit.host (BitVec.ofNat 32 p.val) 64#32) 1#32)
      (IntOp.divsi ArithUnit.host (BitVec.ofNat 32 p.val) 64#32) = BitVec.ofNat 32 (p.val / 64) := by
  decide +kernel

/-- The host's remainder of a word by `k`, as the line computes it. -/
abbrev remWord (x k : BitVec 32) : BitVec 32 :=
  Scalar.select
    (IntOp.andi
      (IntOp.cmpi CmpIPredicate.ne
        (IntOp.cmpi CmpIPredicate.slt
          (IntOp.remsi ArithUnit.host x (Scalar.select (IntOp.cmpi CmpIPredicate.eq k 0#32) 1#32 k)) 0#32)
        (IntOp.cmpi CmpIPredicate.slt (Scalar.select (IntOp.cmpi CmpIPredicate.eq k 0#32) 1#32 k) 0#32))
      (IntOp.cmpi CmpIPredicate.ne
        (IntOp.remsi ArithUnit.host x (Scalar.select (IntOp.cmpi CmpIPredicate.eq k 0#32) 1#32 k)) 0#32))
    (IntOp.addi (IntOp.remsi ArithUnit.host x (Scalar.select (IntOp.cmpi CmpIPredicate.eq k 0#32) 1#32 k))
      (Scalar.select (IntOp.cmpi CmpIPredicate.eq k 0#32) 1#32 k))
    (IntOp.remsi ArithUnit.host x (Scalar.select (IntOp.cmpi CmpIPredicate.eq k 0#32) 1#32 k))

theorem rem_lane : ∀ r : Fin 128, remWord (BitVec.ofNat 32 r.val) 64#32 = BitVec.ofNat 32 (r.val % 64) := by
  decide +kernel

theorem rem_row : ∀ R : Fin 1024, remWord (BitVec.ofNat 32 R.val) 128#32 = BitVec.ofNat 32 (R.val % 128) := by
  decide +kernel

/-! ## The tables -/

variable (m : (ℓ : Loc nD τ sig) → Buf (Elt Ideal) ℓ) (c : Dev nD)

/-- Compressed keys that end after the query, per block of queries. -/
theorem table_later_c (b : Fin 32) (n : Fin 256) (r : Fin 128) :
    V m c main_v20 (ix3 b n r) = if 16 * n.val + 31 > 128 * b.val + r.val then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  try simp only [StableHlo.TRef.ofBuf, StableHlo.TRef.toBuf, cast_eq, StableHlo.TRef.of]
  pointwise []
  have hn := n.isLt
  have hr := r.isLt
  have hb := b.isLt
  rw [word_mul, word_mul, word_add, word_add, word_sub (by omega), WordCmp.cmpi_sgt_ofNat (by omega) (by omega)]
  exact (bit_low _).trans (if_congr (by first | omega | (simp only []; omega)) rfl rfl)

/-- The block of 64 keys a key belongs to. -/
theorem table_block_of (b : Fin 8) (n : Fin 512) (r : Fin 128) :
    V m c main_v30 (ix3 b n r) = if (512 * b.val + n.val) / 64 = r.val % 64 then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  try simp only [StableHlo.TRef.ofBuf, StableHlo.TRef.toBuf, cast_eq, StableHlo.TRef.of]
  pointwise []
  have hn := n.isLt
  have hr := r.isLt
  have hb := b.isLt
  have hf := word_floor ⟨b.val * 512 + n.val, by omega⟩
  have hm := rem_lane r
  refine (congrArg₂ (fun x y : BitVec 32 => (FloatOps.uitofp .bf16 (IntOp.cmpi .eq x y) : Ideal .bf16)) hf hm).trans ?_
  rw [WordCmp.cmpi_eq_ofNat (by omega) (by omega)]
  exact (bit_low _).trans (if_congr (by first | omega | (simp only []; omega)) rfl rfl)

/-- Keys of a pass that come after the query. -/
theorem table_later_s (b : Fin 5) (n : Fin 512) (r : Fin 128) :
    V m c main_v49 (ix3 b n r) = if n.val > 128 * b.val + r.val ∧ b.val < 4 then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  try simp only [StableHlo.TRef.ofBuf, StableHlo.TRef.toBuf, cast_eq, StableHlo.TRef.of]
  pointwise []
  have hn := n.isLt
  have hr := r.isLt
  have hb := b.isLt
  rw [word_mul, word_add, WordCmp.cmpi_sgt_ofNat (by omega) (by omega), WordCmp.cmpi_slt_ofNat (by omega) (by omega), word_and]
  exact (bit_low _).trans (if_congr (by first | omega | (simp only []; omega)) rfl rfl)

/-- Keys outside the window. -/
theorem table_outside (b : Fin 5) (n : Fin 640) (r : Fin 128) :
    V m c main_v68 (ix3 b n r) = if (128 * b.val + r.val < n.val ∨ n.val + 512 < 128 * b.val + r.val) then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  try simp only [StableHlo.TRef.ofBuf, StableHlo.TRef.toBuf, cast_eq, StableHlo.TRef.of]
  pointwise []
  have hn := n.isLt
  have hr := r.isLt
  have hb := b.isLt
  rw [word_mul, word_add, word_slt (by omega) (by omega), word_sgt (by omega) (by omega) (by omega), word_or]
  exact (bit_low _).trans (if_congr (by first | omega | (simp only []; omega)) rfl rfl)

/-- The query of each row. -/
theorem table_own (n : Fin 1024) (r : Fin 128) :
    V m c main_v118 (ix2 n r) = if r.val = n.val % 128 then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  try simp only [StableHlo.TRef.ofBuf, StableHlo.TRef.toBuf, cast_eq, StableHlo.TRef.of]
  pointwise []
  have hn := n.isLt
  have hr := r.isLt
  have hm := rem_row n
  simp only [remWord] at hm
  rw [hm, WordCmp.cmpi_eq_ofNat (by omega) (by omega)]
  exact (bit_full _).trans (if_congr (by first | omega | (simp only []; omega)) rfl rfl)

/-- Overlaps of compressed keys and blocks. -/
theorem table_overlap (n : Fin 128) (r : Fin 256) :
    V m c main_v108 (ix2 n r) = if 16 * r.val ≤ 64 * n.val + 63 ∧ 64 * n.val ≤ 16 * r.val + 31 ∧ r.val < 255 ∧ n.val < 64 then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  try simp only [StableHlo.TRef.ofBuf, StableHlo.TRef.toBuf, cast_eq, StableHlo.TRef.of]
  pointwise []
  have hn := n.isLt
  have hr := r.isLt
  rw [word_mul, word_mul, word_add, word_add, word_sub (by omega), word_sub (by omega), WordCmp.cmpi_sle_ofNat (by omega) (by omega),
    WordCmp.cmpi_sge_ofNat (by omega) (by omega), WordCmp.cmpi_slt_ofNat (by omega) (by omega),
    WordCmp.cmpi_slt_ofNat (by omega) (by omega), word_and, word_and, word_and]
  exact (bit_full _).trans (if_congr (by first | omega | (simp only []; omega)) rfl rfl)

end Cert.Proof.AttnKernel
-- ==== Proof.AttnFinal.lean ====
module

public import proofs.«01_k».proof.Proof.AttnOut
public import proofs.«01_k».proof.Proof.AttnGoal
public import proofs.«01_k».proof.Proof.AttnTables
public import proofs.«01_k».proof.Proof.Gen.KernelIdeal.Value

/-! The attention kernel's whole output: every block is the goal's part, and the blocks cover the array. -/

@[expose] public section
noncomputable section
namespace Cert.Proof.AttnKernel
open Cert.KernelIdeal Cert.KernelIdeal.Gen Cert.KernelIdeal.Gen.kernelRun0_A Idealize.ShloMosaic Idealize.ShloMosaic.TcCoe
open Idealize.SL.Sem
open Cert.Proof.AttnMath Cert.Proof.TopEight
set_option maxRecDepth 16384

/-! ## A block against the goal -/

section Block

variable (B : Blk) (Q : Fin 16384 → Fin 512 → EReal) (GA : Fin 16384 → Fin 128 → EReal) (KV : Fin 16384 → Fin 512 → EReal)
  (KC VC : Fin 1024 → Fin 128 → EReal) (b : Fin 4)

/-- The position of the block's row `r`. -/
def posn (r : Fin 128) : Fin 4096 := ⟨128 * (B.i 1).val + r.val, by have := block_lt B; omega⟩

/-- What the block reads of the five arrays. -/
structure Reads : Prop where
  q : ∀ (r : Fin 128) (l : Fin 512), B.x0 (ix2 r l) = Q (AttnGoal.row b (posn B r)) l
  gate : ∀ (r : Fin 128) (l : Fin 128), B.x1 (ix2 r l) = GA (AttnGoal.row b (posn B r)) l
  sel : ∀ (p : Fin 4096) (l : Fin 256), B.x2 (ix2 p l) = KV (AttnGoal.row b p) ⟨l.val, by omega⟩
  win : ∀ (p : Fin 4096) (l : Fin 256), B.x3 (ix2 p l) = KV (AttnGoal.row b p) ⟨256 + l.val, by omega⟩
  ck : ∀ (n : Fin 256) (l : Fin 128), B.x4 (ix2 n l) = KC (AttnGoal.crow b n) l
  cv : ∀ (n : Fin 256) (l : Fin 128), B.x5 (ix2 n l) = VC (AttnGoal.crow b n) l

variable {B Q GA KV KC VC b}

theorem dotq_eq (R : Reads B Q GA KV KC VC b) (h : Fin 8) (r : Fin 128) (K : Fin 128 → EReal) :
    dotq B h r K = AttnGoal.dotk Q b h (posn B r) fun d => K ⟨64 * (h.val / 4) + d.val, by omega⟩ := by
  unfold dotq AttnGoal.dotk
  exact Finset.sum_congr rfl fun d _ => congrArg _ (congrArg (· * eighth) (R.q r _))

theorem sc_eq (R : Reads B Q GA KV KC VC b) (h : Fin 8) (r : Fin 128) : sc B h r = AttnGoal.cmpS Q KC b h (posn B r) := by
  funext n
  unfold sc AttnGoal.cmpS
  rw [dotq_eq R]
  simp only [R.ck]
  rfl

theorem sw_eq (R : Reads B Q GA KV KC VC b) (h : Fin 8) (r : Fin 128) : sw B h r = AttnGoal.winS Q KV b h (posn B r) := by
  funext p
  unfold sw AttnGoal.winS
  rw [dotq_eq R]
  simp only [R.win]
  rfl

theorem share_eq (R : Reads B Q GA KV KC VC b) (g : Fin 2) (r : Fin 128) (n : Fin 256) :
    share B g r n = AttnGoal.shareOf Q KC b g (posn B r) n := by
  unfold share AttnGoal.shareOf
  simp only [sc_eq R]

theorem imp_eq (R : Reads B Q GA KV KC VC b) (g : Fin 2) (r : Fin 128) (j : Fin 64) :
    imp B g r (j.castLE (by omega)) = ∑ n : Fin 256, AttnGoal.overlaps j.val n.val * AttnGoal.shareOf Q KC b g (posn B r) n := by
  unfold imp
  refine Finset.sum_congr rfl fun n _ => ?_
  rw [share_eq R, B.overlap]
  congr 1
  unfold AttnGoal.overlaps
  exact if_congr (by have := j.isLt; simp only [Fin.val_castLE]; omega) rfl rfl

theorem rank_eq (R : Reads B Q GA KV KC VC b) (g : Fin 2) (r : Fin 128) (j : Fin 64) :
    rank (blockScore B g r) (j.castLE (by omega)) = rank (AttnGoal.blkS Q KC b g (posn B r)) j := by
  rw [rank_castLE (n := 128) (m := 64) (by omega) (blockScore B g r)]
  · congr 1
    funext k
    unfold blockScore AttnGoal.blkS
    rw [if_pos (by simp only [Fin.val_castLE]; exact k.isLt), imp_eq R]
    rfl
  · intro j k hj
    rw [blockScore, if_neg (by omega), blockScore, if_pos (by simp only [Fin.val_castLE]; exact k.isLt), spare_eq]
    refine lt_of_lt_of_le ?_ (scoreOf_ge _ _ (imp_real B g r _))
    have : (-2 : ℝ) < -1 := by norm_num
    exact_mod_cast this

theorem ss_eq (R : Reads B Q GA KV KC VC b) (h : Fin 8) (r : Fin 128) : ss B h r = AttnGoal.selS Q KV KC b h (posn B r) := by
  funext p
  unfold ss AttnGoal.selS
  have e := rank_eq R (group h) r ⟨p.val / 64, by omega⟩
  rw [dotq_eq R]
  simp only [R.sel]
  refine if_congr (and_congr (Iff.of_eq (congrArg (· < 8) ?_)) Iff.rfl) rfl rfl
  exact e

theorem block_goal (R : Reads B Q GA KV KC VC b) (r : Fin 128) (h : Fin 8) (d : Fin 64) :
    outv B (ix2 r ⟨64 * h.val + d.val, by omega⟩) = AttnGoal.goal Q GA KV KC VC b (posn B r) h d := by
  rw [outv_at, sc_eq R, ss_eq R, sw_eq R]
  simp only [R.gate, R.sel, R.win, R.cv]
  unfold AttnGoal.goal
  congr 3
  funext k
  exact congrArg _ (Fin.ext (by simp only []; omega))

end Block

/-! ## The blocks of the run -/

variable (m : (ℓ : Loc nD τ sig) → Buf (Elt Ideal) ℓ) (c : Dev nD)

theorem idx : ∀ t : Fin cfg0.N,
    win0_0.index t = ![t.val, 0] ∧ win0_1.index t = ![t.val, 0] ∧ win0_2.index t = ![t.val / 32, 0] ∧
    win0_3.index t = ![t.val / 32, 1] ∧ win0_4.index t = ![t.val / 32, 0] ∧ win0_5.index t = ![t.val / 32, 0] ∧
    win0_6.index t = ![t.val % 32, 0, 0] ∧ win0_7.index t = ![0, 0, 0] ∧ win0_8.index t = ![0, 0, 0] ∧
    win0_9.index t = ![0, 0, 0] ∧ win0_10.index t = ![0, 0] ∧ win0_11.index t = ![0, 0] ∧ win0_12.index t = ![t.val, 0] ∧
    ((grid0.coords t) 1).val = t.val % 32 :=
  (by decide +kernel : ∀ t : Fin grid0.N, _)

/-! ### The tables, block by block -/

theorem blk_later_c (t : Fin cfg0.N) (n : Fin 256) (r : Fin 128) : iblk m c 6 t (ix3 0 n r) = V m c main_v20 (ix3 ⟨t.val % 32, Nat.mod_lt _ (by omega)⟩ n r) := by
  unfold iblk
  generalize V m c (Pipeline.arrRef spec0 6) = X
  blk_ext [idx t]

theorem blk_block_of (t : Fin cfg0.N) (j : Fin 8) (k : Fin 512) (l : Fin 128) : iblk m c 7 t (ix3 j k l) = V m c main_v30 (ix3 j k l) := by
  unfold iblk
  generalize V m c (Pipeline.arrRef spec0 7) = X
  blk_ext [idx t]

theorem blk_later_s (t : Fin cfg0.N) (d : Fin 5) (k : Fin 512) (r : Fin 128) : iblk m c 8 t (ix3 d k r) = V m c main_v49 (ix3 d k r) := by
  unfold iblk
  generalize V m c (Pipeline.arrRef spec0 8) = X
  blk_ext [idx t]

theorem blk_outside (t : Fin cfg0.N) (w : Fin 5) (k : Fin 640) (r : Fin 128) : iblk m c 9 t (ix3 w k r) = V m c main_v68 (ix3 w k r) := by
  unfold iblk
  generalize V m c (Pipeline.arrRef spec0 9) = X
  blk_ext [idx t]

theorem blk_own (t : Fin cfg0.N) (R : Fin 1024) (r : Fin 128) : iblk m c 10 t (ix2 R r) = V m c main_v118 (ix2 R r) := by
  unfold iblk
  generalize V m c (Pipeline.arrRef spec0 10) = X
  blk_ext [idx t]

theorem blk_overlap (t : Fin cfg0.N) (j : Fin 128) (n : Fin 256) : iblk m c 11 t (ix2 j n) = V m c main_v108 (ix2 j n) := by
  unfold iblk
  generalize V m c (Pipeline.arrRef spec0 11) = X
  blk_ext [idx t]

/-- The block at point `t`. -/
def blkAt (t : Fin cfg0.N) : Blk where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  later_c n r := ((blk_later_c m c t n r).trans (table_later_c m c _ n r)).trans (if_congr (by rw [(idx t).2.2.2.2.2.2.2.2.2.2.2.2.2]) rfl rfl)
  block_of j k l := (blk_block_of m c t j k l).trans (table_block_of m c j k l)
  later_s d k r := (blk_later_s m c t d k r).trans (table_later_s m c d k r)
  outside w k r := by
    refine ((blk_outside m c t w k r).trans (table_outside m c w k r)).trans ?_
    by_cases h : k.val ≤ 128 * w.val + r.val ∧ 128 * w.val + r.val ≤ k.val + 512
    · rw [if_pos h, if_neg (by omega)]
    · rw [if_neg h, if_pos (by omega)]
  own R r := (blk_own m c t R r).trans (table_own m c R r)
  overlap j n := (blk_overlap m c t j n).trans (table_overlap m c j n)

/-- The sequence of point `t`. -/
def seqAt (t : Fin cfg0.N) : Fin 4 := ⟨t.val / 32, by have : t.val < 128 := t.isLt; omega⟩

/-- The rows of an argument. -/
def rows0 : Fin 16384 → Fin 512 → EReal := fun R l => m ((c : Thread nD τ).loc main_arg0) (ix2 R l)
def rows1 : Fin 16384 → Fin 128 → EReal := fun R l => m ((c : Thread nD τ).loc main_arg1) (ix2 R l)
def rows2 : Fin 16384 → Fin 512 → EReal := fun R l => m ((c : Thread nD τ).loc main_arg2) (ix2 R l)
def rows3 : Fin 1024 → Fin 128 → EReal := fun R l => m ((c : Thread nD τ).loc main_arg3) (ix2 R l)
def rows4 : Fin 1024 → Fin 128 → EReal := fun R l => m ((c : Thread nD τ).loc main_arg4) (ix2 R l)

theorem coord_one (t : Fin cfg0.N) : ((grid0.coords t) 1).val = t.val % 32 := (idx t).2.2.2.2.2.2.2.2.2.2.2.2.2

theorem row_at (t : Fin cfg0.N) (r : Fin 128) :
    AttnGoal.row (seqAt t) (posn (blkAt m c t) r) = ⟨128 * t.val + r.val, by have : t.val < 128 := t.isLt; omega⟩ := by
  apply Fin.ext
  show 4096 * (t.val / 32) + (128 * ((grid0.coords t) 1).val + r.val) = _
  rw [coord_one]
  show _ = 128 * t.val + r.val
  omega

theorem read_q (t : Fin cfg0.N) (r : Fin 128) (l : Fin 512) (R : Fin 16384) (hR : R.val = 128 * t.val + r.val) :
    iblk m c 0 t (ix2 r l) = rows0 m c R l := by
  refine Eq.trans (b := V m c main_arg0 (ix2 R l)) ?_ (congrFun (V_main_arg0 m c) _)
  unfold iblk
  generalize V m c (Pipeline.arrRef spec0 0) = X
  blk_ext [idx t]

theorem read_gate (t : Fin cfg0.N) (r : Fin 128) (l : Fin 128) (R : Fin 16384) (hR : R.val = 128 * t.val + r.val) :
    iblk m c 1 t (ix2 r l) = rows1 m c R l := by
  refine Eq.trans (b := V m c main_arg1 (ix2 R l)) ?_ (congrFun (V_main_arg1 m c) _)
  unfold iblk
  generalize V m c (Pipeline.arrRef spec0 1) = X
  blk_ext [idx t]

theorem read_sel (t : Fin cfg0.N) (p : Fin 4096) (l : Fin 256) (R : Fin 16384) (hR : R.val = 4096 * (t.val / 32) + p.val) :
    iblk m c 2 t (ix2 p l) = rows2 m c R ⟨l.val, by omega⟩ := by
  refine Eq.trans (b := V m c main_arg2 (ix2 R ⟨l.val, by omega⟩)) ?_ (congrFun (V_main_arg2 m c) _)
  unfold iblk
  generalize V m c (Pipeline.arrRef spec0 2) = X
  blk_ext [idx t]

theorem read_win (t : Fin cfg0.N) (p : Fin 4096) (l : Fin 256) (R : Fin 16384) (hR : R.val = 4096 * (t.val / 32) + p.val) :
    iblk m c 3 t (ix2 p l) = rows2 m c R ⟨256 + l.val, by omega⟩ := by
  refine Eq.trans (b := V m c main_arg2 (ix2 R ⟨256 + l.val, by omega⟩)) ?_ (congrFun (V_main_arg2 m c) _)
  unfold iblk
  generalize V m c (Pipeline.arrRef spec0 3) = X
  blk_ext [idx t]

theorem read_ck (t : Fin cfg0.N) (n : Fin 256) (l : Fin 128) (R : Fin 1024) (hR : R.val = 256 * (t.val / 32) + n.val) :
    iblk m c 4 t (ix2 n l) = rows3 m c R l := by
  refine Eq.trans (b := V m c main_arg3 (ix2 R l)) ?_ (congrFun (V_main_arg3 m c) _)
  unfold iblk
  generalize V m c (Pipeline.arrRef spec0 4) = X
  blk_ext [idx t]

theorem read_cv (t : Fin cfg0.N) (n : Fin 256) (l : Fin 128) (R : Fin 1024) (hR : R.val = 256 * (t.val / 32) + n.val) :
    iblk m c 5 t (ix2 n l) = rows4 m c R l := by
  refine Eq.trans (b := V m c main_arg4 (ix2 R l)) ?_ (congrFun (V_main_arg4 m c) _)
  unfold iblk
  generalize V m c (Pipeline.arrRef spec0 5) = X
  blk_ext [idx t]

theorem at_sel (t : Fin cfg0.N) (p : Fin 4096) (l : Fin 256) :
    (blkAt m c t).x2 (ix2 p l) = rows2 m c (AttnGoal.row (seqAt t) p) ⟨l.val, by omega⟩ := by
  have e := read_sel m c t p l (AttnGoal.row (seqAt t) p) rfl
  rw [← e]
  dsimp only [blkAt]

theorem at_win (t : Fin cfg0.N) (p : Fin 4096) (l : Fin 256) :
    (blkAt m c t).x3 (ix2 p l) = rows2 m c (AttnGoal.row (seqAt t) p) ⟨256 + l.val, by omega⟩ := by
  have e := read_win m c t p l (AttnGoal.row (seqAt t) p) rfl
  rw [← e]
  dsimp only [blkAt]

theorem at_ck (t : Fin cfg0.N) (n : Fin 256) (l : Fin 128) :
    (blkAt m c t).x4 (ix2 n l) = rows3 m c (AttnGoal.crow (seqAt t) n) l := by
  have e := read_ck m c t n l (AttnGoal.crow (seqAt t) n) rfl
  rw [← e]
  dsimp only [blkAt]

theorem at_cv (t : Fin cfg0.N) (n : Fin 256) (l : Fin 128) :
    (blkAt m c t).x5 (ix2 n l) = rows4 m c (AttnGoal.crow (seqAt t) n) l := by
  have e := read_cv m c t n l (AttnGoal.crow (seqAt t) n) rfl
  rw [← e]
  dsimp only [blkAt]

theorem at_q (t : Fin cfg0.N) (r : Fin 128) (l : Fin 512) :
    (blkAt m c t).x0 (ix2 r l) = rows0 m c (AttnGoal.row (seqAt t) (posn (blkAt m c t) r)) l := by
  have e := read_q m c t r l _ (congrArg Fin.val (row_at m c t r))
  rw [← e]
  dsimp only [blkAt]

theorem at_gate (t : Fin cfg0.N) (r : Fin 128) (l : Fin 128) :
    (blkAt m c t).x1 (ix2 r l) = rows1 m c (AttnGoal.row (seqAt t) (posn (blkAt m c t) r)) l := by
  have e := read_gate m c t r l _ (congrArg Fin.val (row_at m c t r))
  rw [← e]
  dsimp only [blkAt]

theorem readsAt (t : Fin cfg0.N) :
    Reads (blkAt m c t) (rows0 m c) (rows1 m c) (rows2 m c) (rows3 m c) (rows4 m c) (seqAt t) :=
  ⟨at_q m c t, at_gate m c t, at_sel m c t, at_win m c t, at_ck m c t, at_cv m c t⟩

/-- The whole output, index by index. -/
def G : Vec Ideal S16384x512 .f32 := fun i =>
  AttnGoal.goal (rows0 m c) (rows1 m c) (rows2 m c) (rows3 m c) (rows4 m c)
    ⟨(i 0).val / 4096, by have : (i 0).val < 16384 := (i 0).isLt; omega⟩
    ⟨(i 0).val % 4096, Nat.mod_lt _ (by omega)⟩
    ⟨(i 1).val / 64, by have : (i 1).val < 512 := (i 1).isLt; omega⟩ ⟨(i 1).val % 64, Nat.mod_lt _ (by omega)⟩

/-- What a point leaves in the output's block is the block of `outv`. -/
theorem out_eq (B : Blk) (r : Fin 128) (k : Fin 512) : out0_A_12 B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.x0 B.x1 B.x2 B.x3 B.x4 B.x5 B.x6 B.x7 B.x8 B.x9 B.x10 B.x11 (ix2 r k) = outv B (ix2 r k) := by
  unfold out0_A_12
  rw [View.read_writes_junk_eq_canon]
  unfold kernelRun0_A
  dsimp only
  rw [View.canon_unit_zero (by decide)]
  rfl

theorem outsAt_eq (t : Fin cfg0.N) (r : Fin 128) (k : Fin 512) :
    outsAt0 m c t (ix2 r k) = outv (blkAt m c t) (ix2 r k) := by
  have e := out_eq (blkAt m c t) r k
  rw [← e]
  unfold outsAt0
  dsimp only [blkAt]

theorem outv_goal (t : Fin cfg0.N) (r : Fin 128) (k : Fin 512) :
    outv (blkAt m c t) (ix2 r k) =
      AttnGoal.goal (rows0 m c) (rows1 m c) (rows2 m c) (rows3 m c) (rows4 m c) (seqAt t) (posn (blkAt m c t) r)
        ⟨k.val / 64, by omega⟩ ⟨k.val % 64, Nat.mod_lt _ (by omega)⟩ :=
  (congrArg (fun k => outv (blkAt m c t) (ix2 r k)) (Fin.ext (by simp only []; omega))).trans
    (block_goal (readsAt m c t) r ⟨k.val / 64, by omega⟩ ⟨k.val % 64, Nat.mod_lt _ (by omega)⟩)

theorem final : (dats m 0 c).arrAt 12 cfg0.N = G m c := by
  refine (dats m 0 c).arrAt_eq_of_covers 12 _ (by decide +kernel) fun t _ y => ?_
  blk_simp
  rw [after0_12]
  refine Eq.trans (congrArg _ (show y = ix2 (y 0) (y 1) from by idx_ext)) ?_
  refine (outsAt_eq m c t (y 0) (y 1)).trans ((outv_goal m c t (y 0) (y 1)).trans ?_)
  unfold G
  congr 1
  all_goals (apply Fin.ext; blk_simp [idx t])
  · show t.val / 32 = (t.val * 128 + (y 0).val) / 4096
    have : (y 0).val < 128 := (y 0).isLt
    omega
  · show 128 * ((grid0.coords t) 1).val + (y 0).val = (t.val * 128 + (y 0).val) % 4096
    rw [coord_one]
    have : (y 0).val < 128 := (y 0).isLt
    omega

end Cert.Proof.AttnKernel
-- ==== Proof.AttnReference.lean ====
module

public import proofs.«01_k».proof.Proof.AttnGoal
public import proofs.«01_k».proof.Proof.AttnTables
public import proofs.«01_k».proof.Proof.Gen.RefIdeal.Run

/-! The reference's intermediate arrays, read at an index. -/

@[expose] public section
noncomputable section
namespace Cert.Proof.AttnReference
open Cert.RefIdeal Cert.RefIdeal.Value Idealize.ShloMosaic Idealize.ShloMosaic.TcCoe Idealize.SL.Sem
open Cert.Proof.AttnMath Cert.Proof.TopEight
open Cert.Proof.AttnKernel (word_mul word_add word_sub word_slt word_sgt word_and word_or bit_full)
set_option maxRecDepth 16384

/-! ## Words and folds -/

theorem select_bit {α : Type} (P : Prop) [Decidable P] (x y : α) :
    Scalar.select (BitVec.ofBool (decide P)) x y = if P then x else y := by
  by_cases h : P
  · rw [if_pos h, Scalar.select, if_pos (by simp [h])]
  · rw [if_neg h, Scalar.select, if_neg (by simp [h])]

theorem neg_inf : Ideal.ofBits .f32 4286578688#32 = (⊥ : EReal) := by
  rw [Ideal.ofBits]
  simp [Ideal.ieee]

theorem zero_bits : Ideal.ofBits .f32 0#32 = (0 : EReal) := by
  rw [Ideal.ofBits]
  simp [Ideal.ieee]

theorem fold_sup {ι : Type} [Fintype ι] (f : ι → EReal) : Finset.univ.fold max ⊥ f = Finset.univ.sup f := rfl

/-- The largest entry along the last axis. -/
theorem sup_last {N : ℕ} (h : (⟨5, ![4, 4096, 2, 4, N]⟩ : Shape).ReducesTo [4] ⟨4, ![4, 4096, 2, 4]⟩)
    (v : (⟨5, ![4, 4096, 2, 4, N]⟩ : Shape).Idx → EReal) (b : Fin 4) (p : Fin 4096) (g : Fin 2) (k : Fin 4) :
    Finset.fold max (Ideal.ofBits .f32 4286578688#32) v (Finset.univ.filter fun i => h.drop i = ix4 b p g k) =
      Finset.univ.sup fun n => v (ix5 b p g k n) := by
  rw [Shape.ReducesTo.fold_fiber_r5_a4, neg_inf]
  rfl

/-- A masked exponential is the weight, where the scores are −∞ off the mask. -/
theorem masked_wt {N : ℕ} (P : Prop) [Decidable P] (s : Fin N → EReal) (n : Fin N) (m : EReal)
    (hm : m = Finset.univ.sup s) (h : ¬ P → s n = ⊥) : (if P then Ideal.exp (s n - m) else 0) = wt s n := by
  by_cases hP : P
  · rw [if_pos hP, hm]
    rfl
  · rw [if_neg hP, wt_masked s n (h hP)]

variable (V0 : Valuation τ sig (Elt Ideal)) (b : Fin 4) (p : Fin 4096) (g : Fin 2) (k : Fin 4)

/-! ## The arguments by rows -/

def q0 : Fin 16384 → Fin 512 → EReal := fun R l => V0 (Proc.devRef .tc main_arg0) (ix2 R l)
def g0 : Fin 16384 → Fin 128 → EReal := fun R l => V0 (Proc.devRef .tc main_arg1) (ix2 R l)
def kv0 : Fin 16384 → Fin 512 → EReal := fun R l => V0 (Proc.devRef .tc main_arg2) (ix2 R l)
def kc0 : Fin 1024 → Fin 128 → EReal := fun R l => V0 (Proc.devRef .tc main_arg3) (ix2 R l)
def vc0 : Fin 1024 → Fin 128 → EReal := fun R l => V0 (Proc.devRef .tc main_arg4) (ix2 R l)

/-- The head `k` of group `g`. -/
def head : Fin 8 := ⟨4 * g.val + k.val, by omega⟩

theorem q_at (d : Fin 64) : res_main_v2 V0 (ix5 b p g k d) =
    q0 V0 (AttnGoal.row b p) ⟨64 * (head g k).val + d.val, by omega⟩ * AttnGoal.eighth := by
  pointwise [res_main_v2]
  refine congrArg (· * AttnGoal.eighth) (congrArg (V0 (Proc.devRef .tc main_arg0)) ?_)
  unfold AttnGoal.row head
  idx_ext

theorem gate_at (w : Fin 3) : res_main_v4 V0 (ix5 b p w g k) = g0 V0 (AttnGoal.row b p) ⟨8 * w.val + (head g k).val, by omega⟩ := by
  pointwise [res_main_v4]
  refine congrArg (V0 (Proc.devRef .tc main_arg1)) ?_
  unfold AttnGoal.row head
  idx_ext

theorem kv_at (w : Fin 4) (d : Fin 64) : res_main_v6 V0 (ix5 b p w g d) =
    kv0 V0 (AttnGoal.row b p) ⟨128 * w.val + (64 * g.val + d.val), by omega⟩ := by
  pointwise [res_main_v6]
  refine congrArg (V0 (Proc.devRef .tc main_arg2)) ?_
  unfold AttnGoal.row
  idx_ext

/-! ## The compressed keys -/

theorem mask_c (n : Fin 255) : res_main_v51 V0 (ix5 0 p 0 0 n) = BitVec.ofBool (decide (16 * n.val + 31 ≤ p.val)) := by
  pointwise [res_main_v51, res_main_v26, res_main_v22, res_main_v19]
  rw [word_mul, word_add, word_sub (by omega), WordCmp.cmpi_sle_ofNat (by omega) (by omega)]
  exact congrArg BitVec.ofBool (decide_eq_decide.mpr (by omega))

/-- The wider index of a compressed key. -/
def wide (n : Fin 255) : Fin 256 := ⟨n.val, by omega⟩

theorem score_c (n : Fin 255) : res_main_v52 V0 (ix5 b p g k n) = AttnGoal.cmpS (q0 V0) (kc0 V0) b (head g k) p (wide n) := by
  pointwise [res_main_v52]
  rw [mask_c, select_bit]
  unfold AttnGoal.cmpS
  by_cases h : 16 * n.val + 31 ≤ p.val
  · rw [if_pos h, if_neg (by unfold wide; simp only []; omega)]
    unfold AttnGoal.dotk
    refine Finset.sum_congr (M := EReal) rfl fun d _ => ?_
    rw [q_at]
    refine congrArg (· * _) (congrArg (V0 (Proc.devRef .tc main_arg3)) ?_)
    unfold AttnGoal.crow head wide
    idx_ext
  · rw [if_neg h, if_pos (by unfold wide; simp only []; omega)]
    exact neg_inf

/-- The scores over the 255 compressed keys. -/
def shortS (n : Fin 255) : EReal := AttnGoal.cmpS (q0 V0) (kc0 V0) b (head g k) p (wide n)

theorem shortS_masked (n : Fin 255) (h : ¬ 16 * n.val + 31 ≤ p.val) : shortS V0 b p g k n = ⊥ := by
  unfold shortS AttnGoal.cmpS
  exact if_pos (by unfold wide; simp only []; omega)

theorem wt_c (n : Fin 255) : res_main_v58 V0 (ix5 b p g k n) = wt (shortS V0 b p g k) n := by
  pointwise [res_main_v58]
  rw [mask_c, select_bit, score_c]
  refine Eq.trans ?_ (masked_wt (16 * n.val + 31 ≤ p.val) (shortS V0 b p g k) n _ (Eq.trans
    (sup_last Gen.reducesTo_S4x4096x2x4x255_S4x4096x2x4_d4 (res_main_v52 V0) b p g k)
    (congrArg _ (funext fun n => score_c V0 b p g k n))) (shortS_masked V0 b p g k n))
  refine congrArg _ ?_
  exact zero_bits

theorem prob_c (n : Fin 255) : res_main_v64 V0 (ix5 b p g k n) = prob (shortS V0 b p g k) n := by
  pointwise [res_main_v64]
  rw [wt_c]
  refine (congrArg (fun x => Ideal.div _ (max x _)) (Finset.sum_congr (M := EReal) rfl fun x _ => wt_c V0 b p g k x)).trans ?_
  exact div_total _ _

theorem wide_injective : Function.Injective wide := fun x y h => by
  unfold wide at h
  exact Fin.ext (Fin.mk.inj_iff.mp h)

theorem off_wide (n : Fin 256) (h : ∀ j, wide j ≠ n) : AttnGoal.cmpS (q0 V0) (kc0 V0) b (head g k) p n = ⊥ := by
  unfold AttnGoal.cmpS
  refine if_pos ?_
  by_contra hn
  refine h ⟨n.val, by omega⟩ ?_
  unfold wide
  rfl

theorem prob_wide (n : Fin 255) : prob (shortS V0 b p g k) n = prob (AttnGoal.cmpS (q0 V0) (kc0 V0) b (head g k) p) (wide n) := by
  unfold prob
  exact congrArg₂ (· * ·) (wt_restrict wide _ (off_wide V0 b p g k) n) (inv_restrict wide wide_injective _ (off_wide V0 b p g k))

/-! ## The block scores -/

theorem share_at (n : Fin 255) : (∑ k : Fin 4, res_main_v64 V0 (ix5 b p g k n) : EReal) =
    AttnGoal.shareOf (q0 V0) (kc0 V0) b g p (wide n) := by
  unfold AttnGoal.shareOf
  exact Finset.sum_congr rfl fun k _ => (prob_c V0 b p g k n).trans (prob_wide V0 b p g k n)

theorem overlap_at (n : Fin 255) (j : Fin 64) :
    (FloatOps.uitofp .f32 (IntOp.andi
      (IntOp.cmpi .sle (IntOp.muli (BitVec.ofNat 32 n.val) 16#32)
        (IntOp.subi (IntOp.addi (BitVec.ofNat 32 (j.val * 64)) 64#32) 1#32))
      (IntOp.cmpi .sge (IntOp.subi (IntOp.addi (IntOp.muli (BitVec.ofNat 32 n.val) 16#32) 32#32) 1#32)
        (BitVec.ofNat 32 (j.val * 64)))) : Ideal .f32) = AttnGoal.overlaps j.val (wide n).val := by
  rw [word_mul, word_add, word_add, word_sub (by omega), word_sub (by omega),
    WordCmp.cmpi_sle_ofNat (by omega) (by omega), WordCmp.cmpi_sge_ofNat (by omega) (by omega), word_and, bit_full]
  unfold AttnGoal.overlaps wide
  have := n.isLt
  exact if_congr (by simp only []; omega) rfl rfl

theorem importance_at (j : Fin 64) :
    (∑ n : Fin 255, AttnGoal.shareOf (q0 V0) (kc0 V0) b g p (wide n) * AttnGoal.overlaps j.val (wide n).val) =
      ∑ n : Fin 256, AttnGoal.overlaps j.val n.val * AttnGoal.shareOf (q0 V0) (kc0 V0) b g p n := by
  refine Eq.trans (Finset.sum_congr rfl fun n _ => mul_comm _ _)
    (sum_restrict wide wide_injective (fun n => AttnGoal.overlaps j.val n.val * AttnGoal.shareOf (q0 V0) (kc0 V0) b g p n) fun n hn => ?_)
  have e : AttnGoal.overlaps j.val n.val = 0 := by
    unfold AttnGoal.overlaps
    refine if_neg fun h => hn ⟨n.val, h.2.2⟩ ?_
    unfold wide
    rfl
  rw [e, zero_mul]

theorem host_div : ∀ t : Fin 4096, IntOp.divsi ArithUnit.host (BitVec.ofNat 32 t.val) 64#32 = BitVec.ofNat 32 (t.val / 64) := by
  decide +kernel

theorem block_at (j : Fin 64) : res_main_v115 V0 (ix4 b p g j) = AttnGoal.blkS (q0 V0) (kc0 V0) b g p j := by
  pointwise [res_main_v115, res_main_v81, res_main_v84, res_main_v29, res_main_v26, res_main_v22, res_main_v19]
  rw [host_div, forced_eq p.val j.val p.isLt (by omega), unsigned_bit, word_mul,
    WordCmp.cmpi_sle_ofNat (by omega) (by omega), select_bit]
  unfold AttnGoal.blkS scoreOf
  refine Eq.trans (if_congr (by omega) (congrArg₂ (· + ·) (Eq.trans (Finset.sum_congr (M := EReal) rfl fun n _ =>
    congrArg₂ (· * ·) (share_at V0 b p g n) (overlap_at n j)) (importance_at V0 b p g j)) rfl) rfl) rfl

end Cert.Proof.AttnReference
-- ==== Proof.AttnChosen.lean ====
module

public import proofs.«01_k».proof.Proof.AttnReference

/-! The reference's two masks over all keys, the weights under them, and its result. -/

@[expose] public section
noncomputable section
namespace Cert.Proof.AttnReference
open Cert.RefIdeal Cert.RefIdeal.Value Idealize.ShloMosaic Idealize.ShloMosaic.TcCoe Idealize.SL.Sem
open Cert.Proof.AttnMath Cert.Proof.TopEight
open Cert.Proof.AttnKernel (word_mul word_add word_sub word_toInt word_and word_or bit_full)
set_option maxRecDepth 16384

variable (V0 : Valuation τ sig (Elt Ideal)) (b : Fin 4) (p : Fin 4096) (g : Fin 2) (k : Fin 4)

/-! ## The blocks taken -/

/-- Whether the first score sorts before the second. -/
def sooner (x y : Ideal .f32) : Bool := FloatOps.cmpfTotal .gt x y == 1#1

theorem sooner_iff (x y : EReal) : sooner x y = true ↔ y < x := by
  unfold sooner
  show (BitVec.ofBool (decide (y < x)) == 1#1) = true ↔ _
  by_cases h : y < x <;> simp [h]

theorem sorted_at (x : S4x4096x2x64.Idx → EReal) (r : Fin 64) :
    (Host.sort2 S4x4096x2x64 3 (fun l r : Ideal .f32 × BitVec 32 => FloatOps.cmpfTotal .gt l.1 r.1) x
      (fun i => if _ : 3 < S4x4096x2x64.rank then BitVec.ofNat 32 (i 3).val else 0#32)).2 (ix4 b p g r) =
    BitVec.ofNat 32 (sortedFrom (fun k k' : Fin 64 => sooner (x (ix4 b p g k)) (x (ix4 b p g k'))) r).val := by
  have e : ∀ k : Fin 64, Shape.Idx.along (s := S4x4096x2x64) (ix4 b p g r) 3 k = ix4 b p g k := fun k => by idx_ext
  unfold Host.sort2
  rw [dif_pos (show 3 < S4x4096x2x64.rank by decide)]
  dsimp only
  rw [dif_pos (show 3 < S4x4096x2x64.rank by decide)]
  refine congrArg (BitVec.ofNat 32) ((congrArg (fun i : S4x4096x2x64.Idx => (i 3).val) (e _)).trans ?_)
  refine congrArg Fin.val (congrArg (fun f : Fin 64 → Fin 64 → Bool => sortedFrom f r) (funext fun k => funext fun k' => ?_))
  unfold sooner
  exact congrArg₂ (fun x y : Ideal .f32 => FloatOps.cmpfTotal .gt x y == 1#1) (congrArg x (e _)) (congrArg x (e _))

/-- The place in round `r`. -/
def place (r : Fin 8) : Fin 64 :=
  sortedFrom (fun k k' : Fin 64 => sooner (AttnGoal.blkS (q0 V0) (kc0 V0) b g p k) (AttnGoal.blkS (q0 V0) (kc0 V0) b g p k')) ⟨r.val, by omega⟩

theorem place_at (r : Fin 8) :
    (Host.topK S4x4096x2x8 3 (FloatOps.cmpfTotal .gt) (res_main_v115 V0) Gen.sliceFits_S4x4096x2x64_S4x4096x2x8).2 (ix4 b p g r) =
      BitVec.ofNat 32 (place V0 b p g r).val := by
  pointwise [Host.topK]
  refine (sorted_at b p g (res_main_v115 V0) _).trans ?_
  unfold place
  refine congrArg (BitVec.ofNat 32) (congrArg Fin.val (congrArg (fun f => sortedFrom f _) (funext fun k => funext fun k' => ?_)))
  rw [block_at, block_at]

theorem rank_place (r : Fin 8) : rank (AttnGoal.blkS (q0 V0) (kc0 V0) b g p) (place V0 b p g r) = r.val := by
  unfold place
  exact rank_sortedFrom (s := AttnGoal.blkS (q0 V0) (kc0 V0) b g p)
    (fun k k' : Fin 64 => sooner (AttnGoal.blkS (q0 V0) (kc0 V0) b g p k) (AttnGoal.blkS (q0 V0) (kc0 V0) b g p k'))
    (fun _ _ => sooner_iff _ _) ⟨r.val, by omega⟩

theorem taken_iff (j : Fin 64) : (∃ r : Fin 8, (place V0 b p g r).val = j.val) ↔ rank (AttnGoal.blkS (q0 V0) (kc0 V0) b g p) j < 8 := by
  constructor
  · rintro ⟨r, h⟩
    rw [← Fin.ext h, rank_place]
    exact r.isLt
  · intro h
    exact ⟨⟨_, h⟩, congrArg Fin.val (rank_injective (s := AttnGoal.blkS (q0 V0) (kc0 V0) b g p) (rank_place V0 b p g ⟨_, h⟩))⟩

open Classical in
theorem fold_or_aux {ι : Type} (P : ι → Prop) (s : Finset ι) :
    s.fold IntOp.ori 0#1 (fun i => BitVec.ofBool (decide (P i))) = BitVec.ofBool (decide (∃ i ∈ s, P i)) := by
  induction s using Finset.induction_on with
  | empty => simp
  | insert a s ha ih =>
    rw [Finset.fold_insert ha, ih, word_or]
    exact congrArg BitVec.ofBool (decide_eq_decide.mpr (by simp))

theorem fold_or {ι : Type} [Fintype ι] (P : ι → Prop) [DecidablePred P] (Q : Prop) [Decidable Q] (h : (∃ i, P i) ↔ Q) :
    Finset.univ.fold IntOp.ori 0#1 (fun i => BitVec.ofBool (decide (P i))) = BitVec.ofBool (decide Q) := by
  classical
  refine Eq.trans ?_ ((fold_or_aux P Finset.univ).trans ?_)
  · exact congrArg (fun f => Finset.fold IntOp.ori 0#1 f Finset.univ) (funext fun i =>
      congrArg BitVec.ofBool (decide_eq_decide.mpr Iff.rfl))
  · exact congrArg BitVec.ofBool (decide_eq_decide.mpr (by rw [← h]; simp))

/-! ## The mask of the selected branch -/

theorem both_at (x : S4x4096x2x8.Idx → BitVec 32) (j : Fin 4096) :
    broadcastInDim S4x4096x2x1x4096 ![0, 1, 2, 4] Gen.bcast_S4x4096x2x4096_S4x4096x2x1x4096_0_1_2_4 (andi (shapeCast _ (broadcastInDim S4x4096x2x64x64 ![0, 1, 2, 3] Gen.bcast_S4x4096x2x64_S4x4096x2x64x64_0_1_2_3 (Host.reduce IntOp.ori (cmpi .eq (broadcastInDim S4x4096x2x8x64 ![0, 1, 2, 3, 4] Gen.bcast_S4x4096x2x8x1_S4x4096x2x8x64_0_1_2_3_4 (broadcastInDim S4x4096x2x8x1 ![0, 1, 2, 3] Gen.bcast_S4x4096x2x8_S4x4096x2x8x1_0_1_2_3 x)) (broadcastInDim S4x4096x2x8x64 ![0, 1, 2, 3, 4] Gen.bcast_S1x1x1x1x64_S4x4096x2x8x64_0_1_2_3_4 (broadcastInDim S1x1x1x1x64 ![4] Gen.bcast_S64_S1x1x1x1x64_4 (res_main_v81 V0)))) (constantI S_ 1 0#1) Gen.reducesTo_S4x4096x2x8x64_S4x4096x2x64_d3 Gen.h_S_)) Gen.shapeCasts_S4x4096x2x64x64_S4x4096x2x4096) (broadcastInDim S4x4096x2x4096 ![0, 1, 2, 3] Gen.bcast_S1x4096x1x4096_S4x4096x2x4096_0_1_2_3 (broadcastInDim S1x4096x1x4096 ![1, 3] Gen.bcast_S4096x4096_S1x4096x1x4096_1_3 (cmpi .sle (broadcastInDim S4096x4096 ![0, 1] Gen.bcast_S1x4096_S4096x4096_0_1 (broadcastInDim S1x4096 ![1] Gen.bcast_S4096_S1x4096_1 (res_main_v19 V0))) (broadcastInDim S4096x4096 ![0, 1] Gen.bcast_S4096x1_S4096x4096_0_1 (broadcastInDim S4096x1 ![0] Gen.bcast_S4096_S4096x1_0 (res_main_v19 V0)))))))
      (ix5 b p g 0 j) =
    IntOp.andi (Finset.univ.fold IntOp.ori (0#1) fun r : Fin 8 =>
        IntOp.cmpi .eq (x (ix4 b p g r)) (BitVec.ofNat 32 (j.val / 64)))
      (IntOp.cmpi .sle (BitVec.ofNat 32 j.val) (BitVec.ofNat 32 p.val)) := by
  pointwise [res_main_v81, res_main_v19]

theorem mask_s (j : Fin 4096) : res_main_v134 V0 (ix5 b p g 0 j) =
    BitVec.ofBool (decide (rank (AttnGoal.blkS (q0 V0) (kc0 V0) b g p) ⟨j.val / 64, by omega⟩ < 8 ∧ j.val ≤ p.val)) := by
  unfold res_main_v134
  refine (both_at V0 b p g _ j).trans ?_
  rw [← word_and, ← WordCmp.cmpi_sle_ofNat (w := 32) (a := j.val) (b := p.val) (by omega) (by omega),
    ← fold_or (fun r : Fin 8 => (place V0 b p g r).val = j.val / 64) _ (taken_iff V0 b p g ⟨j.val / 64, by omega⟩)]
  refine congrArg₂ IntOp.andi (congrArg (fun f => Finset.fold IntOp.ori 0#1 f Finset.univ) (funext fun r => ?_)) rfl
  rw [place_at, WordCmp.cmpi_eq_ofNat (by omega) (by omega)]

/-! ## The selected branch's scores and weights -/

theorem masked_score (m : S4x4096x2x4x4096.Idx → BitVec 1) (u : S4x4096x2x64.Idx → EReal) (j : Fin 4096) :
    select m (transpose S4x4096x2x4x4096 [0, 3, 1, 4, 2] (Host.dotGeneral (F := Ideal) (φ₁ := .f32) (φ₂ := .f32) dot_S4x4096x2x64_S4x4096x2x4x64_S4x2x4096x4096x4_3_4_1_13_02_02 none u (res_main_v2 V0)) Gen.transposes_S4x2x4096x4096x4_S4x4096x2x4x4096_0_3_1_4_2) (broadcastInDim S4x4096x2x4x4096 ![] Gen.bcast_S_S4x4096x2x4x4096 (id (constant (F := Ideal) S_ .f32 0xFF800000#32)))
      (ix5 b p g k j) = Scalar.select (m (ix5 b p g k j)) (∑ d : Fin 64, u (ix4 b j g d) * res_main_v2 V0 (ix5 b p g k d) : EReal) ⊥ := by
  pointwise []
  exact congrArg _ neg_inf

theorem masked_weight (m : S4x4096x2x4x4096.Idx → BitVec 1) (s : S4x4096x2x4x4096.Idx → EReal) (j : Fin 4096) :
    select m (Host.exp (F := Ideal) (φ := .f32) (subf s (broadcastInDim S4x4096x2x4x4096 ![0, 1, 2, 3, 4] Gen.bcast_S4x4096x2x4x1_S4x4096x2x4x4096_0_1_2_3_4 (broadcastInDim S4x4096x2x4x1 ![0, 1, 2, 3] Gen.bcast_S4x4096x2x4_S4x4096x2x4x1_0_1_2_3 (Host.reduce (FloatOps.maximumf (F := Ideal) (φ := .f32)) s (constant S_ .f32 0xFF800000#32) Gen.reducesTo_S4x4096x2x4x4096_S4x4096x2x4_d4 Gen.h_S_))))) (broadcastInDim S4x4096x2x4x4096 ![] Gen.bcast_S_S4x4096x2x4x4096 (id (constant (F := Ideal) S_ .f32 0x00000000#32)))
      (ix5 b p g k j) = Scalar.select (m (ix5 b p g k j)) (Ideal.exp (s (ix5 b p g k j) - Finset.univ.sup fun n => s (ix5 b p g k n))) (0 : EReal) := by
  pointwise []
  refine congrArg₂ (fun x y => Scalar.select _ x y) (congrArg (fun x => Ideal.exp (_ - x)) ?_) zero_bits
  rw [neg_inf]
  rfl

theorem share_weight (w : S4x4096x2x4x4096.Idx → EReal) (j : Fin 4096) :
    Host.divf (F := Ideal) (φ := .f32) w (broadcastInDim S4x4096x2x4x4096 ![0, 1, 2, 3, 4] Gen.bcast_S4x4096x2x4x1_S4x4096x2x4x4096_0_1_2_3_4 (maximumf (broadcastInDim S4x4096x2x4x1 ![0, 1, 2, 3] Gen.bcast_S4x4096x2x4_S4x4096x2x4x1_0_1_2_3 (Host.reduceAdd w (constant S_ .f32 0x00000000#32) Gen.reducesTo_S4x4096x2x4x4096_S4x4096x2x4_d4 Gen.h_S_)) (broadcastInDim S4x4096x2x4x1 ![] Gen.bcast_S_S4x4096x2x4x1 (constant S_ .f32 0x0DA24260#32))))
      (ix5 b p g k j) = Ideal.div (w (ix5 b p g k j)) (max (∑ n : Fin 4096, w (ix5 b p g k n)) tiny) := by
  pointwise []
  rfl

theorem spread_s (m : S4x4096x2x1x4096.Idx → BitVec 1) (j : Fin 4096) :
    broadcastInDim S4x4096x2x4x4096 ![0, 1, 2, 3, 4] Gen.bcast_S4x4096x2x1x4096_S4x4096x2x4x4096_0_1_2_3_4 m (ix5 b p g k j) =
      m (ix5 b p g 0 j) := by
  pointwise []

theorem spread_w (m : S1x4096x1x1x4096.Idx → BitVec 1) (j : Fin 4096) :
    broadcastInDim S4x4096x2x4x4096 ![0, 1, 2, 3, 4] Gen.bcast_S1x4096x1x1x4096_S4x4096x2x4x4096_0_1_2_3_4 m (ix5 b p g k j) =
      m (ix5 0 p 0 0 j) := by
  pointwise []

theorem part_0 (j : Fin 4096) (d : Fin 64) : shapeCast _ (extractStridedSlice S4x4096x1x2x64 ![0, 0, 0, 0, 0] (res_main_v6 V0) Gen.slices_S4x4096x4x2x64_S4x4096x1x2x64_0_0_0_0_0) Gen.shapeCasts_S4x4096x1x2x64_S4x4096x2x64 (ix4 b j g d) =
    kv0 V0 (AttnGoal.row b j) ⟨64 * g.val + d.val, by omega⟩ := by
  pointwise []
  exact (kv_at V0 b j g 0 d).trans (congrArg (kv0 V0 _) (Fin.ext (by simp)))

theorem part_2 (j : Fin 4096) (d : Fin 64) : shapeCast _ (extractStridedSlice S4x4096x1x2x64 ![0, 0, 2, 0, 0] (res_main_v6 V0) Gen.slices_S4x4096x4x2x64_S4x4096x1x2x64_0_0_2_0_0) Gen.shapeCasts_S4x4096x1x2x64_S4x4096x2x64 (ix4 b j g d) =
    kv0 V0 (AttnGoal.row b j) ⟨256 + (64 * g.val + d.val), by omega⟩ := by
  pointwise []
  exact (kv_at V0 b j g 2 d).trans (congrArg (kv0 V0 _) (Fin.ext (by simp)))

theorem lane_of : (head g k).val / 4 = g.val := by
  unfold head
  simp only []
  omega

theorem grp_of : AttnGoal.grp (head g k) = g := Fin.ext (lane_of g k)

theorem score_s (j : Fin 4096) : res_main_v135 V0 (ix5 b p g k j) = AttnGoal.selS (q0 V0) (kv0 V0) (kc0 V0) b (head g k) p j := by
  unfold res_main_v135
  refine (masked_score V0 b p g k _ _ j).trans ?_
  rw [spread_s, mask_s, select_bit]
  unfold AttnGoal.selS AttnGoal.dotk
  rw [grp_of]
  refine if_congr Iff.rfl (Finset.sum_congr rfl fun d _ => ?_) rfl
  rw [part_0, q_at]
  exact congrArg (fun x => kv0 V0 _ x * _) (Fin.ext (by simp only [lane_of]))

theorem masked_s (j : Fin 4096) (h : ¬ (rank (AttnGoal.blkS (q0 V0) (kc0 V0) b g p) ⟨j.val / 64, by omega⟩ < 8 ∧ j.val ≤ p.val)) :
    AttnGoal.selS (q0 V0) (kv0 V0) (kc0 V0) b (head g k) p j = ⊥ := by
  unfold AttnGoal.selS
  rw [grp_of]
  exact if_neg h

theorem wt_s (j : Fin 4096) : res_main_v141 V0 (ix5 b p g k j) = wt (AttnGoal.selS (q0 V0) (kv0 V0) (kc0 V0) b (head g k) p) j := by
  unfold res_main_v141
  refine (masked_weight b p g k _ _ j).trans ?_
  rw [spread_s, mask_s, select_bit, score_s]
  exact masked_wt _ _ j _ (congrArg _ (funext fun n => score_s V0 b p g k n)) (masked_s V0 b p g k j)

/-! ## The window branch's -/

theorem mask_w (j : Fin 4096) : res_main_v152 V0 (ix5 0 p 0 0 j) = BitVec.ofBool (decide (j.val ≤ p.val ∧ p.val ≤ j.val + 512)) := by
  pointwise [res_main_v152, res_main_v38, res_main_v19]
  rw [← word_and]
  refine congrArg₂ IntOp.andi ?_ ?_
  · show BitVec.ofBool (BitVec.sle 0#32 (BitVec.ofNat 32 p.val - BitVec.ofNat 32 j.val)) = _
    rw [BitVec.sle, word_toInt (by omega) (by omega)]
    exact congrArg BitVec.ofBool (decide_eq_decide.mpr (by show (0 : ℤ) ≤ _ ↔ _; omega))
  · show BitVec.ofBool (BitVec.sle (BitVec.ofNat 32 p.val - BitVec.ofNat 32 j.val) 512#32) = _
    rw [BitVec.sle, word_toInt (by omega) (by omega)]
    exact congrArg BitVec.ofBool (decide_eq_decide.mpr (by show _ ≤ (512 : ℤ) ↔ _; omega))

theorem score_w (j : Fin 4096) : res_main_v153 V0 (ix5 b p g k j) = AttnGoal.winS (q0 V0) (kv0 V0) b (head g k) p j := by
  unfold res_main_v153
  refine (masked_score V0 b p g k _ _ j).trans ?_
  rw [spread_w, mask_w, select_bit]
  unfold AttnGoal.winS AttnGoal.dotk
  refine if_congr Iff.rfl (Finset.sum_congr rfl fun d _ => ?_) rfl
  rw [part_2, q_at]
  exact congrArg (fun x => kv0 V0 _ x * _) (Fin.ext (by simp only [lane_of]))

theorem wt_w (j : Fin 4096) : res_main_v159 V0 (ix5 b p g k j) = wt (AttnGoal.winS (q0 V0) (kv0 V0) b (head g k) p) j := by
  unfold res_main_v159
  refine (masked_weight b p g k _ _ j).trans ?_
  rw [spread_w, mask_w, select_bit, score_w]
  refine masked_wt _ _ j _ (congrArg _ (funext fun n => score_w V0 b p g k n)) fun h => ?_
  unfold AttnGoal.winS
  exact if_neg h

end Cert.Proof.AttnReference
-- ==== Proof.AttnResult.lean ====
module

public import proofs.«01_k».proof.Proof.AttnChosen

/-! The reference's result, read at a row and a lane. -/

@[expose] public section
noncomputable section
namespace Cert.Proof.AttnReference
open Cert.RefIdeal Cert.RefIdeal.Value Idealize.ShloMosaic Idealize.ShloMosaic.TcCoe Idealize.SL.Sem
open Cert.Proof.AttnMath Cert.Proof.TopEight
set_option maxRecDepth 16384

variable (V0 : Valuation τ sig (Elt Ideal)) (b : Fin 4) (p : Fin 4096) (g : Fin 2) (k : Fin 4)

/-- The reference's result. -/
def result : S16384x512.Idx → EReal :=
  shapeCast _ (addf (addf (mulf (broadcastInDim S4x4096x2x4x64 ![0, 1, 2, 3, 4] Gen.bcast_S4x4096x2x4x1_S4x4096x2x4x64_0_1_2_3_4 (broadcastInDim S4x4096x2x4x1 ![0, 1, 2, 3] Gen.bcast_S4x4096x2x4_S4x4096x2x4x1_0_1_2_3 (shapeCast _ (extractStridedSlice S4x4096x1x2x4 ![0, 0, 0, 0, 0] (res_main_v4 V0) Gen.slices_S4x4096x3x2x4_S4x4096x1x2x4_0_0_0_0_0) Gen.shapeCasts_S4x4096x1x2x4_S4x4096x2x4))) (transpose S4x4096x2x4x64 [0, 3, 1, 4, 2] (Host.dotGeneral (F := Ideal) (φ₁ := .f32) (φ₂ := .f32) dot_S4x255x2x64_S4x4096x2x4x255_S4x2x64x4096x4_1_4_3_13_02_02 none (extractStridedSlice S4x255x2x64 ![0, 0, 0, 0] (shapeCast _ (V0 (Proc.devRef .tc main_arg4)) Gen.shapeCasts_S1024x128_S4x256x2x64) Gen.slices_S4x256x2x64_S4x255x2x64_0_0_0_0) (res_main_v64 V0)) Gen.transposes_S4x2x64x4096x4_S4x4096x2x4x64_0_3_1_4_2)) (mulf (broadcastInDim S4x4096x2x4x64 ![0, 1, 2, 3, 4] Gen.bcast_S4x4096x2x4x1_S4x4096x2x4x64_0_1_2_3_4 (broadcastInDim S4x4096x2x4x1 ![0, 1, 2, 3] Gen.bcast_S4x4096x2x4_S4x4096x2x4x1_0_1_2_3 (shapeCast _ (extractStridedSlice S4x4096x1x2x4 ![0, 0, 1, 0, 0] (res_main_v4 V0) Gen.slices_S4x4096x3x2x4_S4x4096x1x2x4_0_0_1_0_0) Gen.shapeCasts_S4x4096x1x2x4_S4x4096x2x4))) (transpose S4x4096x2x4x64 [0, 3, 1, 4, 2] (Host.dotGeneral (F := Ideal) (φ₁ := .f32) (φ₂ := .f32) dot_S4x4096x2x64_S4x4096x2x4x4096_S4x2x64x4096x4_1_4_3_13_02_02 none (shapeCast _ (extractStridedSlice S4x4096x1x2x64 ![0, 0, 1, 0, 0] (res_main_v6 V0) Gen.slices_S4x4096x4x2x64_S4x4096x1x2x64_0_0_1_0_0) Gen.shapeCasts_S4x4096x1x2x64_S4x4096x2x64) (Host.divf (F := Ideal) (φ := .f32) (res_main_v141 V0) (broadcastInDim S4x4096x2x4x4096 ![0, 1, 2, 3, 4] Gen.bcast_S4x4096x2x4x1_S4x4096x2x4x4096_0_1_2_3_4 (maximumf (broadcastInDim S4x4096x2x4x1 ![0, 1, 2, 3] Gen.bcast_S4x4096x2x4_S4x4096x2x4x1_0_1_2_3 (Host.reduceAdd (res_main_v141 V0) (constant S_ .f32 0x00000000#32) Gen.reducesTo_S4x4096x2x4x4096_S4x4096x2x4_d4 Gen.h_S_)) (broadcastInDim S4x4096x2x4x1 ![] Gen.bcast_S_S4x4096x2x4x1 (constant S_ .f32 0x0DA24260#32)))))) Gen.transposes_S4x2x64x4096x4_S4x4096x2x4x64_0_3_1_4_2))) (mulf (broadcastInDim S4x4096x2x4x64 ![0, 1, 2, 3, 4] Gen.bcast_S4x4096x2x4x1_S4x4096x2x4x64_0_1_2_3_4 (broadcastInDim S4x4096x2x4x1 ![0, 1, 2, 3] Gen.bcast_S4x4096x2x4_S4x4096x2x4x1_0_1_2_3 (shapeCast _ (extractStridedSlice S4x4096x1x2x4 ![0, 0, 2, 0, 0] (res_main_v4 V0) Gen.slices_S4x4096x3x2x4_S4x4096x1x2x4_0_0_2_0_0) Gen.shapeCasts_S4x4096x1x2x4_S4x4096x2x4))) (transpose S4x4096x2x4x64 [0, 3, 1, 4, 2] (Host.dotGeneral (F := Ideal) (φ₁ := .f32) (φ₂ := .f32) dot_S4x4096x2x64_S4x4096x2x4x4096_S4x2x64x4096x4_1_4_3_13_02_02 none (shapeCast _ (extractStridedSlice S4x4096x1x2x64 ![0, 0, 3, 0, 0] (res_main_v6 V0) Gen.slices_S4x4096x4x2x64_S4x4096x1x2x64_0_0_3_0_0) Gen.shapeCasts_S4x4096x1x2x64_S4x4096x2x64) (Host.divf (F := Ideal) (φ := .f32) (res_main_v159 V0) (broadcastInDim S4x4096x2x4x4096 ![0, 1, 2, 3, 4] Gen.bcast_S4x4096x2x4x1_S4x4096x2x4x4096_0_1_2_3_4 (maximumf (broadcastInDim S4x4096x2x4x1 ![0, 1, 2, 3] Gen.bcast_S4x4096x2x4_S4x4096x2x4x1_0_1_2_3 (Host.reduceAdd (res_main_v159 V0) (constant S_ .f32 0x00000000#32) Gen.reducesTo_S4x4096x2x4x4096_S4x4096x2x4_d4 Gen.h_S_)) (broadcastInDim S4x4096x2x4x1 ![] Gen.bcast_S_S4x4096x2x4x1 (constant S_ .f32 0x0DA24260#32)))))) Gen.transposes_S4x2x64x4096x4_S4x4096x2x4x64_0_3_1_4_2))) Gen.shapeCasts_S4x4096x2x4x64_S16384x512

/-! ## Its pieces -/

theorem gated_at (u : S4x4096x2x4.Idx → EReal) (y : S4x4096x2x4x64.Idx → EReal) (d : Fin 64) :
    mulf (F := Ideal) (φ := .f32) (broadcastInDim S4x4096x2x4x64 ![0, 1, 2, 3, 4] Gen.bcast_S4x4096x2x4x1_S4x4096x2x4x64_0_1_2_3_4 (broadcastInDim S4x4096x2x4x1 ![0, 1, 2, 3] Gen.bcast_S4x4096x2x4_S4x4096x2x4x1_0_1_2_3 u)) y (ix5 b p g k d) =
      u (ix4 b p g k) * y (ix5 b p g k d) := by
  pointwise []

theorem gate_0 : shapeCast S4x4096x2x4 (extractStridedSlice S4x4096x1x2x4 ![0, 0, 0, 0, 0] (res_main_v4 V0) Gen.slices_S4x4096x3x2x4_S4x4096x1x2x4_0_0_0_0_0) Gen.shapeCasts_S4x4096x1x2x4_S4x4096x2x4 (ix4 b p g k) =
    g0 V0 (AttnGoal.row b p) ⟨(head g k).val, by omega⟩ := by
  pointwise []
  exact (gate_at V0 b p g k 0).trans (congrArg (g0 V0 _) (Fin.ext (by simp)))

theorem gate_1 : shapeCast S4x4096x2x4 (extractStridedSlice S4x4096x1x2x4 ![0, 0, 1, 0, 0] (res_main_v4 V0) Gen.slices_S4x4096x3x2x4_S4x4096x1x2x4_0_0_1_0_0) Gen.shapeCasts_S4x4096x1x2x4_S4x4096x2x4 (ix4 b p g k) =
    g0 V0 (AttnGoal.row b p) ⟨8 + (head g k).val, by omega⟩ := by
  pointwise []
  exact (gate_at V0 b p g k 1).trans (congrArg (g0 V0 _) (Fin.ext (by simp)))

theorem gate_2 : shapeCast S4x4096x2x4 (extractStridedSlice S4x4096x1x2x4 ![0, 0, 2, 0, 0] (res_main_v4 V0) Gen.slices_S4x4096x3x2x4_S4x4096x1x2x4_0_0_2_0_0) Gen.shapeCasts_S4x4096x1x2x4_S4x4096x2x4 (ix4 b p g k) =
    g0 V0 (AttnGoal.row b p) ⟨16 + (head g k).val, by omega⟩ := by
  pointwise []
  exact (gate_at V0 b p g k 2).trans (congrArg (g0 V0 _) (Fin.ext (by simp)))

theorem part_1 (j : Fin 4096) (d : Fin 64) : shapeCast S4x4096x2x64 (extractStridedSlice S4x4096x1x2x64 ![0, 0, 1, 0, 0] (res_main_v6 V0) Gen.slices_S4x4096x4x2x64_S4x4096x1x2x64_0_0_1_0_0) Gen.shapeCasts_S4x4096x1x2x64_S4x4096x2x64 (ix4 b j g d) =
    kv0 V0 (AttnGoal.row b j) ⟨128 + (64 * g.val + d.val), by omega⟩ := by
  pointwise []
  exact (kv_at V0 b j g 1 d).trans (congrArg (kv0 V0 _) (Fin.ext (by simp)))

theorem part_3 (j : Fin 4096) (d : Fin 64) : shapeCast S4x4096x2x64 (extractStridedSlice S4x4096x1x2x64 ![0, 0, 3, 0, 0] (res_main_v6 V0) Gen.slices_S4x4096x4x2x64_S4x4096x1x2x64_0_0_3_0_0) Gen.shapeCasts_S4x4096x1x2x64_S4x4096x2x64 (ix4 b j g d) =
    kv0 V0 (AttnGoal.row b j) ⟨384 + (64 * g.val + d.val), by omega⟩ := by
  pointwise []
  exact (kv_at V0 b j g 3 d).trans (congrArg (kv0 V0 _) (Fin.ext (by simp)))

theorem values_c (n : Fin 255) (d : Fin 64) : extractStridedSlice S4x255x2x64 ![0, 0, 0, 0] (shapeCast S4x256x2x64 (V0 (Proc.devRef .tc main_arg4)) Gen.shapeCasts_S1024x128_S4x256x2x64) Gen.slices_S4x256x2x64_S4x255x2x64_0_0_0_0 (ix4 b n g d) =
    vc0 V0 (AttnGoal.crow b (wide n)) ⟨64 * g.val + d.val, by omega⟩ := by
  pointwise []
  refine congrArg (V0 (Proc.devRef .tc main_arg4)) ?_
  unfold AttnGoal.crow wide
  idx_ext

theorem summed_at (u : S4x4096x2x64.Idx → EReal) (w : S4x4096x2x4x4096.Idx → EReal) (d : Fin 64) :
    transpose S4x4096x2x4x64 [0, 3, 1, 4, 2] (Host.dotGeneral (F := Ideal) (φ₁ := .f32) (φ₂ := .f32) dot_S4x4096x2x64_S4x4096x2x4x4096_S4x2x64x4096x4_1_4_3_13_02_02 none u w) Gen.transposes_S4x2x64x4096x4_S4x4096x2x4x64_0_3_1_4_2 (ix5 b p g k d) =
      (∑ n : Fin 4096, u (ix4 b n g d) * w (ix5 b p g k n) : EReal) := by
  pointwise []

theorem summed_c (u : S4x255x2x64.Idx → EReal) (w : S4x4096x2x4x255.Idx → EReal) (d : Fin 64) :
    transpose S4x4096x2x4x64 [0, 3, 1, 4, 2] (Host.dotGeneral (F := Ideal) (φ₁ := .f32) (φ₂ := .f32) dot_S4x255x2x64_S4x4096x2x4x255_S4x2x64x4096x4_1_4_3_13_02_02 none u w) Gen.transposes_S4x2x64x4096x4_S4x4096x2x4x64_0_3_1_4_2 (ix5 b p g k d) =
      (∑ n : Fin 255, u (ix4 b n g d) * w (ix5 b p g k n) : EReal) := by
  pointwise []

theorem flat_at (y : S4x4096x2x4x64.Idx → EReal) (R : Fin 16384) (l : Fin 512) :
    shapeCast S16384x512 y Gen.shapeCasts_S4x4096x2x4x64_S16384x512 (ix2 R l) =
      y (ix5 ⟨R.val / 4096, by omega⟩ ⟨R.val % 4096, by omega⟩ ⟨l.val / 256, by omega⟩ ⟨l.val / 64 % 4, by omega⟩ ⟨l.val % 64, by omega⟩) := by
  pointwise []

/-- A weighted sum of values, read off the weights and the values one by one. -/
theorem sum_eq {N : ℕ} (s v : Fin N → EReal) (x y : Fin N → EReal) (hx : ∀ n, x n = v n) (hy : ∀ n, y n = prob s n) :
    ∑ n, x n * y n = att s v :=
  (Finset.sum_congr rfl fun n _ => by rw [hx, hy, mul_comm]).trans (sum_prob s v)

/-! ## The branches -/

theorem branch_c (d : Fin 64) :
    (∑ n : Fin 255, @HMul.hMul EReal EReal EReal _ (extractStridedSlice S4x255x2x64 ![0, 0, 0, 0] (shapeCast S4x256x2x64 (V0 (Proc.devRef .tc main_arg4)) Gen.shapeCasts_S1024x128_S4x256x2x64) Gen.slices_S4x256x2x64_S4x255x2x64_0_0_0_0 (ix4 b n g d)) (res_main_v64 V0 (ix5 b p g k n))) =
      att (AttnGoal.cmpS (q0 V0) (kc0 V0) b (head g k) p) fun n => vc0 V0 (AttnGoal.crow b n) ⟨64 * ((head g k).val / 4) + d.val, by omega⟩ := by
  rw [← att_restrict wide wide_injective _ _ (off_wide V0 b p g k)]
  refine sum_eq (shortS V0 b p g k) _ _ _ (fun n => ?_) (prob_c V0 b p g k)
  refine (values_c V0 b g n d).trans (congrArg (vc0 V0 _) (Fin.ext ?_))
  simp only [lane_of]

theorem prob_s (j : Fin 4096) :
    (Host.divf (F := Ideal) (φ := .f32) (res_main_v141 V0) (broadcastInDim S4x4096x2x4x4096 ![0, 1, 2, 3, 4] Gen.bcast_S4x4096x2x4x1_S4x4096x2x4x4096_0_1_2_3_4 (maximumf (broadcastInDim S4x4096x2x4x1 ![0, 1, 2, 3] Gen.bcast_S4x4096x2x4_S4x4096x2x4x1_0_1_2_3 (Host.reduceAdd (res_main_v141 V0) (constant S_ .f32 0x00000000#32) Gen.reducesTo_S4x4096x2x4x4096_S4x4096x2x4_d4 Gen.h_S_)) (broadcastInDim S4x4096x2x4x1 ![] Gen.bcast_S_S4x4096x2x4x1 (constant S_ .f32 0x0DA24260#32))))) (ix5 b p g k j) = prob (AttnGoal.selS (q0 V0) (kv0 V0) (kc0 V0) b (head g k) p) j := by
  refine (share_weight b p g k _ j).trans ?_
  rw [wt_s]
  exact (congrArg (fun x => Ideal.div _ (max x _)) (Finset.sum_congr (M := EReal) rfl fun n _ => wt_s V0 b p g k n)).trans (div_total _ _)

theorem prob_w (j : Fin 4096) :
    (Host.divf (F := Ideal) (φ := .f32) (res_main_v159 V0) (broadcastInDim S4x4096x2x4x4096 ![0, 1, 2, 3, 4] Gen.bcast_S4x4096x2x4x1_S4x4096x2x4x4096_0_1_2_3_4 (maximumf (broadcastInDim S4x4096x2x4x1 ![0, 1, 2, 3] Gen.bcast_S4x4096x2x4_S4x4096x2x4x1_0_1_2_3 (Host.reduceAdd (res_main_v159 V0) (constant S_ .f32 0x00000000#32) Gen.reducesTo_S4x4096x2x4x4096_S4x4096x2x4_d4 Gen.h_S_)) (broadcastInDim S4x4096x2x4x1 ![] Gen.bcast_S_S4x4096x2x4x1 (constant S_ .f32 0x0DA24260#32))))) (ix5 b p g k j) = prob (AttnGoal.winS (q0 V0) (kv0 V0) b (head g k) p) j := by
  refine (share_weight b p g k _ j).trans ?_
  rw [wt_w]
  exact (congrArg (fun x => Ideal.div _ (max x _)) (Finset.sum_congr (M := EReal) rfl fun n _ => wt_w V0 b p g k n)).trans (div_total _ _)

/-! ## The result -/

theorem result_at (R : Fin 16384) (l : Fin 512) : result V0 (ix2 R l) =
    AttnGoal.goal (q0 V0) (g0 V0) (kv0 V0) (kc0 V0) (vc0 V0) ⟨R.val / 4096, by omega⟩ ⟨R.val % 4096, by omega⟩
      (head ⟨l.val / 256, by omega⟩ ⟨l.val / 64 % 4, by omega⟩) ⟨l.val % 64, by omega⟩ := by
  unfold result
  refine (flat_at _ R l).trans ?_
  generalize (⟨R.val / 4096, by omega⟩ : Fin 4) = b
  generalize (⟨R.val % 4096, by omega⟩ : Fin 4096) = p
  generalize (⟨l.val / 256, by omega⟩ : Fin 2) = g
  generalize (⟨l.val / 64 % 4, by omega⟩ : Fin 4) = k
  generalize (⟨l.val % 64, by omega⟩ : Fin 64) = d
  unfold AttnGoal.goal
  refine congrArg₂ (fun x y : EReal => x + y) (congrArg₂ (fun x y : EReal => x + y) ?_ ?_) ?_
  · exact (gated_at b p g k _ _ d).trans (congrArg₂ (· * ·) (gate_0 V0 b p g k) ((summed_c b p g k _ _ d).trans (branch_c V0 b p g k d)))
  · refine (gated_at b p g k _ _ d).trans (congrArg₂ (· * ·) (gate_1 V0 b p g k) ((summed_at b p g k _ _ d).trans ?_))
    refine sum_eq _ _ _ _ (fun n => ?_) (prob_s V0 b p g k)
    exact (part_1 V0 b g n d).trans (congrArg (kv0 V0 _) (Fin.ext (by simp only [lane_of])))
  · refine (gated_at b p g k _ _ d).trans (congrArg₂ (· * ·) (gate_2 V0 b p g k) ((summed_at b p g k _ _ d).trans ?_))
    refine sum_eq _ _ _ _ (fun n => ?_) (prob_w V0 b p g k)
    exact (part_3 V0 b g n d).trans (congrArg (kv0 V0 _) (Fin.ext (by simp only [lane_of])))

end Cert.Proof.AttnReference
-- ==== Proof.AttnClaims.lean ====
/- The claims about the attention kernel: the named constants, the reference's frame, and the equality of the results. -/
module

public import proofs.«01_k».proof.Defs
public import proofs.«01_k».proof.Proof.AttnFinal
public import proofs.«01_k».proof.Proof.AttnResult

@[expose] public section

set_option maxRecDepth 16384

noncomputable section

namespace Cert.Proof.AttnClaims

open Idealize.ShloMosaic Idealize.ShloMosaic.TcCoe Idealize.SL.Sem

instance : Cert.KernelIdeal.Facts := Cert.KernelIdeal.Gen.facts
instance : Cert.RefIdeal.Facts := Cert.RefIdeal.Gen.facts

/-- The kernel and its idealisation differ in three named constants. -/
theorem preserves : Cert.preserves_Kernel_KernelIdeal :=
  ⟨IdealRules.named_const.statement Cert.KernelIdeal.κ "scale" .f32 0x3E38AA3B#32 _ rfl,
    IdealRules.named_const.statement Cert.KernelIdeal.κ "masked" .bf16 0xF180#16 _ rfl,
    IdealRules.named_const.statement Cert.KernelIdeal.κ "lowest" .f32 0xFF61B1E6#32 _ rfl⟩

/-- The reference runs and leaves its arguments. -/
theorem frame_ref : Cert.quiescent_RefIdeal := fun m ρ _ =>
  (θ_run Cert.RefIdeal.defs _ _).mono
    (fun r h => ⟨fun c => (h c).2, Idealize.ShloMosaic.sem_eq_zero_of_no_sems (by decide) r.2⟩)
    (Cert.RefIdeal.Value.run (F := Ideal) m ρ)

theorem head_at (l : Fin 512) : AttnReference.head ⟨l.val / 256, by omega⟩ ⟨l.val / 64 % 4, by omega⟩ = ⟨l.val / 64, by omega⟩ := by
  unfold AttnReference.head
  apply Fin.ext
  simp only []
  omega

theorem result_row (V0 : Valuation Cert.RefIdeal.τ Cert.RefIdeal.sig (Elt Ideal)) (R : Fin 16384) (l : Fin 512) :
    AttnReference.result V0 (ix2 R l) =
      AttnGoal.goal (AttnReference.q0 V0) (AttnReference.g0 V0) (AttnReference.kv0 V0) (AttnReference.kc0 V0) (AttnReference.vc0 V0)
        ⟨R.val / 4096, by omega⟩ ⟨R.val % 4096, Nat.mod_lt _ (by omega)⟩ ⟨l.val / 64, by omega⟩ ⟨l.val % 64, Nat.mod_lt _ (by omega)⟩ := by
  rw [AttnReference.result_at, head_at]

/-- The idealised kernel and the reference end with the same result. -/
theorem algebraic : Cert.algebraic_KernelIdeal_RefIdeal := by
  intro m ρ m' ρ' _ hagree
  refine ⟨fun c => AttnReference.result (StableHlo.launchContents m' c), ?_, ?_⟩
  · refine (θ_run Cert.KernelIdeal.defs _ _).mono (fun r h c => ?_) (Cert.KernelIdeal.Value.run_blocks (F := Ideal) m ρ)
    refine ⟨(h c).1.trans ((AttnKernel.final m c).trans ?_), (h c).2⟩
    funext i
    refine Eq.trans ?_ (result_row (StableHlo.launchContents m' c) (i 0) (i 1)).symm |>.trans
      (congrArg _ (show ix2 (i 0) (i 1) = i from by idx_ext))
    obtain ⟨h0, h1, h2, h3, h4⟩ := hagree c
    have e0 : AttnKernel.rows0 m c = AttnReference.q0 (StableHlo.launchContents m' c) :=
      funext fun R => funext fun l => (congrFun h0 (ix2 R l)).symm
    have e1 : AttnKernel.rows1 m c = AttnReference.g0 (StableHlo.launchContents m' c) :=
      funext fun R => funext fun l => (congrFun h1 (ix2 R l)).symm
    have e2 : AttnKernel.rows2 m c = AttnReference.kv0 (StableHlo.launchContents m' c) :=
      funext fun R => funext fun l => (congrFun h2 (ix2 R l)).symm
    have e3 : AttnKernel.rows3 m c = AttnReference.kc0 (StableHlo.launchContents m' c) :=
      funext fun R => funext fun l => (congrFun h3 (ix2 R l)).symm
    have e4 : AttnKernel.rows4 m c = AttnReference.vc0 (StableHlo.launchContents m' c) :=
      funext fun R => funext fun l => (congrFun h4 (ix2 R l)).symm
    unfold AttnKernel.G
    rw [e0, e1, e2, e3, e4]
  · exact (θ_run Cert.RefIdeal.defs _ _).mono (fun r h c => h c) (Cert.RefIdeal.Value.run (F := Ideal) m' ρ')

end Cert.Proof.AttnClaims

end
-- ==== Proof.MergeRow.lean ====
/- The merge stage of the layer as plain mathematics, one output row at a time: the row is normalised, its two gate
   vectors are the logistic of two blocks of columns of one product, the gates weigh the projected attention row and the
   projected convolution row, their sum is projected and normalised, and the input row is added back.  Values are
   extended reals. -/
module

public import Idealize.ShloMosaic.Lib.Pointwise

@[expose] public section

noncomputable section

namespace Cert.Proof.Row

open Idealize.ShloMosaic

/-- A row scaled to unit mean square and weighed entry by entry. -/
def norm (x g : Fin 1024 → EReal) (k : Fin 1024) : EReal :=
  x k * Ideal.rsqrt (Ideal.div (∑ l, x l * x l) (Ideal.ofBits .f32 0x44800000#32) + Ideal.ofBits .f32 0x358637BD#32) * g k

/-- The logistic function, as a quotient. -/
def gate (y : EReal) : EReal := Ideal.div 1 (1 + Ideal.exp (-y))

/-- The gated sum of the two projected branches, before the last projection. -/
def mixed (z : Fin 1024 → EReal) (a b : Fin 512 → EReal) (w₀ w₁ : Fin 1024 → Fin 1024 → EReal)
    (wa wb : Fin 512 → Fin 1024 → EReal) (k : Fin 1024) : EReal :=
  gate (∑ l, z l * w₀ l k) * (∑ l, a l * wa l k) + gate (∑ l, z l * w₁ l k) * (∑ l, b l * wb l k)

/-- The whole stage at one row. -/
def merge (x g : Fin 1024 → EReal) (a b : Fin 512 → EReal) (w₀ w₁ : Fin 1024 → Fin 1024 → EReal)
    (wa wb : Fin 512 → Fin 1024 → EReal) (wo : Fin 1024 → Fin 1024 → EReal) (h : Fin 1024 → EReal) (j : Fin 1024) : EReal :=
  x j + norm (fun k => ∑ l, mixed (norm x g) a b w₀ w₁ wa wb l * wo l k) h j

end Cert.Proof.Row

end
-- ==== Proof.MergeKernel.lean ====
/- The merge kernel's result array as one function of its arguments: what each grid point stores is the stage's row
   function (MergeRow.lean) of the rows it reads, and the 32 blocks of 512 rows tile the array. -/
module

public import proofs.«01_k».proof.Proof.Gen.MergeIdeal.Value
public import proofs.«01_k».proof.Proof.MergeRow
public import Idealize.ShloMosaic.Lib.Pipeline.ValueKit

@[expose] public section

set_option maxRecDepth 16384

noncomputable section

namespace Cert.Proof.MergeKernel

open Cert.MergeIdeal Cert.MergeIdeal.Gen Idealize.ShloMosaic Idealize.ShloMosaic.TcCoe Idealize.SL.Sem

/-- The stage over whole arrays, at an index of the result. -/
def G (x : FVec Ideal S16384x1024 .f32) (g : FVec Ideal S1024 .f32) (a b : FVec Ideal S16384x512 .f32)
    (w : FVec Ideal S1024x4376 .f32) (wa wb : FVec Ideal S512x1024 .f32) (wo : FVec Ideal S1024x1024 .f32)
    (h : FVec Ideal S1024 .f32) : FVec Ideal S16384x1024 .f32 := fun i =>
  Row.merge (fun k => x (ix2 (i 0) k)) (fun k => g (ix1 k)) (fun k => a (ix2 (i 0) k)) (fun k => b (ix2 (i 0) k))
    (fun l k => w (ix2 l ⟨2328 + k.val, by omega⟩)) (fun l k => w (ix2 l ⟨3352 + k.val, by omega⟩))
    (fun l k => wa (ix2 l k)) (fun l k => wb (ix2 l k)) (fun l k => wo (ix2 l k)) (fun k => h (ix1 k)) (i 1)

/-- The windows' block indices: the row windows walk the grid, the others stand still. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The body's stored value at a block index, as the row function of the blocks it loaded. -/
theorem pay (x0 : Vec Ideal S512x1024 .f32) (x1 : Vec Ideal S1x1024 .f32) (x2 x3 : Vec Ideal S512x512 .f32)
    (x4 : Vec Ideal S1024x2048 .bf16) (x5 x6 : Vec Ideal S512x1024 .bf16) (x7 : Vec Ideal S1024x1024 .bf16)
    (x8 : Vec Ideal S1x1024 .f32) (r : Fin 512) (j : Fin 1024) :
    k0_pay1 x0 (k0_pay2 x0 x1 x4) (k0_pay3 x2 x5) (k0_pay4 x3 x6) x7 x8 (ix2 r j)
      = Row.merge (fun k => x0 (ix2 r k)) (fun k => x1 (ix2 0 k)) (fun k => x2 (ix2 r k)) (fun k => x3 (ix2 r k))
          (fun l k => x4 (ix2 l ⟨k.val, by omega⟩)) (fun l k => x4 (ix2 l ⟨1024 + k.val, by omega⟩))
          (fun l k => x5 (ix2 l k)) (fun l k => x6 (ix2 l k)) (fun l k => x7 (ix2 l k)) (fun k => x8 (ix2 0 k)) j := by
  pointwise [k0_pay1, k0_pay2, k0_pay3, k0_pay4, Row.merge, Row.mixed, Row.norm, Row.gate, zero_sub]

variable (m : (ℓ : Loc nD τ sig) → Buf (Elt Ideal) ℓ)

/-- The result array after the run. -/
theorem final (c : Dev nD) : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]; frame_out
  refine Eq.trans (congrArg _ (show y = ix2 (y 0) (y 1) from by idx_ext)) ?_
  refine (pay _ _ _ _ _ _ _ _ _ (y 0) (y 1)).trans ?_
  simp only [G]
  blk_point [iblk, V, idx t]

end Cert.Proof.MergeKernel

end
-- ==== Proof.MergeReference.lean ====
/- The merge reference's composed term, read at an index: the stage's row function (MergeRow.lean) of the argument rows. -/
module

public import proofs.«01_k».proof.Proof.Gen.MergeRefIdeal.Run
public import proofs.«01_k».proof.Proof.MergeRow
public import Idealize.ShloMosaic.Lib.Pipeline.ValueKit

@[expose] public section

set_option maxRecDepth 16384

noncomputable section

namespace Cert.Proof.MergeReference

open Cert.MergeRefIdeal Cert.MergeRefIdeal.Gen Idealize.ShloMosaic Idealize.ShloMosaic.TcCoe Idealize.SL.Sem

variable (m : (ℓ : Loc nD τ sig) → Buf (Elt Ideal) ℓ)

/-- The reference's result at row `r` and column `j`. -/
theorem at_index (c : Dev nD) (r : Fin 16384) (j : Fin 1024) :
    Value.res_out0 m c (ix2 r j)
      = Row.merge (fun k => m ((c.tc : Thread nD τ).loc main_arg0) (ix2 r k)) (fun k => m ((c.tc : Thread nD τ).loc main_arg1) (ix1 k))
          (fun k => m ((c.tc : Thread nD τ).loc main_arg2) (ix2 r k)) (fun k => m ((c.tc : Thread nD τ).loc main_arg3) (ix2 r k))
          (fun l k => m ((c.tc : Thread nD τ).loc main_arg4) (ix2 l ⟨2328 + k.val, by omega⟩))
          (fun l k => m ((c.tc : Thread nD τ).loc main_arg4) (ix2 l ⟨3352 + k.val, by omega⟩))
          (fun l k => m ((c.tc : Thread nD τ).loc main_arg5) (ix2 l k)) (fun l k => m ((c.tc : Thread nD τ).loc main_arg6) (ix2 l k))
          (fun l k => m ((c.tc : Thread nD τ).loc main_arg7) (ix2 l k)) (fun k => m ((c.tc : Thread nD τ).loc main_arg8) (ix1 k)) j := by
  pointwise [Value.res_main_v45, Row.merge, Row.mixed, Row.norm, Row.gate]
  blk_point []

end Cert.Proof.MergeReference

end
-- ==== Proof.MergeClaims.lean ====
/- The claims about the merge kernel: the idealised program's and the reference's frames, and the equality of their results. -/
module

public import proofs.«01_k».proof.Defs
public import proofs.«01_k».proof.Proof.MergeKernel
public import proofs.«01_k».proof.Proof.MergeReference

@[expose] public section

set_option maxRecDepth 16384

noncomputable section

namespace Cert.Proof.MergeClaims

open Idealize.ShloMosaic Idealize.ShloMosaic.TcCoe Idealize.SL.Sem

instance : Cert.MergeIdeal.Facts := Cert.MergeIdeal.Gen.facts
instance : Cert.MergeRefIdeal.Facts := Cert.MergeRefIdeal.Gen.facts

/-- The idealised kernel runs and leaves its arguments. -/
theorem frame_ideal : Cert.quiescent_MergeIdeal := fun m ρ _ => Cert.MergeIdeal.Gen.frame m ρ

/-- The reference runs and leaves its arguments. -/
theorem frame_ref : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- The idealised kernel and the reference end with the same result. -/
theorem algebraic : Cert.algebraic_MergeIdeal_MergeRefIdeal := by
  intro m ρ m' ρ' _ hagree
  refine ⟨fun c => Cert.MergeRefIdeal.Value.res_out0 m' c, ?_, ?_⟩
  · refine (θ_run Cert.MergeIdeal.defs _ _).mono (fun r h c => ?_) (Cert.MergeIdeal.Value.run_blocks (F := Ideal) m ρ)
    refine ⟨(h c).1.trans ((MergeKernel.final m c).trans ?_), (h c).2⟩
    funext i
    refine Eq.trans ?_ (MergeReference.at_index m' c (i 0) (i 1)).symm |>.trans
      (congrArg _ (show ix2 (i 0) (i 1) = i from by idx_ext))
    obtain ⟨h0, h1, h2, h3, h4, h5, h6, h7, h8⟩ := hagree c
    rw [← h0, ← h1, ← h2, ← h3, ← h4, ← h5, ← h6, ← h7, ← h8]
    rfl
  · exact (θ_run Cert.MergeRefIdeal.defs _ _).mono (fun r h c => h c) (Cert.MergeRefIdeal.Value.run (F := Ideal) m' ρ')

end Cert.Proof.MergeClaims

end
-- ==== Proof.InProjRow.lean ====
/- The layer's input projection as plain mathematics, one row at a time: the row is normalised, multiplied by the columns
   of one weight matrix, and three of the column blocks go through the logistic function.  Values are extended reals. -/
module

public import proofs.«01_k».proof.Proof.MergeRow

@[expose] public section

noncomputable section

namespace Cert.Proof.Row

open Idealize.ShloMosaic

/-- One entry of the projected row: the normalised row against one column. -/
def proj (x g w : Fin 1024 → EReal) : EReal := ∑ l, norm x g l * w l

/-- A branch gate: the logistic of its column, and of zero in the lanes that only pad the vector. -/
def branchGate (x g : Fin 1024 → EReal) (w : Fin 24 → Fin 1024 → EReal) (j : Fin 128) : EReal :=
  gate (if h : j.val < 24 then proj x g (w ⟨j.val, h⟩) else 0)

/-- A gated entry of the convolution's input: a value column times the logistic of its gate column. -/
def gated (x g v s : Fin 1024 → EReal) : EReal := proj x g v * gate (proj x g s)

/-- A row against a column of zeros is zero. -/
theorem proj_zero (x g : Fin 1024 → EReal) : proj x g (fun _ => 0) = 0 :=
  Finset.sum_eq_zero fun _ _ => mul_zero _

/-- The padding value is zero. -/
theorem pad_value : (FloatOps.sitofp .f32 (0#32 : BitVec 32) : Ideal .f32) = (0 : EReal) := by
  show (((0#32 : BitVec 32).toInt : ℝ) : EReal) = 0
  simp

/-- A gate lane read off a padded weight matrix. -/
theorem branchGate_of (x g w : Fin 1024 → EReal) (w' : Fin 24 → Fin 1024 → EReal) (j : Fin 128)
    (hw : ∀ l, w l = if h : j.val < 24 then w' ⟨j.val, h⟩ l else 0) : gate (proj x g w) = branchGate x g w' j := by
  unfold branchGate
  by_cases h : j.val < 24
  · rw [dif_pos h]
    exact congrArg (fun v => gate (proj x g v)) (funext fun l => (hw l).trans (dif_pos h))
  · rw [dif_neg h, ← proj_zero x g]
    exact congrArg (fun v => gate (proj x g v)) (funext fun l => (hw l).trans (dif_neg h))

end Cert.Proof.Row

end
-- ==== Proof.InProjKernel.lean ====
/- The input projection's result arrays as functions of its arguments: what each grid point stores is the row function
   (InProjRow.lean) of the rows it reads, and the 32 blocks of 512 rows tile each array. -/
module

public import proofs.«01_k».proof.Proof.Gen.InProjIdeal.Value
public import proofs.«01_k».proof.Proof.InProjRow
public import Idealize.ShloMosaic.Lib.Pipeline.ValueKit

@[expose] public section

set_option maxRecDepth 16384

noncomputable section

namespace Cert.Proof.InProjKernel

open Cert.InProjIdeal Cert.InProjIdeal.Gen Idealize.ShloMosaic Idealize.ShloMosaic.TcCoe Idealize.SL.Sem

/-- The block of `n` projected columns that starts at column `o`. -/
def cols (o n : ℕ) (h : o + n ≤ 4376) (x : FVec Ideal S16384x1024 .f32) (g : FVec Ideal S1024 .f32) (w : FVec Ideal S1024x4376 .f32)
    (r : Fin 16384) (j : Fin n) : EReal :=
  Row.proj (fun k => x (ix2 r k)) (fun k => g (ix1 k)) (fun l => w (ix2 l ⟨o + j.val, by omega⟩))

/-- The branch gates, in the 128 lanes the call stores. -/
def gates (x : FVec Ideal S16384x1024 .f32) (g : FVec Ideal S1024 .f32) (w : FVec Ideal S1024x4376 .f32)
    (r : Fin 16384) (j : Fin 128) : EReal :=
  Row.branchGate (fun k => x (ix2 r k)) (fun k => g (ix1 k)) (fun j l => w (ix2 l ⟨1280 + j.val, by omega⟩)) j

/-- The convolution's gated input. -/
def conv (x : FVec Ideal S16384x1024 .f32) (g : FVec Ideal S1024 .f32) (w : FVec Ideal S1024x4376 .f32)
    (r : Fin 16384) (j : Fin 512) : EReal :=
  Row.gated (fun k => x (ix2 r k)) (fun k => g (ix1 k)) (fun l => w (ix2 l ⟨1304 + j.val, by omega⟩))
    (fun l => w (ix2 l ⟨1816 + j.val, by omega⟩))

/-- The windows' block indices: the row windows walk the grid, the others stand still. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

section Payloads

variable (x0 : Vec Ideal S512x1024 .f32) (x1 : Vec Ideal S1x1024 .f32) (x2 : Vec Ideal S1024x1280 .bf16)
  (x3 : Vec Ideal S1024x128 .bf16) (x4 : Vec Ideal S1024x1024 .bf16) (r : Fin 512)

theorem pay_q (j : Fin 512) : k0_pay5 x0 x1 x2 (ix2 r j)
    = Row.proj (fun k => x0 (ix2 r k)) (fun k => x1 (ix2 0 k)) (fun l => x2 (ix2 l ⟨j.val, by omega⟩)) := by
  pointwise [k0_pay5, k0_pay4, k0_pay3, Row.proj, Row.norm]

theorem pay_kv (j : Fin 512) : k0_pay6 x0 x1 x2 (ix2 r j)
    = Row.proj (fun k => x0 (ix2 r k)) (fun k => x1 (ix2 0 k)) (fun l => x2 (ix2 l ⟨512 + j.val, by omega⟩)) := by
  pointwise [k0_pay6, k0_pay4, k0_pay3, Row.proj, Row.norm]

theorem pay_win (j : Fin 256) : k0_pay7 x0 x1 x2 (ix2 r j)
    = Row.proj (fun k => x0 (ix2 r k)) (fun k => x1 (ix2 0 k)) (fun l => x2 (ix2 l ⟨1024 + j.val, by omega⟩)) := by
  pointwise [k0_pay7, k0_pay4, k0_pay3, Row.proj, Row.norm]

theorem pay_att (j : Fin 512) : k0_pay8 x0 x1 x2 (ix2 r j)
    = Row.proj (fun k => x0 (ix2 r k)) (fun k => x1 (ix2 0 k)) (fun l => x2 (ix2 l ⟨768 + j.val, by omega⟩)) := by
  pointwise [k0_pay8, k0_pay4, k0_pay3, Row.proj, Row.norm]

theorem pay_gates (j : Fin 128) : k0_pay1 (k0_pay9 x0 x1 x3) (ix2 r j)
    = Row.gate (Row.proj (fun k => x0 (ix2 r k)) (fun k => x1 (ix2 0 k)) (fun l => x3 (ix2 l j))) := by
  pointwise [k0_pay1, k0_pay9, k0_pay3, Row.proj, Row.norm, Row.gate, zero_sub]

theorem pay_conv (j : Fin 512) : k0_pay2 (k0_pay3 x0 x1) x4 (ix2 r j)
    = Row.gated (fun k => x0 (ix2 r k)) (fun k => x1 (ix2 0 k)) (fun l => x4 (ix2 l ⟨j.val, by omega⟩))
        (fun l => x4 (ix2 l ⟨512 + j.val, by omega⟩)) := by
  pointwise [k0_pay2, k0_pay3, Row.gated, Row.proj, Row.norm, Row.gate, zero_sub]

end Payloads

variable (m : (ℓ : Loc nD τ sig) → Buf (Elt Ideal) ℓ)

/-! ## The weights as the call finds them -/

theorem host_g (c : Dev nD) (k : Fin 1024) : V m c main_v7 (ix2 0 k) = m ((c : Thread nD τ).loc main_arg1) (ix1 k) := by
  unfold V
  simp only [hostOps0, hostOps0_1, hostOps0_2, List.flatten_cons, List.flatten_nil, List.append_nil, List.cons_append, List.nil_append]
  entry_read
  try simp only [StableHlo.TRef.ofBuf, StableHlo.TRef.toBuf, cast_eq, StableHlo.TRef.of]
  pointwise []
  try blk_point []

theorem host_wq (c : Dev nD) (l : Fin 1024) (j : Fin 1280) :
    V m c main_v1 (ix2 l j) = m ((c : Thread nD τ).loc main_arg2) (ix2 l ⟨j.val, by omega⟩) := by
  unfold V
  simp only [hostOps0, hostOps0_1, hostOps0_2, List.flatten_cons, List.flatten_nil, List.append_nil, List.cons_append, List.nil_append]
  entry_read
  try simp only [StableHlo.TRef.ofBuf, StableHlo.TRef.toBuf, cast_eq, StableHlo.TRef.of]
  pointwise []
  try blk_point []

theorem host_wu (c : Dev nD) (l : Fin 1024) (j : Fin 1024) :
    V m c main_v6 (ix2 l j) = m ((c : Thread nD τ).loc main_arg2) (ix2 l ⟨1304 + j.val, by omega⟩) := by
  unfold V
  simp only [hostOps0, hostOps0_1, hostOps0_2, List.flatten_cons, List.flatten_nil, List.append_nil, List.cons_append, List.nil_append]
  entry_read
  try simp only [StableHlo.TRef.ofBuf, StableHlo.TRef.toBuf, cast_eq, StableHlo.TRef.of]
  pointwise []
  try blk_point []

theorem host_wgate (c : Dev nD) (l : Fin 1024) (j : Fin 128) :
    V m c main_v4 (ix2 l j) = if h : j.val < 24 then m ((c : Thread nD τ).loc main_arg2) (ix2 l ⟨1280 + j.val, by omega⟩) else (0 : EReal) := by
  unfold V
  simp only [hostOps0, hostOps0_1, hostOps0_2, List.flatten_cons, List.flatten_nil, List.append_nil, List.cons_append, List.nil_append]
  entry_read
  try simp only [StableHlo.TRef.ofBuf, StableHlo.TRef.toBuf, cast_eq, StableHlo.TRef.of]
  pointwise []
  have hl := l.isLt
  have hj := j.isLt
  by_cases h : j.val < 24
  · rw [dif_pos h, dif_pos h]
    try rfl
  · rw [dif_neg h]
    refine Row.pad_value.trans ?_
    rw [dif_neg h]

theorem blk_g (c : Dev nD) (t : Fin cfg0.N) (k : Fin 1024) : iblk m c 1 t (ix2 0 k) = m ((c : Thread nD τ).loc main_arg1) (ix1 k) := by
  refine Eq.trans ?_ (host_g m c k)
  unfold iblk
  generalize V m c (Pipeline.arrRef spec0 1) = X
  blk_ext [idx t]

theorem blk_wq (c : Dev nD) (t : Fin cfg0.N) (l : Fin 1024) (j : Fin 1280) :
    iblk m c 2 t (ix2 l j) = m ((c : Thread nD τ).loc main_arg2) (ix2 l ⟨j.val, by omega⟩) := by
  refine Eq.trans ?_ (host_wq m c l j)
  unfold iblk
  generalize V m c (Pipeline.arrRef spec0 2) = X
  blk_ext [idx t]

theorem blk_wgate (c : Dev nD) (t : Fin cfg0.N) (l : Fin 1024) (j : Fin 128) :
    iblk m c 3 t (ix2 l j) = if h : j.val < 24 then m ((c : Thread nD τ).loc main_arg2) (ix2 l ⟨1280 + j.val, by omega⟩) else (0 : EReal) := by
  refine Eq.trans ?_ (host_wgate m c l j)
  unfold iblk
  generalize V m c (Pipeline.arrRef spec0 3) = X
  blk_ext [idx t]

theorem blk_wu (c : Dev nD) (t : Fin cfg0.N) (l : Fin 1024) (j : Fin 1024) :
    iblk m c 4 t (ix2 l j) = m ((c : Thread nD τ).loc main_arg2) (ix2 l ⟨1304 + j.val, by omega⟩) := by
  refine Eq.trans ?_ (host_wu m c l j)
  unfold iblk
  generalize V m c (Pipeline.arrRef spec0 4) = X
  blk_ext [idx t]

/-! ## The result arrays -/

/-- The queries after the run. -/
theorem final_q (c : Dev nD) : (dats m 0 c).arrAt 5 cfg0.N = fun i : S16384x512.Idx =>
    cols 0 512 (by decide) (m ((c : Thread nD τ).loc main_arg0)) (m ((c : Thread nD τ).loc main_arg1))
      (m ((c : Thread nD τ).loc main_arg2)) (i 0) (i 1) := by
  refine (dats m 0 c).arrAt_eq_of_covers 5 _ (by decide +kernel) fun t _ y => ?_
  blk_simp
  rw [after0_5]; frame_out
  refine Eq.trans (congrArg _ (show y = ix2 (y 0) (y 1) from by idx_ext)) ?_
  refine (pay_q _ _ _ (y 0) (y 1)).trans ?_
  simp only [cols]
  blk_point [iblk, V, idx t]
  · exact blk_g m c t _
  · refine (blk_wq m c t _ _).trans ?_
    blk_point []

/-- The first four key and value columns' block after the run. -/
theorem final_kv (c : Dev nD) : (dats m 0 c).arrAt 6 cfg0.N = fun i : S16384x512.Idx =>
    cols 512 512 (by decide) (m ((c : Thread nD τ).loc main_arg0)) (m ((c : Thread nD τ).loc main_arg1))
      (m ((c : Thread nD τ).loc main_arg2)) (i 0) (i 1) := by
  refine (dats m 0 c).arrAt_eq_of_covers 6 _ (by decide +kernel) fun t _ y => ?_
  blk_simp
  rw [after0_6]; frame_out
  refine Eq.trans (congrArg _ (show y = ix2 (y 0) (y 1) from by idx_ext)) ?_
  refine (pay_kv _ _ _ (y 0) (y 1)).trans ?_
  simp only [cols]
  blk_point [iblk, V, idx t]
  · exact blk_g m c t _
  · refine (blk_wq m c t _ _).trans ?_
    blk_point []

/-- The window keys and values after the run. -/
theorem final_win (c : Dev nD) : (dats m 0 c).arrAt 7 cfg0.N = fun i : S16384x256.Idx =>
    cols 1024 256 (by decide) (m ((c : Thread nD τ).loc main_arg0)) (m ((c : Thread nD τ).loc main_arg1))
      (m ((c : Thread nD τ).loc main_arg2)) (i 0) (i 1) := by
  refine (dats m 0 c).arrAt_eq_of_covers 7 _ (by decide +kernel) fun t _ y => ?_
  blk_simp
  rw [after0_7]; frame_out
  refine Eq.trans (congrArg _ (show y = ix2 (y 0) (y 1) from by idx_ext)) ?_
  refine (pay_win _ _ _ (y 0) (y 1)).trans ?_
  simp only [cols]
  blk_point [iblk, V, idx t]
  · exact blk_g m c t _
  · refine (blk_wq m c t _ _).trans ?_
    blk_point []

/-- The attention's packed columns after the run. -/
theorem final_att (c : Dev nD) : (dats m 0 c).arrAt 8 cfg0.N = fun i : S16384x512.Idx =>
    cols 768 512 (by decide) (m ((c : Thread nD τ).loc main_arg0)) (m ((c : Thread nD τ).loc main_arg1))
      (m ((c : Thread nD τ).loc main_arg2)) (i 0) (i 1) := by
  refine (dats m 0 c).arrAt_eq_of_covers 8 _ (by decide +kernel) fun t _ y => ?_
  blk_simp
  rw [after0_8]; frame_out
  refine Eq.trans (congrArg _ (show y = ix2 (y 0) (y 1) from by idx_ext)) ?_
  refine (pay_att _ _ _ (y 0) (y 1)).trans ?_
  simp only [cols]
  blk_point [iblk, V, idx t]
  · exact blk_g m c t _
  · refine (blk_wq m c t _ _).trans ?_
    blk_point []

/-- The convolution's gated input after the run. -/
theorem final_conv (c : Dev nD) : (dats m 0 c).arrAt 10 cfg0.N = fun i : S16384x512.Idx =>
    conv (m ((c : Thread nD τ).loc main_arg0)) (m ((c : Thread nD τ).loc main_arg1))
      (m ((c : Thread nD τ).loc main_arg2)) (i 0) (i 1) := by
  refine (dats m 0 c).arrAt_eq_of_covers 10 _ (by decide +kernel) fun t _ y => ?_
  blk_simp
  rw [after0_10]; frame_out
  refine Eq.trans (congrArg _ (show y = ix2 (y 0) (y 1) from by idx_ext)) ?_
  refine (pay_conv _ _ _ (y 0) (y 1)).trans ?_
  simp only [conv]
  blk_point [iblk, V, idx t]
  · exact blk_g m c t _
  · refine (blk_wu m c t _ _).trans ?_
    blk_point []
  · refine (blk_wu m c t _ _).trans ?_
    blk_point []

/-- The branch gates after the run. -/
theorem final_gates (c : Dev nD) : (dats m 0 c).arrAt 9 cfg0.N = fun i : S16384x128.Idx =>
    gates (m ((c : Thread nD τ).loc main_arg0)) (m ((c : Thread nD τ).loc main_arg1))
      (m ((c : Thread nD τ).loc main_arg2)) (i 0) (i 1) := by
  refine (dats m 0 c).arrAt_eq_of_covers 9 _ (by decide +kernel) fun t _ y => ?_
  blk_simp
  rw [after0_9]; frame_out
  refine Eq.trans (congrArg _ (show y = ix2 (y 0) (y 1) from by idx_ext)) ?_
  refine (pay_gates _ _ _ (y 0) (y 1)).trans ?_
  refine (Row.branchGate_of _ _ _ (fun j l => m ((c : Thread nD τ).loc main_arg2) (ix2 l ⟨1280 + j.val, by omega⟩)) (y 1)
    (fun l => blk_wgate m c t l (y 1))).trans ?_
  simp only [gates]
  blk_point [iblk, V, idx t]
  · exact blk_g m c t _
  all_goals
    exfalso
    have e : (((View.whole main_v8_4).slice (win0_9.rect t)).emb y 1).val = win0_9.index t (1 : Fin 2) * 128 + 1 * (y 1).val := rfl
    have e2 : win0_9.index t (1 : Fin 2) = 0 := by
      rw [show win0_9.index t = ![t.val, 0] from (idx t).2.2.2.2.2.2.2.2.2.1]
      rfl
    omega

end Cert.Proof.InProjKernel

end
-- ==== Proof.InProjReference.lean ====
/- The input projection's reference, read at an index: the row functions (InProjRow.lean) of the argument rows. -/
module

public import proofs.«01_k».proof.Proof.Gen.InProjRefIdeal.Run
public import proofs.«01_k».proof.Proof.InProjRow
public import Idealize.ShloMosaic.Lib.Pipeline.ValueKit

@[expose] public section

set_option maxRecDepth 16384

noncomputable section

namespace Cert.Proof.InProjReference

open Cert.InProjRefIdeal Cert.InProjRefIdeal.Gen Idealize.ShloMosaic Idealize.ShloMosaic.TcCoe Idealize.SL.Sem

/-- The whole projection, before it is cut into column blocks. -/
def Y (x : FVec Ideal S16384x1024 .f32) (g : FVec Ideal S1024 .f32) (w : FVec Ideal S1024x4376 .f32) : FVec Ideal S16384x4376 .f32 :=
  Host.dotGeneral (F := Ideal) (φ₁ := .f32) (φ₂ := .f32) dot_S16384x1024_S1024x4376_S16384x4376_1_0_0_1_n_n none (mulf (mulf x (broadcastInDim S16384x1024 ![0, 1] Gen.bcast_S16384x1_S16384x1024_0_1 (Host.rsqrt (addf (Host.divf (broadcastInDim S16384x1 ![0] Gen.bcast_S16384_S16384x1_0 (Host.reduceAdd (mulf x x) (constant S_ .f32 0x00000000#32) Gen.reducesTo_S16384x1024_S16384_d1 Gen.h_S_)) (broadcastInDim S16384x1 ![] Gen.bcast_S_S16384x1 (constant S_ .f32 0x44800000#32))) (broadcastInDim S16384x1 ![] Gen.bcast_S_S16384x1 (constant S_ .f32 0x358637BD#32)))))) (broadcastInDim S16384x1024 ![0, 1] Gen.bcast_S1x1024_S16384x1024_0_1 (broadcastInDim S1x1024 ![1] Gen.bcast_S1024_S1x1024_1 g))) w

theorem Y_at (x : FVec Ideal S16384x1024 .f32) (g : FVec Ideal S1024 .f32) (w : FVec Ideal S1024x4376 .f32) (r : Fin 16384) (j : Fin 4376) :
    Y x g w (ix2 r j) = Row.proj (fun k => x (ix2 r k)) (fun k => g (ix1 k)) (fun l => w (ix2 l j)) := by
  unfold Y
  pointwise [Row.proj, Row.norm]
  try blk_point []

/-! ## Each result, over any projected array -/

theorem q_at (y : FVec Ideal S16384x4376 .f32) (r : Fin 16384) (j : Fin 512) :
    extractStridedSlice S16384x512 ![0, 0] y Gen.slices_S16384x4376_S16384x512_0_0 (ix2 r j) = y (ix2 r ⟨0 + j.val, by omega⟩) := by
  pointwise []
  try blk_point []

theorem kv_at (y : FVec Ideal S16384x4376 .f32) (r : Fin 16384) (j : Fin 512) :
    extractStridedSlice S16384x512 ![0, 512] y Gen.slices_S16384x4376_S16384x512_0_512 (ix2 r j) = y (ix2 r ⟨512 + j.val, by omega⟩) := by
  pointwise []
  try blk_point []

theorem win_at (y : FVec Ideal S16384x4376 .f32) (r : Fin 16384) (j : Fin 256) :
    extractStridedSlice S16384x256 ![0, 1024] y Gen.slices_S16384x4376_S16384x256_0_1024 (ix2 r j) = y (ix2 r ⟨1024 + j.val, by omega⟩) := by
  pointwise []
  try blk_point []

theorem att_at (y : FVec Ideal S16384x4376 .f32) (r : Fin 16384) (j : Fin 512) :
    truncf .bf16 (extractStridedSlice S16384x512 ![0, 768] y Gen.slices_S16384x4376_S16384x512_0_768) bitsLt_bf16_f32 (ix2 r j)
      = y (ix2 r ⟨768 + j.val, by omega⟩) := by
  pointwise []
  try blk_point []

theorem gates_at (y : FVec Ideal S16384x4376 .f32) (r : Fin 16384) (j : Fin 128) :
    Host.divf (F := Ideal) (φ := .f32) (broadcastInDim S16384x128 ![] Gen.bcast_S_S16384x128 (constant S_ .f32 0x3F800000#32)) (addf (broadcastInDim S16384x128 ![] Gen.bcast_S_S16384x128 (constant S_ .f32 0x3F800000#32)) (Host.exp (Host.negf (pad S16384x128 ![0, 0] ![0, 104] ![0, 0] (extractStridedSlice S16384x24 ![0, 1280] y Gen.slices_S16384x4376_S16384x24_0_1280) (sitofp .f32 (constantI S_ 32 0#32)) Gen.pads_S16384x24_S16384x128_000_01040 Gen.h_S_)))) (ix2 r j)
      = Row.gate (if h : j.val < 24 then y (ix2 r ⟨1280 + j.val, by omega⟩) else 0) := by
  pointwise [Row.gate]
  rw [Row.pad_value]

theorem conv_at (y : FVec Ideal S16384x4376 .f32) (r : Fin 16384) (j : Fin 512) :
    mulf (F := Ideal) (φ := .f32) (extractStridedSlice S16384x512 ![0, 0] (extractStridedSlice S16384x1024 ![0, 1304] y Gen.slices_S16384x4376_S16384x1024_0_1304) Gen.slices_S16384x1024_S16384x512_0_0) (Host.divf (broadcastInDim S16384x512 ![] Gen.bcast_S_S16384x512 (constant S_ .f32 0x3F800000#32)) (addf (broadcastInDim S16384x512 ![] Gen.bcast_S_S16384x512 (constant S_ .f32 0x3F800000#32)) (Host.exp (Host.negf (extractStridedSlice S16384x512 ![0, 512] (extractStridedSlice S16384x1024 ![0, 1304] y Gen.slices_S16384x4376_S16384x1024_0_1304) Gen.slices_S16384x1024_S16384x512_0_512))))) (ix2 r j)
      = @HMul.hMul EReal EReal EReal _ (y (ix2 r ⟨1304 + j.val, by omega⟩)) (Row.gate (y (ix2 r ⟨1816 + j.val, by omega⟩))) := by
  pointwise [Row.gate]
  try blk_point []

end Cert.Proof.InProjReference

end
-- ==== Proof.InProjClaims.lean ====
/- The claims about the input projection: the idealised program's and the reference's frames, and the equality of their
   six results. -/
module

public import proofs.«01_k».proof.Defs
public import proofs.«01_k».proof.Proof.InProjKernel
public import proofs.«01_k».proof.Proof.InProjReference

@[expose] public section

set_option maxRecDepth 16384

noncomputable section

namespace Cert.Proof.InProjClaims

open Idealize.ShloMosaic Idealize.ShloMosaic.TcCoe Idealize.SL.Sem

instance : Cert.InProjIdeal.Facts := Cert.InProjIdeal.Gen.facts
instance : Cert.InProjRefIdeal.Facts := Cert.InProjRefIdeal.Gen.facts

/-- The idealised kernel runs and leaves its arguments. -/
theorem frame_ideal : Cert.quiescent_InProjIdeal := fun m ρ _ => Cert.InProjIdeal.Gen.frame m ρ

/-- The reference runs and leaves its arguments. -/
theorem frame_ref : Cert.quiescent_InProjRefIdeal := fun m ρ _ =>
  (θ_run Cert.InProjRefIdeal.defs _ _).mono
    (fun r h => ⟨fun c => (h c).2.2.2.2.2.2, Idealize.ShloMosaic.sem_eq_zero_of_no_sems (by decide) r.2⟩)
    (Cert.InProjRefIdeal.Value.run (F := Ideal) m ρ)

theorem congr_three {α β γ δ : Sort _} (f : α → β → γ → δ) {a a' : α} {b b' : β} {c c' : γ} (ha : a = a') (hb : b = b')
    (hc : c = c') : f a b c = f a' b' c' := by
  rw [ha, hb, hc]

/-- The idealised kernel and the reference end with the same results. -/
theorem algebraic : Cert.algebraic_InProjIdeal_InProjRefIdeal := by
  intro m ρ m' ρ' _ hagree
  refine ⟨fun c (i : Cert.InProjIdeal.S16384x512.Idx) => InProjKernel.cols 0 512 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (i 0) (i 1),
    fun c (i : Cert.InProjIdeal.S16384x512.Idx) => InProjKernel.cols 512 512 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (i 0) (i 1),
    fun c (i : Cert.InProjIdeal.S16384x256.Idx) => InProjKernel.cols 1024 256 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (i 0) (i 1),
    fun c (i : Cert.InProjIdeal.S16384x512.Idx) => InProjKernel.cols 768 512 (by decide) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (i 0) (i 1),
    fun c (i : Cert.InProjIdeal.S16384x128.Idx) => InProjKernel.gates (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (i 0) (i 1),
    fun c (i : Cert.InProjIdeal.S16384x512.Idx) => InProjKernel.conv (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (i 0) (i 1), ?_, ?_⟩
  · refine (θ_run Cert.InProjIdeal.defs _ _).mono (fun r h c => ?_) (Cert.InProjIdeal.Value.run_blocks (F := Ideal) m ρ)
    obtain ⟨h0, h1, h2, h3, h4, h5, hargs⟩ := h c
    exact ⟨h0.trans (InProjKernel.final_q m c), h1.trans (InProjKernel.final_kv m c), h2.trans (InProjKernel.final_win m c),
      h3.trans (InProjKernel.final_att m c), h4.trans (InProjKernel.final_gates m c), h5.trans (InProjKernel.final_conv m c), hargs⟩
  · refine (θ_run Cert.InProjRefIdeal.defs _ _).mono (fun r h c => ?_) (Cert.InProjRefIdeal.Value.run (F := Ideal) m' ρ')
    obtain ⟨h0, h1, h2, h3, h4, h5, hargs⟩ := h c
    obtain ⟨a0, a1, a2⟩ := hagree c
    refine ⟨?_, ?_, ?_, ?_, ?_, ?_, hargs⟩
    · refine h0.trans (funext fun i => ?_)
      refine Eq.trans ?_ (congr_three (fun x g w => InProjKernel.cols 0 512 (by decide) x g w (i 0) (i 1)) a0 a1 a2)
      refine (congrArg _ (show i = ix2 (i 0) (i 1) from by idx_ext)).trans ?_
      exact (InProjReference.q_at _ (i 0) (i 1)).trans (InProjReference.Y_at _ _ _ _ _)
    · refine h1.trans (funext fun i => ?_)
      refine Eq.trans ?_ (congr_three (fun x g w => InProjKernel.cols 512 512 (by decide) x g w (i 0) (i 1)) a0 a1 a2)
      refine (congrArg _ (show i = ix2 (i 0) (i 1) from by idx_ext)).trans ?_
      exact (InProjReference.kv_at _ (i 0) (i 1)).trans (InProjReference.Y_at _ _ _ _ _)
    · refine h2.trans (funext fun i => ?_)
      refine Eq.trans ?_ (congr_three (fun x g w => InProjKernel.cols 1024 256 (by decide) x g w (i 0) (i 1)) a0 a1 a2)
      refine (congrArg _ (show i = ix2 (i 0) (i 1) from by idx_ext)).trans ?_
      exact (InProjReference.win_at _ (i 0) (i 1)).trans (InProjReference.Y_at _ _ _ _ _)
    · refine h3.trans (funext fun i => ?_)
      refine Eq.trans ?_ (congr_three (fun x g w => InProjKernel.cols 768 512 (by decide) x g w (i 0) (i 1)) a0 a1 a2)
      refine (congrArg _ (show i = ix2 (i 0) (i 1) from by idx_ext)).trans ?_
      exact (InProjReference.att_at _ (i 0) (i 1)).trans (InProjReference.Y_at _ _ _ _ _)
    · refine h4.trans (funext fun i => ?_)
      refine Eq.trans ?_ (congr_three (fun x g w => InProjKernel.gates x g w (i 0) (i 1)) a0 a1 a2)
      refine (congrArg _ (show i = ix2 (i 0) (i 1) from by idx_ext)).trans ?_
      exact (InProjReference.gates_at _ (i 0) (i 1)).trans (congrArg Row.gate (dite_congr rfl (fun _ => InProjReference.Y_at _ _ _ _ _) fun _ => rfl))
    · refine h5.trans (funext fun i => ?_)
      refine Eq.trans ?_ (congr_three (fun x g w => InProjKernel.conv x g w (i 0) (i 1)) a0 a1 a2)
      refine (congrArg _ (show i = ix2 (i 0) (i 1) from by idx_ext)).trans ?_
      exact (InProjReference.conv_at _ (i 0) (i 1)).trans (congrArg₂ (fun a b : EReal => a * Row.gate b) (InProjReference.Y_at _ _ _ _ _) (InProjReference.Y_at _ _ _ _ _))

end Cert.Proof.InProjClaims

end
-- ==== Proof.FfnRow.lean ====
/- The layer's feed-forward part as plain mathematics, one entry at a time: the row is normalised and multiplied by the
   columns of the up-projection, a causal filter of three taps mixes each column with its two earlier rows, one half of
   the columns goes through the gelu function and weighs the other half, and the product is projected down, normalised
   and added to the row.  Values are extended reals. -/
module

public import proofs.«01_k».proof.Proof.InProjRow

@[expose] public section

noncomputable section

namespace Cert.Proof.Row

open Idealize.ShloMosaic

/-- A column's three taps and its offset: the two earlier rows first. -/
def mix (w₀ w₁ w₂ b e₀ e₁ e₂ : EReal) : EReal := w₀ * e₀ + w₁ * e₁ + w₂ * e₂ + b

/-- A gate entry through the gelu function, times its value entry. -/
def geglu (a b : EReal) : EReal :=
  a * (Ideal.ofBits .f32 0x3F000000#32 * (1 + Ideal.tanh (Ideal.ofBits .f32 0x3F4C422A#32 *
    (a + Ideal.ofBits .f32 0x3D372713#32 * (a * a * a))))) * b

/-- The last step: the row, plus the normalised down-projection of its activations. -/
def down (x : Fin 1024 → EReal) (v : Fin 2816 → EReal) (w : Fin 2816 → Fin 1024 → EReal) (g : Fin 1024 → EReal)
    (j : Fin 1024) : EReal :=
  x j + norm (fun k => ∑ l, v l * w l k) g j

end Cert.Proof.Row

end
-- ==== Proof.FfnPay.lean ====
/- The feed-forward kernel's stored values at an index, over any arrays: the up-projection, the rows carried from the tile
   before, the filter, the gelu, and the last step. -/
module

public import proofs.«01_k».proof.Proof.Gen.FfnIdeal.Value
public import proofs.«01_k».proof.Proof.FfnRow
public import Idealize.ShloMosaic.Lib.Pipeline.ValueKit
public import Idealize.ShloMosaic.Lib.WholeRead

@[expose] public section

set_option maxRecDepth 16384

noncomputable section

namespace Cert.Proof.FfnPay

open Cert.FfnIdeal Cert.FfnIdeal.Gen Idealize.ShloMosaic Idealize.ShloMosaic.TcCoe Idealize.SL.Sem

theorem z_at (x0 : Vec Ideal S512x1024 .f32) (x1 : Vec Ideal S1x1024 .f32) (r : Fin 512) (l : Fin 1024) :
    k0_pay2 x0 x1 (ix2 r l) = Row.norm (fun k => x0 (ix2 r k)) (fun k => x1 (ix2 0 k)) l := by
  pointwise [k0_pay2, Row.norm]

theorem u_at (z : FVec Ideal S512x1024 .bf16) (w : Vec Ideal S1024x256 .bf16) (r : Fin 512) (j : Fin 256) :
    k0_pay10 z w (ix2 r j) = Finset.sum (M := EReal) Finset.univ fun l => @HMul.hMul EReal EReal EReal _ (z (ix2 r l)) (w (ix2 l j)) := by
  pointwise [k0_pay10]

theorem halo_at (b : BitVec 1) (v : Vec Ideal S8x256 .f32) (i : Fin 8) (j : Fin 256) :
    k0_pay12 b v (ix2 i j) = if b = 1#1 then (0 : EReal) else v (ix2 i j) := by
  by_cases hb : b = 1#1
  · subst hb
    pointwise [k0_pay12, Scalar.select]
    rfl
  · obtain rfl : b = 0#1 := by
      revert hb; revert b; decide
    pointwise [k0_pay12, Scalar.select]
    rfl

theorem up_at (u : FVec Ideal S512x256 .f32) (r : Fin 512) (j : Fin 256) : k0_pay11 u (ix2 r j) = u (ix2 r j) := by
  pointwise [k0_pay11]

theorem mix_at (u : FVec Ideal S512x256 .f32) (e₁ e₀ : Vec Ideal S512x256 .f32) (cw : Vec Ideal S3x256 .f32)
    (cb : Vec Ideal S1x256 .f32) (r : Fin 512) (j : Fin 256) :
    k0_pay9 u e₁ e₀ cw cb (ix2 r j) = Row.mix (cw (ix2 0 j)) (cw (ix2 1 j)) (cw (ix2 2 j)) (cb (ix2 0 j)) (e₀ (ix2 r j)) (e₁ (ix2 r j)) (u (ix2 r j)) := by
  pointwise [k0_pay9, Row.mix]

theorem geglu_at (a b : FVec Ideal S512x256 .f32) (r : Fin 512) (j : Fin 256) :
    k0_pay18 a b (k0_pay16 a) k0_pay17 (ix2 r j) = Row.geglu (a (ix2 r j)) (b (ix2 r j)) := by
  pointwise [k0_pay18, k0_pay16, k0_pay17, Row.geglu]

theorem tail_at (u : FVec Ideal S512x256 .f32) (i : Fin 8) (j : Fin 256) :
    k0_pay8 u (ix2 i j) = u (ix2 ⟨504 + i.val, by omega⟩ j) := by
  pointwise [k0_pay8]
  try blk_point []

theorem carry_at (u : FVec Ideal S512x256 .f32) (i : Fin 8) (j : Fin 256) :
    k0_pay7 u (ix2 i j) = u (ix2 ⟨504 + i.val, by omega⟩ j) := by
  pointwise [k0_pay7]
  try blk_point []

theorem down_at (x : Vec Ideal S512x1024 .f32) (v : Vec Ideal S512x2816 .bf16) (w : Vec Ideal S2816x1024 .bf16)
    (g : Vec Ideal S1x1024 .f32) (r : Fin 512) (j : Fin 1024) :
    k0_pay1 x (k0_pay162 v w) (k0_pay163 g) (k0_pay164 v w) (ix2 r j)
      = Row.down (fun k => x (ix2 r k)) (fun l => v (ix2 r l)) (fun l k => w (ix2 l k)) (fun k => g (ix2 0 k)) j := by
  pointwise [k0_pay1, k0_pay162, k0_pay163, k0_pay164, Row.down, Row.norm]

/-- A block of columns of a whole array. -/
theorem cut_at {sp : Space} {φ : EltTy} {n w m o : ℕ} (a : Memref sig .tc sp ⟨2, ![n, w]⟩ φ) (ha : a.IsWhole)
    (X : Shape.Idx ⟨2, ![n, w]⟩ → Elt Ideal φ) (inb : ∀ d, (![0, o] : Fin 2 → ℕ) d + (⟨2, ![n, m]⟩ : Shape).size d ≤ (⟨2, ![n, w]⟩ : Shape).size d)
    (ho : o + m ≤ w) (l : Fin n) (j : Fin m) :
    View.readAt (Elt Ideal) a.view (Rect.unit (s := ⟨2, ![n, w]⟩) ![0, o] (⟨2, ![n, m]⟩ : Shape).size inb).toLoadRect (ha.unread X) (ix2 l j)
      = X (ix2 l ⟨o + j.val, by omega⟩) := by
  rw [ha.readAt_unread]
  refine congrArg X (funext fun d => Fin.ext ?_)
  match d with
  | 0 => show 0 + 1 * l.val = l.val; omega
  | 1 => show o + 1 * j.val = o + j.val; omega

/-- The buffer of eight carried rows above the tile's rows, read from row o on. -/
theorem ext_at {κ : Kind} {sp : Space} (v : View sig κ sp S520x256 .f32) (halo : Vec Ideal S8x256 .f32) (u : Vec Ideal S512x256 .f32)
    (L : List (View.Piece (Elt Ideal) S520x256 .f32)) {o : ℕ} (ho : o ≤ 8)
    (inb₀ : ∀ d, (![0, 0] : Fin 2 → ℕ) d + S8x256.size d ≤ S520x256.size d)
    (inb₈ : ∀ d, (![8, 0] : Fin 2 → ℕ) d + S512x256.size d ≤ S520x256.size d)
    (inb : ∀ d, (![o, 0] : Fin 2 → ℕ) d + S512x256.size d ≤ S520x256.size d) (r : Fin 512) (j : Fin 256) :
    v.readCov (⟨Rect.unit (s := S520x256) ![0, 0] S8x256.size inb₀, halo⟩ :: ⟨Rect.unit (s := S520x256) ![8, 0] S512x256.size inb₈, u⟩ :: L)
        (Rect.unit (s := S520x256) ![o, 0] S512x256.size inb).toLoadRect (ix2 r j)
      = if h : o + r.val < 8 then halo (ix2 ⟨o + r.val, h⟩ j) else u (ix2 ⟨o + r.val - 8, by omega⟩ j) := by
  rw [View.readCov_eq_canon']
  by_cases h : o + r.val < 8
  · rw [dif_pos h]
    refine Eq.trans (congrArg _ (?_ : _ = (Rect.unit (s := S520x256) ![0, 0] S8x256.size inb₀).emb (ix2 ⟨o + r.val, h⟩ j))) (View.canon_cons_emb _ _ _ _)
    funext d
    refine Fin.ext ?_
    match d with
    | 0 => show o + 1 * r.val = 0 + 1 * (o + r.val); omega
    | 1 => show 0 + 1 * j.val = 0 + 1 * j.val; rfl
  · rw [dif_neg h]
    refine (View.canon_cons_of_not_mem _ _ ?_).trans ?_
    · rw [Rect.mem_set_unit]
      intro hall
      have h0 : 0 ≤ o + 1 * r.val ∧ o + 1 * r.val < 0 + 8 := hall 0
      omega
    refine Eq.trans (congrArg _ (?_ : _ = (Rect.unit (s := S520x256) ![8, 0] S512x256.size inb₈).emb (ix2 ⟨o + r.val - 8, by omega⟩ j))) (View.canon_cons_emb _ _ _ _)
    funext d
    refine Fin.ext ?_
    match d with
    | 0 => show o + 1 * r.val = 8 + 1 * (o + r.val - 8); omega
    | 1 => show 0 + 1 * j.val = 0 + 1 * j.val; rfl

/-- Writes that cover an index settle what is read there, whatever was written before them. -/
theorem canon_prefix {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨x, rfl⟩ := p.1.exists_idx_of_mem hy
      exact (View.canon_cons_emb p.1 p.2 (L ++ L') x).trans (View.canon_cons_emb p.1 p.2 L x).symm
    · refine (View.canon_cons_of_not_mem p _ hy).trans ((ih ?_).trans (View.canon_cons_of_not_mem p L hy).symm)
      obtain ⟨q, hq, hyq⟩ := h
      rcases List.mem_cons.mp hq with rfl | hq'
      · exact absurd hyq hy
      · exact ⟨q, hq', hyq⟩

end Cert.Proof.FfnPay

end
-- ==== Proof.FfnChunk.lean ====
/- One tile of the feed-forward part, in chunks of 256 columns: what the kernel stores for a chunk of the activations and
   of the carried rows is a part of one array, which is named here from the tile's input blocks. -/
module

public import proofs.«01_k».proof.Proof.FfnPay

@[expose] public section

set_option maxRecDepth 16384

noncomputable section

namespace Cert.Proof.FfnChunk

open Cert.FfnIdeal Cert.FfnIdeal.Gen Cert.Proof.FfnPay Idealize.ShloMosaic Idealize.ShloMosaic.TcCoe Idealize.SL.Sem

/-- A tile's up-projection at a row and a column of both halves. -/
def up (x0 : Vec Ideal S512x1024 .f32) (x1 : Vec Ideal S1x1024 .f32) (x2 x3 : Vec Ideal S1024x2816 .bf16) (r : Fin 512)
    (col : Fin 5632) : EReal :=
  Row.proj (fun k => x0 (ix2 r k)) (fun k => x1 (ix2 0 k)) fun l =>
    if h : col.val < 2816 then x2 (ix2 l ⟨col.val, h⟩) else x3 (ix2 l ⟨col.val - 2816, by omega⟩)

/-- The rows carried from the tile before on top of the tile's own, from row o on. -/
def ext (o : ℕ) (ho : o ≤ 8) (halo : Fin 8 → Fin 5632 → EReal) (U : Fin 512 → Fin 5632 → EReal) (r : Fin 512) (col : Fin 5632) : EReal :=
  if h : o + r.val < 8 then halo ⟨o + r.val, h⟩ col else U ⟨o + r.val - 8, by omega⟩ col

/-- The filtered up-projection. -/
def conv (halo : Fin 8 → Fin 5632 → EReal) (U : Fin 512 → Fin 5632 → EReal) (x4 : Vec Ideal S3x5632 .f32) (x5 : Vec Ideal S1x5632 .f32)
    (r : Fin 512) (col : Fin 5632) : EReal :=
  Row.mix (x4 (ix2 0 col)) (x4 (ix2 1 col)) (x4 (ix2 2 col)) (x5 (ix2 0 col)) (ext 6 (by decide) halo U r col)
    (ext 7 (by decide) halo U r col) (U r col)

/-- The tile's activations. -/
def act (halo : Fin 8 → Fin 5632 → EReal) (U : Fin 512 → Fin 5632 → EReal) (x4 : Vec Ideal S3x5632 .f32) (x5 : Vec Ideal S1x5632 .f32)
    (r : Fin 512) (k : Fin 2816) : EReal :=
  Row.geglu (conv halo U x4 x5 r ⟨k.val, by omega⟩) (conv halo U x4 x5 r ⟨2816 + k.val, by omega⟩)

/-- The activations as an array. -/
def actA (halo : Fin 8 → Fin 5632 → EReal) (U : Fin 512 → Fin 5632 → EReal) (x4 : Vec Ideal S3x5632 .f32) (x5 : Vec Ideal S1x5632 .f32) :
    Vec Ideal S512x2816 .bf16 := fun y => act halo U x4 x5 (y 0) (y 1)

/-- The tile's last eight rows of the up-projection, as an array. -/
def tailA (U : Fin 512 → Fin 5632 → EReal) : Vec Ideal S8x5632 .f32 := fun y => U ⟨504 + (y 0).val, by have : (y 0).val < 8 := (y 0).isLt; omega⟩ (y 1)

variable (x0 : Vec Ideal S512x1024 .f32) (x1 : Vec Ideal S1x1024 .f32) (x2 x3 : Vec Ideal S1024x2816 .bf16)

/-- A chunk of the first half of the up-projection. -/
theorem up_lo {o : ℕ} (ho : o + 256 ≤ 2816) (z : FVec Ideal S512x1024 .bf16) (w : Vec Ideal S1024x256 .bf16)
    (hz : ∀ r l, z (ix2 r l) = Row.norm (fun k => x0 (ix2 r k)) (fun k => x1 (ix2 0 k)) l)
    (hw : ∀ l j, w (ix2 l j) = x2 (ix2 l ⟨o + j.val, by omega⟩)) (r : Fin 512) (j : Fin 256) :
    k0_pay10 z w (ix2 r j) = up x0 x1 x2 x3 r ⟨o + j.val, by omega⟩ := by
  refine (u_at z w r j).trans ?_
  unfold up Row.proj
  refine Finset.sum_congr (M := EReal) rfl fun l _ => ?_
  refine congrArg₂ (fun a b : EReal => a * b) (hz r l) ?_
  dsimp only
  rw [dif_pos (show o + j.val < 2816 by omega)]
  exact hw l j

/-- A chunk of the second half of the up-projection. -/
theorem up_hi {o : ℕ} (ho : o + 256 ≤ 2816) (z : FVec Ideal S512x1024 .bf16) (w : Vec Ideal S1024x256 .bf16)
    (hz : ∀ r l, z (ix2 r l) = Row.norm (fun k => x0 (ix2 r k)) (fun k => x1 (ix2 0 k)) l)
    (hw : ∀ l j, w (ix2 l j) = x3 (ix2 l ⟨o + j.val, by omega⟩)) (r : Fin 512) (j : Fin 256) :
    k0_pay10 z w (ix2 r j) = up x0 x1 x2 x3 r ⟨2816 + o + j.val, by omega⟩ := by
  refine (u_at z w r j).trans ?_
  unfold up Row.proj
  refine Finset.sum_congr (M := EReal) rfl fun l _ => ?_
  refine congrArg₂ (fun a b : EReal => a * b) (hz r l) ?_
  dsimp only
  rw [dif_neg (show ¬ 2816 + o + j.val < 2816 by omega)]
  refine (hw l j).trans (congrArg (fun k => x3 (ix2 l k)) (Fin.ext ?_))
  show o + j.val = 2816 + o + j.val - 2816
  omega

variable (halo : Fin 8 → Fin 5632 → EReal) (U : Fin 512 → Fin 5632 → EReal) (x4 : Vec Ideal S3x5632 .f32) (x5 : Vec Ideal S1x5632 .f32)

/-- A chunk of the filtered up-projection. -/
theorem half_at {o : ℕ} (ho : o + 256 ≤ 5632) (z : FVec Ideal S512x1024 .bf16) (w : Vec Ideal S1024x256 .bf16)
    (hu : ∀ (r : Fin 512) (j : Fin 256), k0_pay10 z w (ix2 r j) = U r ⟨o + j.val, by omega⟩) (b : BitVec 1) (h : Vec Ideal S8x256 .f32)
    (hh : ∀ i j, (if b = 1#1 then (0 : EReal) else h (ix2 i j)) = halo i ⟨o + j.val, by omega⟩) (cw : Vec Ideal S3x256 .f32)
    (hcw : ∀ k j, cw (ix2 k j) = x4 (ix2 k ⟨o + j.val, by omega⟩)) (cb : Vec Ideal S1x256 .f32)
    (hcb : ∀ j, cb (ix2 0 j) = x5 (ix2 0 ⟨o + j.val, by omega⟩)) {κ : Kind} {sp : Space} (v : View sig κ sp S520x256 .f32)
    (L : List (View.Piece (Elt Ideal) S520x256 .f32)) (inb₀ : ∀ d, (![0, 0] : Fin 2 → ℕ) d + S8x256.size d ≤ S520x256.size d)
    (inb₈ : ∀ d, (![8, 0] : Fin 2 → ℕ) d + S512x256.size d ≤ S520x256.size d)
    (inb₇ : ∀ d, (![7, 0] : Fin 2 → ℕ) d + S512x256.size d ≤ S520x256.size d)
    (inb₆ : ∀ d, (![6, 0] : Fin 2 → ℕ) d + S512x256.size d ≤ S520x256.size d) (r : Fin 512) (j : Fin 256) :
    k0_pay9 (k0_pay10 z w)
        (v.readCov (⟨Rect.unit (s := S520x256) ![0, 0] S8x256.size inb₀, k0_pay12 b h⟩ :: ⟨Rect.unit (s := S520x256) ![8, 0] S512x256.size inb₈, k0_pay11 (k0_pay10 z w)⟩ :: L)
          (Rect.unit (s := S520x256) ![7, 0] S512x256.size inb₇).toLoadRect)
        (v.readCov (⟨Rect.unit (s := S520x256) ![0, 0] S8x256.size inb₀, k0_pay12 b h⟩ :: ⟨Rect.unit (s := S520x256) ![8, 0] S512x256.size inb₈, k0_pay11 (k0_pay10 z w)⟩ :: L)
          (Rect.unit (s := S520x256) ![6, 0] S512x256.size inb₆).toLoadRect) cw cb (ix2 r j)
      = conv halo U x4 x5 r ⟨o + j.val, by omega⟩ := by
  refine (mix_at _ _ _ _ _ r j).trans ?_
  rw [hcw, hcw, hcw, hcb, hu, ext_at v _ _ L (by decide) inb₀ inb₈ inb₆ r j, ext_at v _ _ L (by decide) inb₀ inb₈ inb₇ r j]
  unfold conv ext
  congr 1
  · by_cases hr : 6 + r.val < 8
    · rw [dif_pos hr, dif_pos hr, halo_at, hh]
    · rw [dif_neg hr, dif_neg hr, up_at, hu]
  · by_cases hr : 7 + r.val < 8
    · rw [dif_pos hr, dif_pos hr, halo_at, hh]
    · rw [dif_neg hr, dif_neg hr, up_at, hu]

/-- A chunk of the activations. -/
theorem chunk {o : ℕ} (ho : o + 256 ≤ 2816) (z : FVec Ideal S512x1024 .bf16)
    (hz : ∀ r l, z (ix2 r l) = Row.norm (fun k => x0 (ix2 r k)) (fun k => x1 (ix2 0 k)) l) (w w' : Vec Ideal S1024x256 .bf16)
    (hw : ∀ l j, w (ix2 l j) = x2 (ix2 l ⟨o + j.val, by omega⟩)) (hw' : ∀ l j, w' (ix2 l j) = x3 (ix2 l ⟨o + j.val, by omega⟩))
    (b : BitVec 1) (h h' : Vec Ideal S8x256 .f32)
    (hh : ∀ i j, (if b = 1#1 then (0 : EReal) else h (ix2 i j)) = halo i ⟨o + j.val, by omega⟩)
    (hh' : ∀ i j, (if b = 1#1 then (0 : EReal) else h' (ix2 i j)) = halo i ⟨2816 + o + j.val, by omega⟩)
    (cw cw' : Vec Ideal S3x256 .f32) (hcw : ∀ k j, cw (ix2 k j) = x4 (ix2 k ⟨o + j.val, by omega⟩))
    (hcw' : ∀ k j, cw' (ix2 k j) = x4 (ix2 k ⟨2816 + o + j.val, by omega⟩)) (cb cb' : Vec Ideal S1x256 .f32)
    (hcb : ∀ j, cb (ix2 0 j) = x5 (ix2 0 ⟨o + j.val, by omega⟩)) (hcb' : ∀ j, cb' (ix2 0 j) = x5 (ix2 0 ⟨2816 + o + j.val, by omega⟩))
    {κ : Kind} {sp : Space} (v : View sig κ sp S520x256 .f32)
    (L L' : List (View.Piece (Elt Ideal) S520x256 .f32)) (inb₀ : ∀ d, (![0, 0] : Fin 2 → ℕ) d + S8x256.size d ≤ S520x256.size d)
    (inb₈ : ∀ d, (![8, 0] : Fin 2 → ℕ) d + S512x256.size d ≤ S520x256.size d)
    (inb₇ : ∀ d, (![7, 0] : Fin 2 → ℕ) d + S512x256.size d ≤ S520x256.size d)
    (inb₆ : ∀ d, (![6, 0] : Fin 2 → ℕ) d + S512x256.size d ≤ S520x256.size d)
    (inb : ∀ d, (![0, o] : Fin 2 → ℕ) d + S512x256.size d ≤ S512x2816.size d) (x : S512x256.Idx) :
    k0_pay18
        (k0_pay9 (k0_pay10 z w)
          (v.readCov (⟨Rect.unit (s := S520x256) ![0, 0] S8x256.size inb₀, k0_pay12 b h⟩ :: ⟨Rect.unit (s := S520x256) ![8, 0] S512x256.size inb₈, k0_pay11 (k0_pay10 z w)⟩ :: L)
            (Rect.unit (s := S520x256) ![7, 0] S512x256.size inb₇).toLoadRect)
          (v.readCov (⟨Rect.unit (s := S520x256) ![0, 0] S8x256.size inb₀, k0_pay12 b h⟩ :: ⟨Rect.unit (s := S520x256) ![8, 0] S512x256.size inb₈, k0_pay11 (k0_pay10 z w)⟩ :: L)
            (Rect.unit (s := S520x256) ![6, 0] S512x256.size inb₆).toLoadRect) cw cb)
        (k0_pay9 (k0_pay10 z w')
          (v.readCov (⟨Rect.unit (s := S520x256) ![0, 0] S8x256.size inb₀, k0_pay12 b h'⟩ :: ⟨Rect.unit (s := S520x256) ![8, 0] S512x256.size inb₈, k0_pay11 (k0_pay10 z w')⟩ :: L')
            (Rect.unit (s := S520x256) ![7, 0] S512x256.size inb₇).toLoadRect)
          (v.readCov (⟨Rect.unit (s := S520x256) ![0, 0] S8x256.size inb₀, k0_pay12 b h'⟩ :: ⟨Rect.unit (s := S520x256) ![8, 0] S512x256.size inb₈, k0_pay11 (k0_pay10 z w')⟩ :: L')
            (Rect.unit (s := S520x256) ![6, 0] S512x256.size inb₆).toLoadRect) cw' cb')
        (k0_pay16 (k0_pay9 (k0_pay10 z w)
          (v.readCov (⟨Rect.unit (s := S520x256) ![0, 0] S8x256.size inb₀, k0_pay12 b h⟩ :: ⟨Rect.unit (s := S520x256) ![8, 0] S512x256.size inb₈, k0_pay11 (k0_pay10 z w)⟩ :: L)
            (Rect.unit (s := S520x256) ![7, 0] S512x256.size inb₇).toLoadRect)
          (v.readCov (⟨Rect.unit (s := S520x256) ![0, 0] S8x256.size inb₀, k0_pay12 b h⟩ :: ⟨Rect.unit (s := S520x256) ![8, 0] S512x256.size inb₈, k0_pay11 (k0_pay10 z w)⟩ :: L)
            (Rect.unit (s := S520x256) ![6, 0] S512x256.size inb₆).toLoadRect) cw cb)) k0_pay17 x
      = actA halo (up x0 x1 x2 x3) x4 x5 ((Rect.unit (s := S512x2816) ![0, o] S512x256.size inb).emb x) := by
  refine (congrArg _ (show x = ix2 (x 0) (x 1) from by idx_ext)).trans ?_
  refine (geglu_at _ _ (x 0) (x 1)).trans ?_
  have hj : (x 1).val < 256 := (x 1).isLt
  refine (congrArg₂ Row.geglu
    (half_at halo (up x0 x1 x2 x3) x4 x5 (o := o) (by omega) z w (up_lo x0 x1 x2 x3 ho z w hz hw) b h hh cw hcw cb hcb v L inb₀ inb₈ inb₇ inb₆ (x 0) (x 1))
    (half_at halo (up x0 x1 x2 x3) x4 x5 (o := 2816 + o) (by omega) z w' (up_hi x0 x1 x2 x3 ho z w' hz hw') b h' hh' cw' hcw' cb' hcb' v L' inb₀ inb₈ inb₇ inb₆ (x 0) (x 1))).trans ?_
  have e0 : ((Rect.unit (s := S512x2816) ![0, o] S512x256.size inb).emb x 0) = x 0 := Fin.ext (by
    show 0 + 1 * (x 0).val = (x 0).val; omega)
  have e1 : ((Rect.unit (s := S512x2816) ![0, o] S512x256.size inb).emb x 1) = (⟨o + (x 1).val, by omega⟩ : Fin 2816) := Fin.ext (by
    show o + 1 * (x 1).val = o + (x 1).val; omega)
  refine Eq.trans ?_ (congrArg₂ (act halo (up x0 x1 x2 x3) x4 x5) e0.symm e1.symm)
  refine congrArg (Row.geglu _) (congrArg (conv halo (up x0 x1 x2 x3) x4 x5 (x 0)) (Fin.ext ?_))
  show 2816 + o + (x 1).val = 2816 + (o + (x 1).val)
  omega

/-- A chunk of the last eight rows. -/
theorem tail_of {o : ℕ} (ho : o + 256 ≤ 5632) (u : FVec Ideal S512x256 .f32)
    (hu : ∀ (r : Fin 512) (j : Fin 256), u (ix2 r j) = U r ⟨o + j.val, by omega⟩)
    (inb : ∀ d, (![0, o] : Fin 2 → ℕ) d + S8x256.size d ≤ S8x5632.size d) (x : S8x256.Idx) :
    k0_pay8 u x = tailA U ((Rect.unit (s := S8x5632) ![0, o] S8x256.size inb).emb x) := by
  refine (congrArg _ (show x = ix2 (x 0) (x 1) from by idx_ext)).trans ?_
  refine (tail_at _ (x 0) (x 1)).trans ((hu _ _).trans ?_)
  refine congrArg₂ U (Fin.ext ?_) (Fin.ext ?_)
  · show 504 + (x 0).val = 504 + (0 + 1 * (x 0).val); omega
  · show o + (x 1).val = o + 1 * (x 1).val; omega

/-- The same, as it is written to the carried rows. -/
theorem carry_of {o : ℕ} (ho : o + 256 ≤ 5632) (u : FVec Ideal S512x256 .f32)
    (hu : ∀ (r : Fin 512) (j : Fin 256), u (ix2 r j) = U r ⟨o + j.val, by omega⟩)
    (inb : ∀ d, (![0, o] : Fin 2 → ℕ) d + S8x256.size d ≤ S8x5632.size d) (x : S8x256.Idx) :
    k0_pay7 u x = tailA U ((Rect.unit (s := S8x5632) ![0, o] S8x256.size inb).emb x) := by
  refine (congrArg _ (show x = ix2 (x 0) (x 1) from by idx_ext)).trans ?_
  refine (carry_at _ (x 0) (x 1)).trans ((hu _ _).trans ?_)
  refine congrArg₂ U (Fin.ext ?_) (Fin.ext ?_)
  · show 504 + (x 0).val = 504 + (0 + 1 * (x 0).val); omega
  · show o + (x 1).val = o + 1 * (x 1).val; omega

end Cert.Proof.FfnChunk

end
-- ==== Proof.FfnSpec.lean ====
/- The feed-forward part as a function of its arguments: the up-projection of each normalised row, a filter over the row and
   the two before it in its sequence (zero before the first), the gated gelu, the down-projection, and the residual step. -/
module

public import proofs.«01_k».proof.Proof.FfnRow

@[expose] public section

noncomputable section

namespace Cert.Proof.FfnSpec

open Idealize.ShloMosaic

/-- The up-projection. -/
def up (x : Vec Ideal ⟨2, ![16384, 1024]⟩ .f32) (g : Vec Ideal ⟨1, ![1024]⟩ .f32) (w : Vec Ideal ⟨2, ![1024, 5632]⟩ .f32)
    (r : Fin 16384) (col : Fin 5632) : EReal :=
  Row.proj (fun k => x (ix2 r k)) (fun k => g (ix1 k)) (fun l => w (ix2 l col))

/-- The row k before a row, zero where its sequence of 4096 rows has none. -/
def before (k : ℕ) (U : Fin 16384 → Fin 5632 → EReal) (r : Fin 16384) (col : Fin 5632) : EReal :=
  if r.val % 4096 < k then 0 else U ⟨r.val - k, by omega⟩ col

/-- The filtered up-projection. -/
def conv (U : Fin 16384 → Fin 5632 → EReal) (cw : Vec Ideal ⟨2, ![3, 5632]⟩ .f32) (cb : Vec Ideal ⟨1, ![5632]⟩ .f32)
    (r : Fin 16384) (col : Fin 5632) : EReal :=
  Row.mix (cw (ix2 0 col)) (cw (ix2 1 col)) (cw (ix2 2 col)) (cb (ix1 col)) (before 2 U r col) (before 1 U r col) (U r col)

/-- The activations. -/
def act (H : Fin 16384 → Fin 5632 → EReal) (r : Fin 16384) (l : Fin 2816) : EReal :=
  Row.geglu (H r ⟨l.val, by omega⟩) (H r ⟨2816 + l.val, by omega⟩)

/-- The residual stream after the feed-forward part. -/
def out (x : Vec Ideal ⟨2, ![16384, 1024]⟩ .f32) (g : Vec Ideal ⟨1, ![1024]⟩ .f32) (w : Vec Ideal ⟨2, ![1024, 5632]⟩ .f32)
    (cw : Vec Ideal ⟨2, ![3, 5632]⟩ .f32) (cb : Vec Ideal ⟨1, ![5632]⟩ .f32) (wd : Vec Ideal ⟨2, ![2816, 1024]⟩ .f32)
    (gp : Vec Ideal ⟨1, ![1024]⟩ .f32) (r : Fin 16384) (j : Fin 1024) : EReal :=
  Row.down (fun k => x (ix2 r k)) (act (conv (up x g w) cw cb) r) (fun l k => wd (ix2 l k)) (fun k => gp (ix1 k)) j

/-- The last eight rows of every 512 of the up-projection. -/
def tail (x : Vec Ideal ⟨2, ![16384, 1024]⟩ .f32) (g : Vec Ideal ⟨1, ![1024]⟩ .f32) (w : Vec Ideal ⟨2, ![1024, 5632]⟩ .f32)
    (i : Fin 256) (col : Fin 5632) : EReal :=
  up x g w ⟨512 * (i.val / 8) + 504 + i.val % 8, by omega⟩ col

end Cert.Proof.FfnSpec

end
-- ==== Proof.FfnHost.lean ====
/- The feed-forward kernel's blocks at a grid point, from the arguments: the row window walks the grid, the weights stand still. -/
module

public import proofs.«01_k».proof.Proof.FfnChunk
public import proofs.«01_k».proof.Proof.FfnSpec

@[expose] public section

set_option maxRecDepth 16384

noncomputable section

namespace Cert.Proof.FfnHost

open Cert.FfnIdeal Cert.FfnIdeal.Gen Idealize.ShloMosaic Idealize.ShloMosaic.TcCoe Idealize.SL.Sem

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

variable (m : (ℓ : Loc nD τ sig) → Buf (Elt Ideal) ℓ)

theorem host_g (c : Dev nD) (k : Fin 1024) : V m c main_v0 (ix2 0 k) = m ((c : Thread nD τ).loc main_arg1) (ix1 k) := by
  unfold V
  simp only [hostOps0, List.flatten_cons, List.flatten_nil, List.append_nil, List.cons_append, List.nil_append]
  entry_read
  try simp only [StableHlo.TRef.ofBuf, StableHlo.TRef.toBuf, cast_eq, StableHlo.TRef.of]
  pointwise []
  try blk_point []

theorem blk_g (c : Dev nD) (t : Fin cfg0.N) (k : Fin 1024) : iblk m c 1 t (ix2 0 k) = m ((c : Thread nD τ).loc main_arg1) (ix1 k) := by
  refine Eq.trans ?_ (host_g m c k)
  unfold iblk
  generalize V m c (Pipeline.arrRef spec0 1) = X
  blk_ext [idx t]

theorem host_wl (c : Dev nD) (l : Fin 1024) (j : Fin 2816) : V m c main_v2 (ix2 l j) = m ((c : Thread nD τ).loc main_arg2) (ix2 l ⟨j.val, by omega⟩) := by
  unfold V
  simp only [hostOps0, List.flatten_cons, List.flatten_nil, List.append_nil, List.cons_append, List.nil_append]
  entry_read
  try simp only [StableHlo.TRef.ofBuf, StableHlo.TRef.toBuf, cast_eq, StableHlo.TRef.of]
  pointwise []
  try blk_point []

theorem blk_wl (c : Dev nD) (t : Fin cfg0.N) (l : Fin 1024) (j : Fin 2816) : iblk m c 2 t (ix2 l j) = m ((c : Thread nD τ).loc main_arg2) (ix2 l ⟨j.val, by omega⟩) := by
  refine Eq.trans ?_ (host_wl m c l j)
  unfold iblk
  generalize V m c (Pipeline.arrRef spec0 2) = X
  blk_ext [idx t]

theorem host_wh (c : Dev nD) (l : Fin 1024) (j : Fin 2816) : V m c main_v4 (ix2 l j) = m ((c : Thread nD τ).loc main_arg2) (ix2 l ⟨2816 + j.val, by omega⟩) := by
  unfold V
  simp only [hostOps0, List.flatten_cons, List.flatten_nil, List.append_nil, List.cons_append, List.nil_append]
  entry_read
  try simp only [StableHlo.TRef.ofBuf, StableHlo.TRef.toBuf, cast_eq, StableHlo.TRef.of]
  pointwise []
  try blk_point []

theorem blk_wh (c : Dev nD) (t : Fin cfg0.N) (l : Fin 1024) (j : Fin 2816) : iblk m c 3 t (ix2 l j) = m ((c : Thread nD τ).loc main_arg2) (ix2 l ⟨2816 + j.val, by omega⟩) := by
  refine Eq.trans ?_ (host_wh m c l j)
  unfold iblk
  generalize V m c (Pipeline.arrRef spec0 3) = X
  blk_ext [idx t]

theorem host_cb (c : Dev nD) (k : Fin 5632) : V m c main_v5 (ix2 0 k) = m ((c : Thread nD τ).loc main_arg4) (ix1 k) := by
  unfold V
  simp only [hostOps0, List.flatten_cons, List.flatten_nil, List.append_nil, List.cons_append, List.nil_append]
  entry_read
  try simp only [StableHlo.TRef.ofBuf, StableHlo.TRef.toBuf, cast_eq, StableHlo.TRef.of]
  pointwise []
  try blk_point []

theorem blk_cb (c : Dev nD) (t : Fin cfg0.N) (k : Fin 5632) : iblk m c 5 t (ix2 0 k) = m ((c : Thread nD τ).loc main_arg4) (ix1 k) := by
  refine Eq.trans ?_ (host_cb m c k)
  unfold iblk
  generalize V m c (Pipeline.arrRef spec0 5) = X
  blk_ext [idx t]

theorem host_wd (c : Dev nD) (l : Fin 2816) (j : Fin 1024) : V m c main_v6 (ix2 l j) = m ((c : Thread nD τ).loc main_arg5) (ix2 l j) := by
  unfold V
  simp only [hostOps0, List.flatten_cons, List.flatten_nil, List.append_nil, List.cons_append, List.nil_append]
  entry_read
  try simp only [StableHlo.TRef.ofBuf, StableHlo.TRef.toBuf, cast_eq, StableHlo.TRef.of]
  pointwise []
  try blk_point []

theorem blk_wd (c : Dev nD) (t : Fin cfg0.N) (l : Fin 2816) (j : Fin 1024) : iblk m c 6 t (ix2 l j) = m ((c : Thread nD τ).loc main_arg5) (ix2 l j) := by
  refine Eq.trans ?_ (host_wd m c l j)
  unfold iblk
  generalize V m c (Pipeline.arrRef spec0 6) = X
  blk_ext [idx t]

theorem host_gp (c : Dev nD) (k : Fin 1024) : V m c main_v7 (ix2 0 k) = m ((c : Thread nD τ).loc main_arg6) (ix1 k) := by
  unfold V
  simp only [hostOps0, List.flatten_cons, List.flatten_nil, List.append_nil, List.cons_append, List.nil_append]
  entry_read
  try simp only [StableHlo.TRef.ofBuf, StableHlo.TRef.toBuf, cast_eq, StableHlo.TRef.of]
  pointwise []
  try blk_point []

theorem blk_gp (c : Dev nD) (t : Fin cfg0.N) (k : Fin 1024) : iblk m c 7 t (ix2 0 k) = m ((c : Thread nD τ).loc main_arg6) (ix1 k) := by
  refine Eq.trans ?_ (host_gp m c k)
  unfold iblk
  generalize V m c (Pipeline.arrRef spec0 7) = X
  blk_ext [idx t]

theorem blk_x (c : Dev nD) (t : Fin cfg0.N) (r : Fin 512) (k : Fin 1024) :
    iblk m c 0 t (ix2 r k) = m ((c : Thread nD τ).loc main_arg0) (ix2 ⟨512 * t.val + r.val, by have : t.val < 32 := t.isLt; omega⟩ k) := by
  refine Eq.trans ?_ (congrFun (V_main_arg0 m c) _)
  unfold iblk
  generalize hX : V m c (Pipeline.arrRef spec0 0) = X
  blk_ext [idx t]

theorem blk_cw (c : Dev nD) (t : Fin cfg0.N) (k : Fin 3) (j : Fin 5632) :
    iblk m c 4 t (ix2 k j) = m ((c : Thread nD τ).loc main_arg3) (ix2 k j) := by
  refine Eq.trans ?_ (congrFun (V_main_arg3 m c) _)
  unfold iblk
  generalize hX : V m c (Pipeline.arrRef spec0 4) = X
  blk_ext [idx t]

end Cert.Proof.FfnHost

end
-- ==== Proof.FfnTile.lean ====
/- What the feed-forward kernel's body leaves in its blocks at one grid point, read off its stores: the result's tile, and the
   last eight rows of the tile's up-projection, stored as a result and carried to the next point. -/
module

public import proofs.«01_k».proof.Proof.FfnChunk

@[expose] public section

set_option maxRecDepth 16384
set_option maxHeartbeats 20000000

noncomputable section

namespace Cert.Proof.FfnTile

open Cert.FfnIdeal Cert.FfnIdeal.Gen Cert.Proof.FfnPay Cert.Proof.FfnChunk Idealize.ShloMosaic Idealize.ShloMosaic.TcCoe Idealize.SL.Sem

/-- A whole array, read. -/
theorem whole_at {sp : Space} {φ : EltTy} {n w : ℕ} (a : Memref sig .tc sp ⟨2, ![n, w]⟩ φ) (ha : a.IsWhole)
    (X : Shape.Idx ⟨2, ![n, w]⟩ → Elt Ideal φ) (inb : ∀ d, (![0, 0] : Fin 2 → ℕ) d + (⟨2, ![n, w]⟩ : Shape).size d ≤ (⟨2, ![n, w]⟩ : Shape).size d)
    (l : Fin n) (j : Fin w) :
    View.readAt (Elt Ideal) a.view (Rect.unit (s := ⟨2, ![n, w]⟩) ![0, 0] (⟨2, ![n, w]⟩ : Shape).size inb).toLoadRect (ha.unread X) (ix2 l j)
      = X (ix2 l j) :=
  (cut_at a ha X inb (by omega) l j).trans (congrArg (fun k => X (ix2 l k)) (Fin.ext (Nat.zero_add _)))

/-- The normalised rows of a tile. -/
theorem z_of (a : Memref sig .tc .vmem S512x1024 .f32) (ha : a.IsWhole) (b : Memref sig .tc .vmem S1x1024 .f32) (hb : b.IsWhole)
    (x0 : Vec Ideal S512x1024 .f32) (x1 : Vec Ideal S1x1024 .f32)
    (inb : ∀ d, (![0, 0] : Fin 2 → ℕ) d + S512x1024.size d ≤ S512x1024.size d) (inb' : ∀ d, (![0, 0] : Fin 2 → ℕ) d + S1x1024.size d ≤ S1x1024.size d)
    (r : Fin 512) (l : Fin 1024) :
    k0_pay2 (View.readAt (Elt Ideal) a.view (Rect.unit (s := S512x1024) ![0, 0] S512x1024.size inb).toLoadRect (ha.unread x0))
        (View.readAt (Elt Ideal) b.view (Rect.unit (s := S1x1024) ![0, 0] S1x1024.size inb').toLoadRect (hb.unread x1)) (ix2 r l)
      = Row.norm (fun k => x0 (ix2 r k)) (fun k => x1 (ix2 0 k)) l :=
  (z_at _ _ r l).trans (congrArg₂ (fun f g => Row.norm f g l) (funext fun k => whole_at a ha x0 inb r k) (funext fun k => whole_at b hb x1 inb' 0 k))

/-- A chunk of a tile's up-projection, as the body computes it. -/
def uOf (a : Memref sig .tc .vmem S512x1024 .f32) (ha : a.IsWhole) (b : Memref sig .tc .vmem S1x1024 .f32) (hb : b.IsWhole)
    (d : Memref sig .tc .vmem S1024x2816 .bf16) (hd : d.IsWhole) (x0 : Vec Ideal S512x1024 .f32) (x1 : Vec Ideal S1x1024 .f32)
    (w : Vec Ideal S1024x2816 .bf16) (o : ℕ) (inb : ∀ e, (![0, o] : Fin 2 → ℕ) e + S1024x256.size e ≤ S1024x2816.size e) : FVec Ideal S512x256 .f32 :=
  k0_pay10
    (k0_pay2 (View.readAt (Elt Ideal) a.view (Rect.unit (s := S512x1024) ![0, 0] S512x1024.size inb_S512x1024_S512x1024_0_0).toLoadRect (ha.unread x0))
      (View.readAt (Elt Ideal) b.view (Rect.unit (s := S1x1024) ![0, 0] S1x1024.size inb_S1x1024_S1x1024_0_0).toLoadRect (hb.unread x1)))
    (View.readAt (Elt Ideal) d.view (Rect.unit (s := S1024x2816) ![0, o] S1024x256.size inb).toLoadRect (hd.unread w))

theorem tail_lo (a : Memref sig .tc .vmem S512x1024 .f32) (ha : a.IsWhole) (b : Memref sig .tc .vmem S1x1024 .f32) (hb : b.IsWhole)
    (d : Memref sig .tc .vmem S1024x2816 .bf16) (hd : d.IsWhole) (x0 : Vec Ideal S512x1024 .f32) (x1 : Vec Ideal S1x1024 .f32)
    (x2 x3 : Vec Ideal S1024x2816 .bf16) {o : ℕ} (ho : o + 256 ≤ 2816)
    (inb : ∀ e, (![0, o] : Fin 2 → ℕ) e + S1024x256.size e ≤ S1024x2816.size e) (p : FVec Ideal S8x256 .f32)
    (hp : p = k0_pay8 (uOf a ha b hb d hd x0 x1 x2 o inb))
    (inb' : ∀ e, (![0, o] : Fin 2 → ℕ) e + S8x256.size e ≤ S8x5632.size e) (x : S8x256.Idx) :
    p x = tailA (up x0 x1 x2 x3) ((Rect.unit (s := S8x5632) ![0, o] S8x256.size inb').emb x) := by
  subst hp
  refine tail_of (up x0 x1 x2 x3) (o := o) (by omega) _ ?_ inb' x
  refine up_lo x0 x1 x2 x3 ho _ _ ?_ ?_
  · exact fun r l => z_of a ha b hb x0 x1 _ _ r l
  · exact fun l j => cut_at d hd x2 _ (by omega) l j

theorem carry_lo (a : Memref sig .tc .vmem S512x1024 .f32) (ha : a.IsWhole) (b : Memref sig .tc .vmem S1x1024 .f32) (hb : b.IsWhole)
    (d : Memref sig .tc .vmem S1024x2816 .bf16) (hd : d.IsWhole) (x0 : Vec Ideal S512x1024 .f32) (x1 : Vec Ideal S1x1024 .f32)
    (x2 x3 : Vec Ideal S1024x2816 .bf16) {o : ℕ} (ho : o + 256 ≤ 2816)
    (inb : ∀ e, (![0, o] : Fin 2 → ℕ) e + S1024x256.size e ≤ S1024x2816.size e) (p : FVec Ideal S8x256 .f32)
    (hp : p = k0_pay7 (uOf a ha b hb d hd x0 x1 x2 o inb))
    (inb' : ∀ e, (![0, o] : Fin 2 → ℕ) e + S8x256.size e ≤ S8x5632.size e) (x : S8x256.Idx) :
    p x = tailA (up x0 x1 x2 x3) ((Rect.unit (s := S8x5632) ![0, o] S8x256.size inb').emb x) := by
  subst hp
  refine carry_of (up x0 x1 x2 x3) (o := o) (by omega) _ ?_ inb' x
  refine up_lo x0 x1 x2 x3 ho _ _ ?_ ?_
  · exact fun r l => z_of a ha b hb x0 x1 _ _ r l
  · exact fun l j => cut_at d hd x2 _ (by omega) l j

theorem tail_hi (a : Memref sig .tc .vmem S512x1024 .f32) (ha : a.IsWhole) (b : Memref sig .tc .vmem S1x1024 .f32) (hb : b.IsWhole)
    (d : Memref sig .tc .vmem S1024x2816 .bf16) (hd : d.IsWhole) (x0 : Vec Ideal S512x1024 .f32) (x1 : Vec Ideal S1x1024 .f32)
    (x2 x3 : Vec Ideal S1024x2816 .bf16) {o : ℕ} (ho : o + 256 ≤ 2816)
    (inb : ∀ e, (![0, o] : Fin 2 → ℕ) e + S1024x256.size e ≤ S1024x2816.size e) (p : FVec Ideal S8x256 .f32)
    (hp : p = k0_pay8 (uOf a ha b hb d hd x0 x1 x3 o inb))
    (inb' : ∀ e, (![0, 2816 + o] : Fin 2 → ℕ) e + S8x256.size e ≤ S8x5632.size e) (x : S8x256.Idx) :
    p x = tailA (up x0 x1 x2 x3) ((Rect.unit (s := S8x5632) ![0, 2816 + o] S8x256.size inb').emb x) := by
  subst hp
  refine tail_of (up x0 x1 x2 x3) (o := 2816 + o) (by omega) _ ?_ inb' x
  refine up_hi x0 x1 x2 x3 ho _ _ ?_ ?_
  · exact fun r l => z_of a ha b hb x0 x1 _ _ r l
  · exact fun l j => cut_at d hd x3 _ (by omega) l j

theorem carry_hi (a : Memref sig .tc .vmem S512x1024 .f32) (ha : a.IsWhole) (b : Memref sig .tc .vmem S1x1024 .f32) (hb : b.IsWhole)
    (d : Memref sig .tc .vmem S1024x2816 .bf16) (hd : d.IsWhole) (x0 : Vec Ideal S512x1024 .f32) (x1 : Vec Ideal S1x1024 .f32)
    (x2 x3 : Vec Ideal S1024x2816 .bf16) {o : ℕ} (ho : o + 256 ≤ 2816)
    (inb : ∀ e, (![0, o] : Fin 2 → ℕ) e + S1024x256.size e ≤ S1024x2816.size e) (p : FVec Ideal S8x256 .f32)
    (hp : p = k0_pay7 (uOf a ha b hb d hd x0 x1 x3 o inb))
    (inb' : ∀ e, (![0, 2816 + o] : Fin 2 → ℕ) e + S8x256.size e ≤ S8x5632.size e) (x : S8x256.Idx) :
    p x = tailA (up x0 x1 x2 x3) ((Rect.unit (s := S8x5632) ![0, 2816 + o] S8x256.size inb').emb x) := by
  subst hp
  refine carry_of (up x0 x1 x2 x3) (o := 2816 + o) (by omega) _ ?_ inb' x
  refine up_hi x0 x1 x2 x3 ho _ _ ?_ ?_
  · exact fun r l => z_of a ha b hb x0 x1 _ _ r l
  · exact fun l j => cut_at d hd x3 _ (by omega) l j

/-- A chunk of the filtered up-projection, as the body computes it. -/
def hOf {κ : Kind} {sp : Space} (u : FVec Ideal S512x256 .f32) (q : BitVec 1) (h : Vec Ideal S8x256 .f32) (v : View sig κ sp S520x256 .f32)
    (L : List (View.Piece (Elt Ideal) S520x256 .f32)) (e : Memref sig .tc .vmem S3x5632 .f32) (he : e.IsWhole) (f : Memref sig .tc .vmem S1x5632 .f32)
    (hf : f.IsWhole) (x4 : Vec Ideal S3x5632 .f32) (x5 : Vec Ideal S1x5632 .f32) (o : ℕ)
    (inbw : ∀ e, (![0, o] : Fin 2 → ℕ) e + S3x256.size e ≤ S3x5632.size e) (inbb : ∀ e, (![0, o] : Fin 2 → ℕ) e + S1x256.size e ≤ S1x5632.size e) :
    FVec Ideal S512x256 .f32 :=
  k0_pay9 u
    (v.readCov (⟨Rect.unit (s := S520x256) ![0, 0] S8x256.size inb_S520x256_S8x256_0_0, k0_pay12 q h⟩ :: ⟨Rect.unit (s := S520x256) ![8, 0] S512x256.size inb_S520x256_S512x256_8_0, k0_pay11 u⟩ :: L)
      (Rect.unit (s := S520x256) ![7, 0] S512x256.size inb_S520x256_S512x256_7_0).toLoadRect)
    (v.readCov (⟨Rect.unit (s := S520x256) ![0, 0] S8x256.size inb_S520x256_S8x256_0_0, k0_pay12 q h⟩ :: ⟨Rect.unit (s := S520x256) ![8, 0] S512x256.size inb_S520x256_S512x256_8_0, k0_pay11 u⟩ :: L)
      (Rect.unit (s := S520x256) ![6, 0] S512x256.size inb_S520x256_S512x256_6_0).toLoadRect)
    (View.readAt (Elt Ideal) e.view (Rect.unit (s := S3x5632) ![0, o] S3x256.size inbw).toLoadRect (he.unread x4))
    (View.readAt (Elt Ideal) f.view (Rect.unit (s := S1x5632) ![0, o] S1x256.size inbb).toLoadRect (hf.unread x5))

/-- A chunk of the activations, where nothing is carried in. -/
theorem chunkA (a : Memref sig .tc .vmem S512x1024 .f32) (ha : a.IsWhole) (b : Memref sig .tc .vmem S1x1024 .f32) (hb : b.IsWhole)
    (d d' : Memref sig .tc .vmem S1024x2816 .bf16) (hd : d.IsWhole) (hd' : d'.IsWhole) (e : Memref sig .tc .vmem S3x5632 .f32) (he : e.IsWhole)
    (f : Memref sig .tc .vmem S1x5632 .f32) (hf : f.IsWhole) {κ : Kind} {sp : Space} (v : View sig κ sp S520x256 .f32)
    (x0 : Vec Ideal S512x1024 .f32) (x1 : Vec Ideal S1x1024 .f32)
    (x2 x3 : Vec Ideal S1024x2816 .bf16) (x4 : Vec Ideal S3x5632 .f32) (x5 : Vec Ideal S1x5632 .f32) (halo : Fin 8 → Fin 5632 → EReal) (q : BitVec 1)
    {o : ℕ} (ho : o + 256 ≤ 2816) (hq : q = 1#1) (hh : ∀ i col, (0 : EReal) = halo i col)
    (inb : ∀ e, (![0, o] : Fin 2 → ℕ) e + S1024x256.size e ≤ S1024x2816.size e)
    (inbw : ∀ e, (![0, o] : Fin 2 → ℕ) e + S3x256.size e ≤ S3x5632.size e) (inbb : ∀ e, (![0, o] : Fin 2 → ℕ) e + S1x256.size e ≤ S1x5632.size e)
    (inbw' : ∀ e, (![0, 2816 + o] : Fin 2 → ℕ) e + S3x256.size e ≤ S3x5632.size e) (inbb' : ∀ e, (![0, 2816 + o] : Fin 2 → ℕ) e + S1x256.size e ≤ S1x5632.size e)
    (p : FVec Ideal S512x256 .bf16)
    (hp : ∃ L L' h h', p = k0_pay18 (hOf (uOf a ha b hb d hd x0 x1 x2 o inb) q h v L e he f hf x4 x5 o inbw inbb)
      (hOf (uOf a ha b hb d' hd' x0 x1 x3 o inb) q h' v L' e he f hf x4 x5 (2816 + o) inbw' inbb')
      (k0_pay16 (hOf (uOf a ha b hb d hd x0 x1 x2 o inb) q h v L e he f hf x4 x5 o inbw inbb)) k0_pay17)
    (inb' : ∀ e, (![0, o] : Fin 2 → ℕ) e + S512x256.size e ≤ S512x2816.size e) (x : S512x256.Idx) :
    p x = actA halo (up x0 x1 x2 x3) x4 x5 ((Rect.unit (s := S512x2816) ![0, o] S512x256.size inb').emb x) := by
  obtain ⟨L, L', h, h', rfl⟩ := hp
  refine chunk x0 x1 x2 x3 halo x4 x5 ho _ (fun r l => z_of a ha b hb x0 x1 _ _ r l) _ _ (fun l j => cut_at d hd x2 _ (by omega) l j)
    (fun l j => cut_at d' hd' x3 _ (by omega) l j) q _ _ (fun i j => (if_pos hq).trans (hh i _)) (fun i j => (if_pos hq).trans (hh i _)) _ _
    (fun k j => cut_at e he x4 _ (by omega) k j) (fun k j => cut_at e he x4 _ (by omega) k j) _ _
    (fun j => cut_at f hf x5 _ (by omega) 0 j) (fun j => cut_at f hf x5 _ (by omega) 0 j) v L L' _ _ _ _ inb' x

/-- A chunk of the activations, with the carried rows. -/
theorem chunkB (a : Memref sig .tc .vmem S512x1024 .f32) (ha : a.IsWhole) (b : Memref sig .tc .vmem S1x1024 .f32) (hb : b.IsWhole)
    (d d' : Memref sig .tc .vmem S1024x2816 .bf16) (hd : d.IsWhole) (hd' : d'.IsWhole) (e : Memref sig .tc .vmem S3x5632 .f32) (he : e.IsWhole)
    (f : Memref sig .tc .vmem S1x5632 .f32) (hf : f.IsWhole) {κ : Kind} {sp : Space} (v : View sig κ sp S520x256 .f32)
    (x0 : Vec Ideal S512x1024 .f32) (x1 : Vec Ideal S1x1024 .f32)
    (x2 x3 : Vec Ideal S1024x2816 .bf16) (x4 : Vec Ideal S3x5632 .f32) (x5 : Vec Ideal S1x5632 .f32) (halo : Fin 8 → Fin 5632 → EReal) (q : BitVec 1)
    {o : ℕ} (ho : o + 256 ≤ 2816) (k : Memref sig .tc .vmem S8x5632 .f32) (hk : k.IsWhole) (xs2 : Vec Ideal S8x5632 .f32)
    (inbk : ∀ e, (![0, o] : Fin 2 → ℕ) e + S8x256.size e ≤ S8x5632.size e) (inbk' : ∀ e, (![0, 2816 + o] : Fin 2 → ℕ) e + S8x256.size e ≤ S8x5632.size e)
    (hh : ∀ i col, (if q = 1#1 then (0 : EReal) else xs2 (ix2 i col)) = halo i col)
    (inb : ∀ e, (![0, o] : Fin 2 → ℕ) e + S1024x256.size e ≤ S1024x2816.size e)
    (inbw : ∀ e, (![0, o] : Fin 2 → ℕ) e + S3x256.size e ≤ S3x5632.size e) (inbb : ∀ e, (![0, o] : Fin 2 → ℕ) e + S1x256.size e ≤ S1x5632.size e)
    (inbw' : ∀ e, (![0, 2816 + o] : Fin 2 → ℕ) e + S3x256.size e ≤ S3x5632.size e) (inbb' : ∀ e, (![0, 2816 + o] : Fin 2 → ℕ) e + S1x256.size e ≤ S1x5632.size e)
    (p : FVec Ideal S512x256 .bf16)
    (hp : ∃ L L', p = k0_pay18 (hOf (uOf a ha b hb d hd x0 x1 x2 o inb) q (View.readAt (Elt Ideal) k.view (Rect.unit (s := S8x5632) ![0, o] S8x256.size inbk).toLoadRect (hk.unread xs2)) v L e he f hf x4 x5 o inbw inbb)
      (hOf (uOf a ha b hb d' hd' x0 x1 x3 o inb) q (View.readAt (Elt Ideal) k.view (Rect.unit (s := S8x5632) ![0, 2816 + o] S8x256.size inbk').toLoadRect (hk.unread xs2)) v L' e he f hf x4 x5 (2816 + o) inbw' inbb')
      (k0_pay16 (hOf (uOf a ha b hb d hd x0 x1 x2 o inb) q (View.readAt (Elt Ideal) k.view (Rect.unit (s := S8x5632) ![0, o] S8x256.size inbk).toLoadRect (hk.unread xs2)) v L e he f hf x4 x5 o inbw inbb)) k0_pay17)
    (inb' : ∀ e, (![0, o] : Fin 2 → ℕ) e + S512x256.size e ≤ S512x2816.size e) (x : S512x256.Idx) :
    p x = actA halo (up x0 x1 x2 x3) x4 x5 ((Rect.unit (s := S512x2816) ![0, o] S512x256.size inb').emb x) := by
  obtain ⟨L, L', rfl⟩ := hp
  refine chunk x0 x1 x2 x3 halo x4 x5 ho _ (fun r l => z_of a ha b hb x0 x1 _ _ r l) _ _ (fun l j => cut_at d hd x2 _ (by omega) l j)
    (fun l j => cut_at d' hd' x3 _ (by omega) l j) q _ _ (fun i j => (congrArg (fun t : EReal => if q = 1#1 then (0 : EReal) else t) (cut_at k hk xs2 _ (by omega) i j)).trans (hh i _)) (fun i j => (congrArg (fun t : EReal => if q = 1#1 then (0 : EReal) else t) (cut_at k hk xs2 _ (by omega) i j)).trans (hh i _)) _ _
    (fun k j => cut_at e he x4 _ (by omega) k j) (fun k j => cut_at e he x4 _ (by omega) k j) _ _
    (fun j => cut_at f hf x5 _ (by omega) 0 j) (fun j => cut_at f hf x5 _ (by omega) 0 j) v L L' _ _ _ _ inb' x

theorem down_congr {x x' : Fin 1024 → EReal} {v v' : Fin 2816 → EReal} {w w' : Fin 2816 → Fin 1024 → EReal} {g g' : Fin 1024 → EReal}
    (hx : ∀ k, x k = x' k) (hv : ∀ l, v l = v' l) (hw : ∀ l k, w l k = w' l k) (hg : ∀ k, g k = g' k) (j : Fin 1024) :
    Row.down x v w g j = Row.down x' v' w' g' j := by
  obtain rfl : x = x' := funext hx
  obtain rfl : v = v' := funext hv
  obtain rfl : w = w' := funext fun l => funext (hw l)
  obtain rfl : g = g' := funext hg
  rfl

end Cert.Proof.FfnTile

end
-- ==== Proof.FfnActA.lean ====
/- The feed-forward kernel's body at the first grid point: the result's tile. -/
module

public import proofs.«01_k».proof.Proof.FfnTile

@[expose] public section

set_option maxRecDepth 16384
set_option maxHeartbeats 20000000

noncomputable section

namespace Cert.Proof.FfnTile

open Cert.FfnIdeal Cert.FfnIdeal.Gen Cert.Proof.FfnPay Cert.Proof.FfnChunk Idealize.ShloMosaic Idealize.ShloMosaic.TcCoe Idealize.SL.Sem

/-- The tile's activations as the body leaves them, first point. -/
theorem acts_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32)
    (halo : Fin 8 → Fin 5632 → EReal)
    (hb : kernelRun0_A.sl.v26 i = 1#1) (hh : ∀ i' col, (0 : EReal) = halo i' col) (y : S512x2816.Idx) :
    View.canon (kernelRun0_A.sl.HS1_11 c i arg1 harg1 arg2 harg2 arg3 harg3 arg4 harg4 arg5 harg5 arg6 harg6 arg11 arg13 x0 x1 x2 x3 x4 x5) y = actA halo (up x0 x1 x2 x3) x4 x5 y := by
  refine View.canon_apply_of_pieces (actA halo (up x0 x1 x2 x3) x4 x5) _ ?_ y (View.cover_of_tiledL (kernelRun0_A.sl.HS1_11 c i arg1 harg1 arg2 harg2 arg3 harg3 arg4 harg4 arg5 harg5 arg6 harg6 arg11 arg13 x0 x1 x2 x3 x4 x5) S512x256.size (by sl_kernel_rfl) y)
  refine List.forall_mem_cons.mpr ⟨fun x => ?_, ?_⟩
  · refine FfnTile.chunkA (o := 2560) arg1 harg1 arg2 harg2 arg3 arg4 harg3 harg4 arg5 harg5 arg6 harg6 arg11.view x0 x1 x2 x3 x4 x5 halo _ (by decide) hb hh
      inb_S1024x2816_S1024x256_0_2560 inb_S3x5632_S3x256_0_2560 inb_S1x5632_S1x256_0_2560 inb_S3x5632_S3x256_0_5376 inb_S1x5632_S1x256_0_5376 _ ?_ inb_S512x2816_S512x256_0_2560 x
    exact ⟨_, _, _, _, rfl⟩
  refine List.forall_mem_cons.mpr ⟨fun x => ?_, ?_⟩
  · refine FfnTile.chunkA (o := 2304) arg1 harg1 arg2 harg2 arg3 arg4 harg3 harg4 arg5 harg5 arg6 harg6 arg11.view x0 x1 x2 x3 x4 x5 halo _ (by decide) hb hh
      inb_S1024x2816_S1024x256_0_2304 inb_S3x5632_S3x256_0_2304 inb_S1x5632_S1x256_0_2304 inb_S3x5632_S3x256_0_5120 inb_S1x5632_S1x256_0_5120 _ ?_ inb_S512x2816_S512x256_0_2304 x
    exact ⟨_, _, _, _, rfl⟩
  refine List.forall_mem_cons.mpr ⟨fun x => ?_, ?_⟩
  · refine FfnTile.chunkA (o := 2048) arg1 harg1 arg2 harg2 arg3 arg4 harg3 harg4 arg5 harg5 arg6 harg6 arg11.view x0 x1 x2 x3 x4 x5 halo _ (by decide) hb hh
      inb_S1024x2816_S1024x256_0_2048 inb_S3x5632_S3x256_0_2048 inb_S1x5632_S1x256_0_2048 inb_S3x5632_S3x256_0_4864 inb_S1x5632_S1x256_0_4864 _ ?_ inb_S512x2816_S512x256_0_2048 x
    exact ⟨_, _, _, _, rfl⟩
  refine List.forall_mem_cons.mpr ⟨fun x => ?_, ?_⟩
  · refine FfnTile.chunkA (o := 1792) arg1 harg1 arg2 harg2 arg3 arg4 harg3 harg4 arg5 harg5 arg6 harg6 arg11.view x0 x1 x2 x3 x4 x5 halo _ (by decide) hb hh
      inb_S1024x2816_S1024x256_0_1792 inb_S3x5632_S3x256_0_1792 inb_S1x5632_S1x256_0_1792 inb_S3x5632_S3x256_0_4608 inb_S1x5632_S1x256_0_4608 _ ?_ inb_S512x2816_S512x256_0_1792 x
    exact ⟨_, _, _, _, rfl⟩
  refine List.forall_mem_cons.mpr ⟨fun x => ?_, ?_⟩
  · refine FfnTile.chunkA (o := 1536) arg1 harg1 arg2 harg2 arg3 arg4 harg3 harg4 arg5 harg5 arg6 harg6 arg11.view x0 x1 x2 x3 x4 x5 halo _ (by decide) hb hh
      inb_S1024x2816_S1024x256_0_1536 inb_S3x5632_S3x256_0_1536 inb_S1x5632_S1x256_0_1536 inb_S3x5632_S3x256_0_4352 inb_S1x5632_S1x256_0_4352 _ ?_ inb_S512x2816_S512x256_0_1536 x
    exact ⟨_, _, _, _, rfl⟩
  refine List.forall_mem_cons.mpr ⟨fun x => ?_, ?_⟩
  · refine FfnTile.chunkA (o := 1280) arg1 harg1 arg2 harg2 arg3 arg4 harg3 harg4 arg5 harg5 arg6 harg6 arg11.view x0 x1 x2 x3 x4 x5 halo _ (by decide) hb hh
      inb_S1024x2816_S1024x256_0_1280 inb_S3x5632_S3x256_0_1280 inb_S1x5632_S1x256_0_1280 inb_S3x5632_S3x256_0_4096 inb_S1x5632_S1x256_0_4096 _ ?_ inb_S512x2816_S512x256_0_1280 x
    exact ⟨_, _, _, _, rfl⟩
  refine List.forall_mem_cons.mpr ⟨fun x => ?_, ?_⟩
  · refine FfnTile.chunkA (o := 1024) arg1 harg1 arg2 harg2 arg3 arg4 harg3 harg4 arg5 harg5 arg6 harg6 arg11.view x0 x1 x2 x3 x4 x5 halo _ (by decide) hb hh
      inb_S1024x2816_S1024x256_0_1024 inb_S3x5632_S3x256_0_1024 inb_S1x5632_S1x256_0_1024 inb_S3x5632_S3x256_0_3840 inb_S1x5632_S1x256_0_3840 _ ?_ inb_S512x2816_S512x256_0_1024 x
    exact ⟨_, _, _, _, rfl⟩
  refine List.forall_mem_cons.mpr ⟨fun x => ?_, ?_⟩
  · refine FfnTile.chunkA (o := 768) arg1 harg1 arg2 harg2 arg3 arg4 harg3 harg4 arg5 harg5 arg6 harg6 arg11.view x0 x1 x2 x3 x4 x5 halo _ (by decide) hb hh
      inb_S1024x2816_S1024x256_0_768 inb_S3x5632_S3x256_0_768 inb_S1x5632_S1x256_0_768 inb_S3x5632_S3x256_0_3584 inb_S1x5632_S1x256_0_3584 _ ?_ inb_S512x2816_S512x256_0_768 x
    exact ⟨_, _, _, _, rfl⟩
  refine List.forall_mem_cons.mpr ⟨fun x => ?_, ?_⟩
  · refine FfnTile.chunkA (o := 512) arg1 harg1 arg2 harg2 arg3 arg4 harg3 harg4 arg5 harg5 arg6 harg6 arg11.view x0 x1 x2 x3 x4 x5 halo _ (by decide) hb hh
      inb_S1024x2816_S1024x256_0_512 inb_S3x5632_S3x256_0_512 inb_S1x5632_S1x256_0_512 inb_S3x5632_S3x256_0_3328 inb_S1x5632_S1x256_0_3328 _ ?_ inb_S512x2816_S512x256_0_512 x
    exact ⟨_, _, _, _, rfl⟩
  refine List.forall_mem_cons.mpr ⟨fun x => ?_, ?_⟩
  · refine FfnTile.chunkA (o := 256) arg1 harg1 arg2 harg2 arg3 arg4 harg3 harg4 arg5 harg5 arg6 harg6 arg11.view x0 x1 x2 x3 x4 x5 halo _ (by decide) hb hh
      inb_S1024x2816_S1024x256_0_256 inb_S3x5632_S3x256_0_256 inb_S1x5632_S1x256_0_256 inb_S3x5632_S3x256_0_3072 inb_S1x5632_S1x256_0_3072 _ ?_ inb_S512x2816_S512x256_0_256 x
    exact ⟨_, _, _, _, rfl⟩
  refine List.forall_mem_cons.mpr ⟨fun x => ?_, ?_⟩
  · refine FfnTile.chunkA (o := 0) arg1 harg1 arg2 harg2 arg3 arg4 harg3 harg4 arg5 harg5 arg6 harg6 arg11.view x0 x1 x2 x3 x4 x5 halo _ (by decide) hb hh
      inb_S1024x2816_S1024x256_0_0 inb_S3x5632_S3x256_0_0 inb_S1x5632_S1x256_0_0 inb_S3x5632_S3x256_0_2816 inb_S1x5632_S1x256_0_2816 _ ?_ inb_S512x2816_S512x256_0_0 x
    exact ⟨_, _, _, _, rfl⟩
  exact fun _ h => absurd h List.not_mem_nil

/-- The result's tile, first point. -/
theorem out_A_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32)
    (halo : Fin 8 → Fin 5632 → EReal)
    (hb : kernelRun0_A.sl.v26 i = 1#1) (hh : ∀ i' col, (0 : EReal) = halo i' col) (r : Fin 512) (j : Fin 1024) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 r j)
      = Row.down (fun k => x0 (ix2 r k)) (act halo (up x0 x1 x2 x3) x4 x5 r) (fun l k => x6 (ix2 l k)) (fun k => x7 (ix2 0 k)) j := by
  unfold out0_A_8
  rw [View.read_writes_junk_eq_canon]
  refine Eq.trans (congrArg _ (?_ : ix2 r j = (Rect.unit (s := S512x1024) ![0, 0] S512x1024.size inb_S512x1024_S512x1024_0_0).emb (ix2 r j)))
    ((View.canon_cons_emb _ _ [] _).trans ?_)
  · funext d
    refine Fin.ext ?_
    match d with
    | 0 => show r.val = 0 + 1 * r.val; omega
    | 1 => show j.val = 0 + 1 * j.val; omega
  refine (down_at _ _ _ _ r j).trans (down_congr ?_ ?_ ?_ ?_ j)
  · exact fun k => whole_at arg1 harg1 x0 _ r k
  · intro l
    refine (congrFun (View.readCov_eq_canon' arg12.view _ (Rect.unit (s := S512x2816) ![0, 0] S512x2816.size inb_S512x2816_S512x2816_0_0).toLoadRect) (ix2 r l)).trans ?_
    refine Eq.trans (congrArg _ (?_ : _ = ix2 r l)) (acts_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 halo hb hh (ix2 r l))
    funext d
    refine Fin.ext ?_
    match d with
    | 0 => show 0 + 1 * r.val = r.val; omega
    | 1 => show 0 + 1 * l.val = l.val; omega
  · exact fun l k => whole_at arg7 harg7 x6 _ l k
  · exact fun k => whole_at arg8 harg8 x7 _ 0 k

end Cert.Proof.FfnTile

end
-- ==== Proof.FfnActB.lean ====
/- The feed-forward kernel's body at every grid point but the first: the result's tile. -/
module

public import proofs.«01_k».proof.Proof.FfnTile

@[expose] public section

set_option maxRecDepth 16384
set_option maxHeartbeats 20000000

noncomputable section

namespace Cert.Proof.FfnTile

open Cert.FfnIdeal Cert.FfnIdeal.Gen Cert.Proof.FfnPay Cert.Proof.FfnChunk Idealize.ShloMosaic Idealize.ShloMosaic.TcCoe Idealize.SL.Sem

/-- The tile's activations as the body leaves them, any other point. -/
theorem acts_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : ¬cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32) (xs2 : Vec Ideal S8x5632 .f32)
    (halo : Fin 8 → Fin 5632 → EReal)
    (hh : ∀ i' col, (if kernelRun0_B.sl.v26 i = 1#1 then (0 : EReal) else xs2 (ix2 i' col)) = halo i' col) (y : S512x2816.Idx) :
    View.canon (kernelRun0_B.sl.HS1_11 c i arg1 harg1 arg2 harg2 arg3 harg3 arg4 harg4 arg5 harg5 arg6 harg6 arg11 arg13 harg13 x0 x1 x2 x3 x4 x5 xs2) y = actA halo (up x0 x1 x2 x3) x4 x5 y := by
  refine View.canon_apply_of_pieces (actA halo (up x0 x1 x2 x3) x4 x5) _ ?_ y (View.cover_of_tiledL (kernelRun0_B.sl.HS1_11 c i arg1 harg1 arg2 harg2 arg3 harg3 arg4 harg4 arg5 harg5 arg6 harg6 arg11 arg13 harg13 x0 x1 x2 x3 x4 x5 xs2) S512x256.size (by sl_kernel_rfl) y)
  refine List.forall_mem_cons.mpr ⟨fun x => ?_, ?_⟩
  · refine FfnTile.chunkB (o := 2560) arg1 harg1 arg2 harg2 arg3 arg4 harg3 harg4 arg5 harg5 arg6 harg6 arg11.view x0 x1 x2 x3 x4 x5 halo _ (by decide) arg13 harg13 xs2 inb_S8x5632_S8x256_0_2560 inb_S8x5632_S8x256_0_5376 hh
      inb_S1024x2816_S1024x256_0_2560 inb_S3x5632_S3x256_0_2560 inb_S1x5632_S1x256_0_2560 inb_S3x5632_S3x256_0_5376 inb_S1x5632_S1x256_0_5376 _ ?_ inb_S512x2816_S512x256_0_2560 x
    exact ⟨_, _, rfl⟩
  refine List.forall_mem_cons.mpr ⟨fun x => ?_, ?_⟩
  · refine FfnTile.chunkB (o := 2304) arg1 harg1 arg2 harg2 arg3 arg4 harg3 harg4 arg5 harg5 arg6 harg6 arg11.view x0 x1 x2 x3 x4 x5 halo _ (by decide) arg13 harg13 xs2 inb_S8x5632_S8x256_0_2304 inb_S8x5632_S8x256_0_5120 hh
      inb_S1024x2816_S1024x256_0_2304 inb_S3x5632_S3x256_0_2304 inb_S1x5632_S1x256_0_2304 inb_S3x5632_S3x256_0_5120 inb_S1x5632_S1x256_0_5120 _ ?_ inb_S512x2816_S512x256_0_2304 x
    exact ⟨_, _, rfl⟩
  refine List.forall_mem_cons.mpr ⟨fun x => ?_, ?_⟩
  · refine FfnTile.chunkB (o := 2048) arg1 harg1 arg2 harg2 arg3 arg4 harg3 harg4 arg5 harg5 arg6 harg6 arg11.view x0 x1 x2 x3 x4 x5 halo _ (by decide) arg13 harg13 xs2 inb_S8x5632_S8x256_0_2048 inb_S8x5632_S8x256_0_4864 hh
      inb_S1024x2816_S1024x256_0_2048 inb_S3x5632_S3x256_0_2048 inb_S1x5632_S1x256_0_2048 inb_S3x5632_S3x256_0_4864 inb_S1x5632_S1x256_0_4864 _ ?_ inb_S512x2816_S512x256_0_2048 x
    exact ⟨_, _, rfl⟩
  refine List.forall_mem_cons.mpr ⟨fun x => ?_, ?_⟩
  · refine FfnTile.chunkB (o := 1792) arg1 harg1 arg2 harg2 arg3 arg4 harg3 harg4 arg5 harg5 arg6 harg6 arg11.view x0 x1 x2 x3 x4 x5 halo _ (by decide) arg13 harg13 xs2 inb_S8x5632_S8x256_0_1792 inb_S8x5632_S8x256_0_4608 hh
      inb_S1024x2816_S1024x256_0_1792 inb_S3x5632_S3x256_0_1792 inb_S1x5632_S1x256_0_1792 inb_S3x5632_S3x256_0_4608 inb_S1x5632_S1x256_0_4608 _ ?_ inb_S512x2816_S512x256_0_1792 x
    exact ⟨_, _, rfl⟩
  refine List.forall_mem_cons.mpr ⟨fun x => ?_, ?_⟩
  · refine FfnTile.chunkB (o := 1536) arg1 harg1 arg2 harg2 arg3 arg4 harg3 harg4 arg5 harg5 arg6 harg6 arg11.view x0 x1 x2 x3 x4 x5 halo _ (by decide) arg13 harg13 xs2 inb_S8x5632_S8x256_0_1536 inb_S8x5632_S8x256_0_4352 hh
      inb_S1024x2816_S1024x256_0_1536 inb_S3x5632_S3x256_0_1536 inb_S1x5632_S1x256_0_1536 inb_S3x5632_S3x256_0_4352 inb_S1x5632_S1x256_0_4352 _ ?_ inb_S512x2816_S512x256_0_1536 x
    exact ⟨_, _, rfl⟩
  refine List.forall_mem_cons.mpr ⟨fun x => ?_, ?_⟩
  · refine FfnTile.chunkB (o := 1280) arg1 harg1 arg2 harg2 arg3 arg4 harg3 harg4 arg5 harg5 arg6 harg6 arg11.view x0 x1 x2 x3 x4 x5 halo _ (by decide) arg13 harg13 xs2 inb_S8x5632_S8x256_0_1280 inb_S8x5632_S8x256_0_4096 hh
      inb_S1024x2816_S1024x256_0_1280 inb_S3x5632_S3x256_0_1280 inb_S1x5632_S1x256_0_1280 inb_S3x5632_S3x256_0_4096 inb_S1x5632_S1x256_0_4096 _ ?_ inb_S512x2816_S512x256_0_1280 x
    exact ⟨_, _, rfl⟩
  refine List.forall_mem_cons.mpr ⟨fun x => ?_, ?_⟩
  · refine FfnTile.chunkB (o := 1024) arg1 harg1 arg2 harg2 arg3 arg4 harg3 harg4 arg5 harg5 arg6 harg6 arg11.view x0 x1 x2 x3 x4 x5 halo _ (by decide) arg13 harg13 xs2 inb_S8x5632_S8x256_0_1024 inb_S8x5632_S8x256_0_3840 hh
      inb_S1024x2816_S1024x256_0_1024 inb_S3x5632_S3x256_0_1024 inb_S1x5632_S1x256_0_1024 inb_S3x5632_S3x256_0_3840 inb_S1x5632_S1x256_0_3840 _ ?_ inb_S512x2816_S512x256_0_1024 x
    exact ⟨_, _, rfl⟩
  refine List.forall_mem_cons.mpr ⟨fun x => ?_, ?_⟩
  · refine FfnTile.chunkB (o := 768) arg1 harg1 arg2 harg2 arg3 arg4 harg3 harg4 arg5 harg5 arg6 harg6 arg11.view x0 x1 x2 x3 x4 x5 halo _ (by decide) arg13 harg13 xs2 inb_S8x5632_S8x256_0_768 inb_S8x5632_S8x256_0_3584 hh
      inb_S1024x2816_S1024x256_0_768 inb_S3x5632_S3x256_0_768 inb_S1x5632_S1x256_0_768 inb_S3x5632_S3x256_0_3584 inb_S1x5632_S1x256_0_3584 _ ?_ inb_S512x2816_S512x256_0_768 x
    exact ⟨_, _, rfl⟩
  refine List.forall_mem_cons.mpr ⟨fun x => ?_, ?_⟩
  · refine FfnTile.chunkB (o := 512) arg1 harg1 arg2 harg2 arg3 arg4 harg3 harg4 arg5 harg5 arg6 harg6 arg11.view x0 x1 x2 x3 x4 x5 halo _ (by decide) arg13 harg13 xs2 inb_S8x5632_S8x256_0_512 inb_S8x5632_S8x256_0_3328 hh
      inb_S1024x2816_S1024x256_0_512 inb_S3x5632_S3x256_0_512 inb_S1x5632_S1x256_0_512 inb_S3x5632_S3x256_0_3328 inb_S1x5632_S1x256_0_3328 _ ?_ inb_S512x2816_S512x256_0_512 x
    exact ⟨_, _, rfl⟩
  refine List.forall_mem_cons.mpr ⟨fun x => ?_, ?_⟩
  · refine FfnTile.chunkB (o := 256) arg1 harg1 arg2 harg2 arg3 arg4 harg3 harg4 arg5 harg5 arg6 harg6 arg11.view x0 x1 x2 x3 x4 x5 halo _ (by decide) arg13 harg13 xs2 inb_S8x5632_S8x256_0_256 inb_S8x5632_S8x256_0_3072 hh
      inb_S1024x2816_S1024x256_0_256 inb_S3x5632_S3x256_0_256 inb_S1x5632_S1x256_0_256 inb_S3x5632_S3x256_0_3072 inb_S1x5632_S1x256_0_3072 _ ?_ inb_S512x2816_S512x256_0_256 x
    exact ⟨_, _, rfl⟩
  refine List.forall_mem_cons.mpr ⟨fun x => ?_, ?_⟩
  · refine FfnTile.chunkB (o := 0) arg1 harg1 arg2 harg2 arg3 arg4 harg3 harg4 arg5 harg5 arg6 harg6 arg11.view x0 x1 x2 x3 x4 x5 halo _ (by decide) arg13 harg13 xs2 inb_S8x5632_S8x256_0_0 inb_S8x5632_S8x256_0_2816 hh
      inb_S1024x2816_S1024x256_0_0 inb_S3x5632_S3x256_0_0 inb_S1x5632_S1x256_0_0 inb_S3x5632_S3x256_0_2816 inb_S1x5632_S1x256_0_2816 _ ?_ inb_S512x2816_S512x256_0_0 x
    exact ⟨_, _, rfl⟩
  exact fun _ h => absurd h List.not_mem_nil

/-- The result's tile, any other point. -/
theorem out_B_8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : ¬cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32) (xs2 : Vec Ideal S8x5632 .f32)
    (halo : Fin 8 → Fin 5632 → EReal)
    (hh : ∀ i' col, (if kernelRun0_B.sl.v26 i = 1#1 then (0 : EReal) else xs2 (ix2 i' col)) = halo i' col) (r : Fin 512) (j : Fin 1024) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs2 (ix2 r j)
      = Row.down (fun k => x0 (ix2 r k)) (act halo (up x0 x1 x2 x3) x4 x5 r) (fun l k => x6 (ix2 l k)) (fun k => x7 (ix2 0 k)) j := by
  unfold out0_B_8
  rw [View.read_writes_junk_eq_canon]
  refine Eq.trans (congrArg _ (?_ : ix2 r j = (Rect.unit (s := S512x1024) ![0, 0] S512x1024.size inb_S512x1024_S512x1024_0_0).emb (ix2 r j)))
    ((View.canon_cons_emb _ _ [] _).trans ?_)
  · funext d
    refine Fin.ext ?_
    match d with
    | 0 => show r.val = 0 + 1 * r.val; omega
    | 1 => show j.val = 0 + 1 * j.val; omega
  refine (down_at _ _ _ _ r j).trans (down_congr ?_ ?_ ?_ ?_ j)
  · exact fun k => whole_at arg1 harg1 x0 _ r k
  · intro l
    refine (congrFun (View.readCov_eq_canon' arg12.view _ (Rect.unit (s := S512x2816) ![0, 0] S512x2816.size inb_S512x2816_S512x2816_0_0).toLoadRect) (ix2 r l)).trans ?_
    refine Eq.trans (congrArg _ (?_ : _ = ix2 r l)) (acts_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs2 halo hh (ix2 r l))
    funext d
    refine Fin.ext ?_
    match d with
    | 0 => show 0 + 1 * r.val = r.val; omega
    | 1 => show 0 + 1 * l.val = l.val; omega
  · exact fun l k => whole_at arg7 harg7 x6 _ l k
  · exact fun k => whole_at arg8 harg8 x7 _ 0 k

end Cert.Proof.FfnTile

end
-- ==== Proof.FfnTailA.lean ====
/- The feed-forward kernel's body at the first grid point: the last rows of the tile's up-projection. -/
module

public import proofs.«01_k».proof.Proof.FfnTile

@[expose] public section

set_option maxRecDepth 16384
set_option maxHeartbeats 20000000

noncomputable section

namespace Cert.Proof.FfnTile

open Cert.FfnIdeal Cert.FfnIdeal.Gen Cert.Proof.FfnPay Cert.Proof.FfnChunk Idealize.ShloMosaic Idealize.ShloMosaic.TcCoe Idealize.SL.Sem

/-- The last rows stored as a result. -/
theorem out_A_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = tailA (up x0 x1 x2 x3) := by
  unfold out0_A_9
  rw [View.read_writes_junk_eq_canon]
  refine funext fun y => View.canon_apply_of_pieces (tailA (up x0 x1 x2 x3)) _ ?_ y (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y)
  refine List.forall_mem_cons.mpr ⟨fun x => ?_, ?_⟩
  · refine tail_hi arg1 harg1 arg2 harg2 arg4 harg4 x0 x1 x2 x3 (o := 2560) (by decide) inb_S1024x2816_S1024x256_0_2560 _ ?_ inb_S8x5632_S8x256_0_5376 x
    rfl
  refine List.forall_mem_cons.mpr ⟨fun x => ?_, ?_⟩
  · refine tail_lo arg1 harg1 arg2 harg2 arg3 harg3 x0 x1 x2 x3 (o := 2560) (by decide) inb_S1024x2816_S1024x256_0_2560 _ ?_ inb_S8x5632_S8x256_0_2560 x
    rfl
  refine List.forall_mem_cons.mpr ⟨fun x => ?_, ?_⟩
  · refine tail_hi arg1 harg1 arg2 harg2 arg4 harg4 x0 x1 x2 x3 (o := 2304) (by decide) inb_S1024x2816_S1024x256_0_2304 _ ?_ inb_S8x5632_S8x256_0_5120 x
    rfl
  refine List.forall_mem_cons.mpr ⟨fun x => ?_, ?_⟩
  · refine tail_lo arg1 harg1 arg2 harg2 arg3 harg3 x0 x1 x2 x3 (o := 2304) (by decide) inb_S1024x2816_S1024x256_0_2304 _ ?_ inb_S8x5632_S8x256_0_2304 x
    rfl
  refine List.forall_mem_cons.mpr ⟨fun x => ?_, ?_⟩
  · refine tail_hi arg1 harg1 arg2 harg2 arg4 harg4 x0 x1 x2 x3 (o := 2048) (by decide) inb_S1024x2816_S1024x256_0_2048 _ ?_ inb_S8x5632_S8x256_0_4864 x
    rfl
  refine List.forall_mem_cons.mpr ⟨fun x => ?_, ?_⟩
  · refine tail_lo arg1 harg1 arg2 harg2 arg3 harg3 x0 x1 x2 x3 (o := 2048) (by decide) inb_S1024x2816_S1024x256_0_2048 _ ?_ inb_S8x5632_S8x256_0_2048 x
    rfl
  refine List.forall_mem_cons.mpr ⟨fun x => ?_, ?_⟩
  · refine tail_hi arg1 harg1 arg2 harg2 arg4 harg4 x0 x1 x2 x3 (o := 1792) (by decide) inb_S1024x2816_S1024x256_0_1792 _ ?_ inb_S8x5632_S8x256_0_4608 x
    rfl
  refine List.forall_mem_cons.mpr ⟨fun x => ?_, ?_⟩
  · refine tail_lo arg1 harg1 arg2 harg2 arg3 harg3 x0 x1 x2 x3 (o := 1792) (by decide) inb_S1024x2816_S1024x256_0_1792 _ ?_ inb_S8x5632_S8x256_0_1792 x
    rfl
  refine List.forall_mem_cons.mpr ⟨fun x => ?_, ?_⟩
  · refine tail_hi arg1 harg1 arg2 harg2 arg4 harg4 x0 x1 x2 x3 (o := 1536) (by decide) inb_S1024x2816_S1024x256_0_1536 _ ?_ inb_S8x5632_S8x256_0_4352 x
    rfl
  refine List.forall_mem_cons.mpr ⟨fun x => ?_, ?_⟩
  · refine tail_lo arg1 harg1 arg2 harg2 arg3 harg3 x0 x1 x2 x3 (o := 1536) (by decide) inb_S1024x2816_S1024x256_0_1536 _ ?_ inb_S8x5632_S8x256_0_1536 x
    rfl
  refine List.forall_mem_cons.mpr ⟨fun x => ?_, ?_⟩
  · refine tail_hi arg1 harg1 arg2 harg2 arg4 harg4 x0 x1 x2 x3 (o := 1280) (by decide) inb_S1024x2816_S1024x256_0_1280 _ ?_ inb_S8x5632_S8x256_0_4096 x
    rfl
  refine List.forall_mem_cons.mpr ⟨fun x => ?_, ?_⟩
  · refine tail_lo arg1 harg1 arg2 harg2 arg3 harg3 x0 x1 x2 x3 (o := 1280) (by decide) inb_S1024x2816_S1024x256_0_1280 _ ?_ inb_S8x5632_S8x256_0_1280 x
    rfl
  refine List.forall_mem_cons.mpr ⟨fun x => ?_, ?_⟩
  · refine tail_hi arg1 harg1 arg2 harg2 arg4 harg4 x0 x1 x2 x3 (o := 1024) (by decide) inb_S1024x2816_S1024x256_0_1024 _ ?_ inb_S8x5632_S8x256_0_3840 x
    rfl
  refine List.forall_mem_cons.mpr ⟨fun x => ?_, ?_⟩
  · refine tail_lo arg1 harg1 arg2 harg2 arg3 harg3 x0 x1 x2 x3 (o := 1024) (by decide) inb_S1024x2816_S1024x256_0_1024 _ ?_ inb_S8x5632_S8x256_0_1024 x
    rfl
  refine List.forall_mem_cons.mpr ⟨fun x => ?_, ?_⟩
  · refine tail_hi arg1 harg1 arg2 harg2 arg4 harg4 x0 x1 x2 x3 (o := 768) (by decide) inb_S1024x2816_S1024x256_0_768 _ ?_ inb_S8x5632_S8x256_0_3584 x
    rfl
  refine List.forall_mem_cons.mpr ⟨fun x => ?_, ?_⟩
  · refine tail_lo arg1 harg1 arg2 harg2 arg3 harg3 x0 x1 x2 x3 (o := 768) (by decide) inb_S1024x2816_S1024x256_0_768 _ ?_ inb_S8x5632_S8x256_0_768 x
    rfl
  refine List.forall_mem_cons.mpr ⟨fun x => ?_, ?_⟩
  · refine tail_hi arg1 harg1 arg2 harg2 arg4 harg4 x0 x1 x2 x3 (o := 512) (by decide) inb_S1024x2816_S1024x256_0_512 _ ?_ inb_S8x5632_S8x256_0_3328 x
    rfl
  refine List.forall_mem_cons.mpr ⟨fun x => ?_, ?_⟩
  · refine tail_lo arg1 harg1 arg2 harg2 arg3 harg3 x0 x1 x2 x3 (o := 512) (by decide) inb_S1024x2816_S1024x256_0_512 _ ?_ inb_S8x5632_S8x256_0_512 x
    rfl
  refine List.forall_mem_cons.mpr ⟨fun x => ?_, ?_⟩
  · refine tail_hi arg1 harg1 arg2 harg2 arg4 harg4 x0 x1 x2 x3 (o := 256) (by decide) inb_S1024x2816_S1024x256_0_256 _ ?_ inb_S8x5632_S8x256_0_3072 x
    rfl
  refine List.forall_mem_cons.mpr ⟨fun x => ?_, ?_⟩
  · refine tail_lo arg1 harg1 arg2 harg2 arg3 harg3 x0 x1 x2 x3 (o := 256) (by decide) inb_S1024x2816_S1024x256_0_256 _ ?_ inb_S8x5632_S8x256_0_256 x
    rfl
  refine List.forall_mem_cons.mpr ⟨fun x => ?_, ?_⟩
  · refine tail_hi arg1 harg1 arg2 harg2 arg4 harg4 x0 x1 x2 x3 (o := 0) (by decide) inb_S1024x2816_S1024x256_0_0 _ ?_ inb_S8x5632_S8x256_0_2816 x
    rfl
  refine List.forall_mem_cons.mpr ⟨fun x => ?_, ?_⟩
  · refine tail_lo arg1 harg1 arg2 harg2 arg3 harg3 x0 x1 x2 x3 (o := 0) (by decide) inb_S1024x2816_S1024x256_0_0 _ ?_ inb_S8x5632_S8x256_0_0 x
    rfl
  exact fun _ h => absurd h List.not_mem_nil

/-- The last rows as they are carried. -/
theorem carry_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32) :
    sout0_A_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = tailA (up x0 x1 x2 x3) := by
  unfold sout0_A_2
  rw [View.read_writes_junk_eq_canon]
  refine funext fun y => ?_
  refine (canon_prefix (List.take 22 (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1) (List.drop 22 (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1) y ?_).trans ?_
  · exact View.cover_of_tiledL (List.take 22 (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1) S8x256.size (by sl_kernel_rfl) y
  refine View.canon_apply_of_pieces (tailA (up x0 x1 x2 x3)) _ ?_ y (View.cover_of_tiledL (List.take 22 (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1) S8x256.size (by sl_kernel_rfl) y)
  refine List.forall_mem_cons.mpr ⟨fun x => ?_, ?_⟩
  · refine carry_hi arg1 harg1 arg2 harg2 arg4 harg4 x0 x1 x2 x3 (o := 2560) (by decide) inb_S1024x2816_S1024x256_0_2560 _ ?_ inb_S8x5632_S8x256_0_5376 x
    rfl
  refine List.forall_mem_cons.mpr ⟨fun x => ?_, ?_⟩
  · refine carry_lo arg1 harg1 arg2 harg2 arg3 harg3 x0 x1 x2 x3 (o := 2560) (by decide) inb_S1024x2816_S1024x256_0_2560 _ ?_ inb_S8x5632_S8x256_0_2560 x
    rfl
  refine List.forall_mem_cons.mpr ⟨fun x => ?_, ?_⟩
  · refine carry_hi arg1 harg1 arg2 harg2 arg4 harg4 x0 x1 x2 x3 (o := 2304) (by decide) inb_S1024x2816_S1024x256_0_2304 _ ?_ inb_S8x5632_S8x256_0_5120 x
    rfl
  refine List.forall_mem_cons.mpr ⟨fun x => ?_, ?_⟩
  · refine carry_lo arg1 harg1 arg2 harg2 arg3 harg3 x0 x1 x2 x3 (o := 2304) (by decide) inb_S1024x2816_S1024x256_0_2304 _ ?_ inb_S8x5632_S8x256_0_2304 x
    rfl
  refine List.forall_mem_cons.mpr ⟨fun x => ?_, ?_⟩
  · refine carry_hi arg1 harg1 arg2 harg2 arg4 harg4 x0 x1 x2 x3 (o := 2048) (by decide) inb_S1024x2816_S1024x256_0_2048 _ ?_ inb_S8x5632_S8x256_0_4864 x
    rfl
  refine List.forall_mem_cons.mpr ⟨fun x => ?_, ?_⟩
  · refine carry_lo arg1 harg1 arg2 harg2 arg3 harg3 x0 x1 x2 x3 (o := 2048) (by decide) inb_S1024x2816_S1024x256_0_2048 _ ?_ inb_S8x5632_S8x256_0_2048 x
    rfl
  refine List.forall_mem_cons.mpr ⟨fun x => ?_, ?_⟩
  · refine carry_hi arg1 harg1 arg2 harg2 arg4 harg4 x0 x1 x2 x3 (o := 1792) (by decide) inb_S1024x2816_S1024x256_0_1792 _ ?_ inb_S8x5632_S8x256_0_4608 x
    rfl
  refine List.forall_mem_cons.mpr ⟨fun x => ?_, ?_⟩
  · refine carry_lo arg1 harg1 arg2 harg2 arg3 harg3 x0 x1 x2 x3 (o := 1792) (by decide) inb_S1024x2816_S1024x256_0_1792 _ ?_ inb_S8x5632_S8x256_0_1792 x
    rfl
  refine List.forall_mem_cons.mpr ⟨fun x => ?_, ?_⟩
  · refine carry_hi arg1 harg1 arg2 harg2 arg4 harg4 x0 x1 x2 x3 (o := 1536) (by decide) inb_S1024x2816_S1024x256_0_1536 _ ?_ inb_S8x5632_S8x256_0_4352 x
    rfl
  refine List.forall_mem_cons.mpr ⟨fun x => ?_, ?_⟩
  · refine carry_lo arg1 harg1 arg2 harg2 arg3 harg3 x0 x1 x2 x3 (o := 1536) (by decide) inb_S1024x2816_S1024x256_0_1536 _ ?_ inb_S8x5632_S8x256_0_1536 x
    rfl
  refine List.forall_mem_cons.mpr ⟨fun x => ?_, ?_⟩
  · refine carry_hi arg1 harg1 arg2 harg2 arg4 harg4 x0 x1 x2 x3 (o := 1280) (by decide) inb_S1024x2816_S1024x256_0_1280 _ ?_ inb_S8x5632_S8x256_0_4096 x
    rfl
  refine List.forall_mem_cons.mpr ⟨fun x => ?_, ?_⟩
  · refine carry_lo arg1 harg1 arg2 harg2 arg3 harg3 x0 x1 x2 x3 (o := 1280) (by decide) inb_S1024x2816_S1024x256_0_1280 _ ?_ inb_S8x5632_S8x256_0_1280 x
    rfl
  refine List.forall_mem_cons.mpr ⟨fun x => ?_, ?_⟩
  · refine carry_hi arg1 harg1 arg2 harg2 arg4 harg4 x0 x1 x2 x3 (o := 1024) (by decide) inb_S1024x2816_S1024x256_0_1024 _ ?_ inb_S8x5632_S8x256_0_3840 x
    rfl
  refine List.forall_mem_cons.mpr ⟨fun x => ?_, ?_⟩
  · refine carry_lo arg1 harg1 arg2 harg2 arg3 harg3 x0 x1 x2 x3 (o := 1024) (by decide) inb_S1024x2816_S1024x256_0_1024 _ ?_ inb_S8x5632_S8x256_0_1024 x
    rfl
  refine List.forall_mem_cons.mpr ⟨fun x => ?_, ?_⟩
  · refine carry_hi arg1 harg1 arg2 harg2 arg4 harg4 x0 x1 x2 x3 (o := 768) (by decide) inb_S1024x2816_S1024x256_0_768 _ ?_ inb_S8x5632_S8x256_0_3584 x
    rfl
  refine List.forall_mem_cons.mpr ⟨fun x => ?_, ?_⟩
  · refine carry_lo arg1 harg1 arg2 harg2 arg3 harg3 x0 x1 x2 x3 (o := 768) (by decide) inb_S1024x2816_S1024x256_0_768 _ ?_ inb_S8x5632_S8x256_0_768 x
    rfl
  refine List.forall_mem_cons.mpr ⟨fun x => ?_, ?_⟩
  · refine carry_hi arg1 harg1 arg2 harg2 arg4 harg4 x0 x1 x2 x3 (o := 512) (by decide) inb_S1024x2816_S1024x256_0_512 _ ?_ inb_S8x5632_S8x256_0_3328 x
    rfl
  refine List.forall_mem_cons.mpr ⟨fun x => ?_, ?_⟩
  · refine carry_lo arg1 harg1 arg2 harg2 arg3 harg3 x0 x1 x2 x3 (o := 512) (by decide) inb_S1024x2816_S1024x256_0_512 _ ?_ inb_S8x5632_S8x256_0_512 x
    rfl
  refine List.forall_mem_cons.mpr ⟨fun x => ?_, ?_⟩
  · refine carry_hi arg1 harg1 arg2 harg2 arg4 harg4 x0 x1 x2 x3 (o := 256) (by decide) inb_S1024x2816_S1024x256_0_256 _ ?_ inb_S8x5632_S8x256_0_3072 x
    rfl
  refine List.forall_mem_cons.mpr ⟨fun x => ?_, ?_⟩
  · refine carry_lo arg1 harg1 arg2 harg2 arg3 harg3 x0 x1 x2 x3 (o := 256) (by decide) inb_S1024x2816_S1024x256_0_256 _ ?_ inb_S8x5632_S8x256_0_256 x
    rfl
  refine List.forall_mem_cons.mpr ⟨fun x => ?_, ?_⟩
  · refine carry_hi arg1 harg1 arg2 harg2 arg4 harg4 x0 x1 x2 x3 (o := 0) (by decide) inb_S1024x2816_S1024x256_0_0 _ ?_ inb_S8x5632_S8x256_0_2816 x
    rfl
  refine List.forall_mem_cons.mpr ⟨fun x => ?_, ?_⟩
  · refine carry_lo arg1 harg1 arg2 harg2 arg3 harg3 x0 x1 x2 x3 (o := 0) (by decide) inb_S1024x2816_S1024x256_0_0 _ ?_ inb_S8x5632_S8x256_0_0 x
    rfl
  exact fun _ h => absurd h List.not_mem_nil

end Cert.Proof.FfnTile

end
-- ==== Proof.FfnTailB.lean ====
/- The feed-forward kernel's body at every grid point but the first: the last rows of the tile's up-projection. -/
module

public import proofs.«01_k».proof.Proof.FfnTile

@[expose] public section

set_option maxRecDepth 16384
set_option maxHeartbeats 20000000

noncomputable section

namespace Cert.Proof.FfnTile

open Cert.FfnIdeal Cert.FfnIdeal.Gen Cert.Proof.FfnPay Cert.Proof.FfnChunk Idealize.ShloMosaic Idealize.ShloMosaic.TcCoe Idealize.SL.Sem

/-- The last rows stored as a result. -/
theorem out_B_9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : ¬cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32) (xs2 : Vec Ideal S8x5632 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs2 = tailA (up x0 x1 x2 x3) := by
  unfold out0_B_9
  rw [View.read_writes_junk_eq_canon]
  refine funext fun y => View.canon_apply_of_pieces (tailA (up x0 x1 x2 x3)) _ ?_ y (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs2 y)
  refine List.forall_mem_cons.mpr ⟨fun x => ?_, ?_⟩
  · refine tail_hi arg1 harg1 arg2 harg2 arg4 harg4 x0 x1 x2 x3 (o := 2560) (by decide) inb_S1024x2816_S1024x256_0_2560 _ ?_ inb_S8x5632_S8x256_0_5376 x
    rfl
  refine List.forall_mem_cons.mpr ⟨fun x => ?_, ?_⟩
  · refine tail_lo arg1 harg1 arg2 harg2 arg3 harg3 x0 x1 x2 x3 (o := 2560) (by decide) inb_S1024x2816_S1024x256_0_2560 _ ?_ inb_S8x5632_S8x256_0_2560 x
    rfl
  refine List.forall_mem_cons.mpr ⟨fun x => ?_, ?_⟩
  · refine tail_hi arg1 harg1 arg2 harg2 arg4 harg4 x0 x1 x2 x3 (o := 2304) (by decide) inb_S1024x2816_S1024x256_0_2304 _ ?_ inb_S8x5632_S8x256_0_5120 x
    rfl
  refine List.forall_mem_cons.mpr ⟨fun x => ?_, ?_⟩
  · refine tail_lo arg1 harg1 arg2 harg2 arg3 harg3 x0 x1 x2 x3 (o := 2304) (by decide) inb_S1024x2816_S1024x256_0_2304 _ ?_ inb_S8x5632_S8x256_0_2304 x
    rfl
  refine List.forall_mem_cons.mpr ⟨fun x => ?_, ?_⟩
  · refine tail_hi arg1 harg1 arg2 harg2 arg4 harg4 x0 x1 x2 x3 (o := 2048) (by decide) inb_S1024x2816_S1024x256_0_2048 _ ?_ inb_S8x5632_S8x256_0_4864 x
    rfl
  refine List.forall_mem_cons.mpr ⟨fun x => ?_, ?_⟩
  · refine tail_lo arg1 harg1 arg2 harg2 arg3 harg3 x0 x1 x2 x3 (o := 2048) (by decide) inb_S1024x2816_S1024x256_0_2048 _ ?_ inb_S8x5632_S8x256_0_2048 x
    rfl
  refine List.forall_mem_cons.mpr ⟨fun x => ?_, ?_⟩
  · refine tail_hi arg1 harg1 arg2 harg2 arg4 harg4 x0 x1 x2 x3 (o := 1792) (by decide) inb_S1024x2816_S1024x256_0_1792 _ ?_ inb_S8x5632_S8x256_0_4608 x
    rfl
  refine List.forall_mem_cons.mpr ⟨fun x => ?_, ?_⟩
  · refine tail_lo arg1 harg1 arg2 harg2 arg3 harg3 x0 x1 x2 x3 (o := 1792) (by decide) inb_S1024x2816_S1024x256_0_1792 _ ?_ inb_S8x5632_S8x256_0_1792 x
    rfl
  refine List.forall_mem_cons.mpr ⟨fun x => ?_, ?_⟩
  · refine tail_hi arg1 harg1 arg2 harg2 arg4 harg4 x0 x1 x2 x3 (o := 1536) (by decide) inb_S1024x2816_S1024x256_0_1536 _ ?_ inb_S8x5632_S8x256_0_4352 x
    rfl
  refine List.forall_mem_cons.mpr ⟨fun x => ?_, ?_⟩
  · refine tail_lo arg1 harg1 arg2 harg2 arg3 harg3 x0 x1 x2 x3 (o := 1536) (by decide) inb_S1024x2816_S1024x256_0_1536 _ ?_ inb_S8x5632_S8x256_0_1536 x
    rfl
  refine List.forall_mem_cons.mpr ⟨fun x => ?_, ?_⟩
  · refine tail_hi arg1 harg1 arg2 harg2 arg4 harg4 x0 x1 x2 x3 (o := 1280) (by decide) inb_S1024x2816_S1024x256_0_1280 _ ?_ inb_S8x5632_S8x256_0_4096 x
    rfl
  refine List.forall_mem_cons.mpr ⟨fun x => ?_, ?_⟩
  · refine tail_lo arg1 harg1 arg2 harg2 arg3 harg3 x0 x1 x2 x3 (o := 1280) (by decide) inb_S1024x2816_S1024x256_0_1280 _ ?_ inb_S8x5632_S8x256_0_1280 x
    rfl
  refine List.forall_mem_cons.mpr ⟨fun x => ?_, ?_⟩
  · refine tail_hi arg1 harg1 arg2 harg2 arg4 harg4 x0 x1 x2 x3 (o := 1024) (by decide) inb_S1024x2816_S1024x256_0_1024 _ ?_ inb_S8x5632_S8x256_0_3840 x
    rfl
  refine List.forall_mem_cons.mpr ⟨fun x => ?_, ?_⟩
  · refine tail_lo arg1 harg1 arg2 harg2 arg3 harg3 x0 x1 x2 x3 (o := 1024) (by decide) inb_S1024x2816_S1024x256_0_1024 _ ?_ inb_S8x5632_S8x256_0_1024 x
    rfl
  refine List.forall_mem_cons.mpr ⟨fun x => ?_, ?_⟩
  · refine tail_hi arg1 harg1 arg2 harg2 arg4 harg4 x0 x1 x2 x3 (o := 768) (by decide) inb_S1024x2816_S1024x256_0_768 _ ?_ inb_S8x5632_S8x256_0_3584 x
    rfl
  refine List.forall_mem_cons.mpr ⟨fun x => ?_, ?_⟩
  · refine tail_lo arg1 harg1 arg2 harg2 arg3 harg3 x0 x1 x2 x3 (o := 768) (by decide) inb_S1024x2816_S1024x256_0_768 _ ?_ inb_S8x5632_S8x256_0_768 x
    rfl
  refine List.forall_mem_cons.mpr ⟨fun x => ?_, ?_⟩
  · refine tail_hi arg1 harg1 arg2 harg2 arg4 harg4 x0 x1 x2 x3 (o := 512) (by decide) inb_S1024x2816_S1024x256_0_512 _ ?_ inb_S8x5632_S8x256_0_3328 x
    rfl
  refine List.forall_mem_cons.mpr ⟨fun x => ?_, ?_⟩
  · refine tail_lo arg1 harg1 arg2 harg2 arg3 harg3 x0 x1 x2 x3 (o := 512) (by decide) inb_S1024x2816_S1024x256_0_512 _ ?_ inb_S8x5632_S8x256_0_512 x
    rfl
  refine List.forall_mem_cons.mpr ⟨fun x => ?_, ?_⟩
  · refine tail_hi arg1 harg1 arg2 harg2 arg4 harg4 x0 x1 x2 x3 (o := 256) (by decide) inb_S1024x2816_S1024x256_0_256 _ ?_ inb_S8x5632_S8x256_0_3072 x
    rfl
  refine List.forall_mem_cons.mpr ⟨fun x => ?_, ?_⟩
  · refine tail_lo arg1 harg1 arg2 harg2 arg3 harg3 x0 x1 x2 x3 (o := 256) (by decide) inb_S1024x2816_S1024x256_0_256 _ ?_ inb_S8x5632_S8x256_0_256 x
    rfl
  refine List.forall_mem_cons.mpr ⟨fun x => ?_, ?_⟩
  · refine tail_hi arg1 harg1 arg2 harg2 arg4 harg4 x0 x1 x2 x3 (o := 0) (by decide) inb_S1024x2816_S1024x256_0_0 _ ?_ inb_S8x5632_S8x256_0_2816 x
    rfl
  refine List.forall_mem_cons.mpr ⟨fun x => ?_, ?_⟩
  · refine tail_lo arg1 harg1 arg2 harg2 arg3 harg3 x0 x1 x2 x3 (o := 0) (by decide) inb_S1024x2816_S1024x256_0_0 _ ?_ inb_S8x5632_S8x256_0_0 x
    rfl
  exact fun _ h => absurd h List.not_mem_nil

/-- The last rows as they are carried. -/
theorem carry_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x5632 .f32) (harg10 : arg10.IsWhole) (arg11 : Memref sig .tc .vmem S520x256 .f32) (harg11 : arg11.IsWhole) (arg12 : Memref sig .tc .vmem S512x2816 .bf16) (harg12 : arg12.IsWhole) (arg13 : Memref sig .tc .vmem S8x5632 .f32) (harg13 : arg13.IsWhole) (hc0 : ¬cond0_0 i)
    (x0 : Vec Ideal S512x1024 .f32) (x1 : Vec Ideal S1x1024 .f32) (x2 : Vec Ideal S1024x2816 .bf16) (x3 : Vec Ideal S1024x2816 .bf16) (x4 : Vec Ideal S3x5632 .f32) (x5 : Vec Ideal S1x5632 .f32) (x6 : Vec Ideal S2816x1024 .bf16) (x7 : Vec Ideal S1x1024 .f32) (xs2 : Vec Ideal S8x5632 .f32) :
    sout0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs2 = tailA (up x0 x1 x2 x3) := by
  unfold sout0_B_2
  rw [View.read_writes_junk_eq_canon]
  refine funext fun y => View.canon_apply_of_pieces (tailA (up x0 x1 x2 x3)) _ ?_ y (scover0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs2 y)
  refine List.forall_mem_cons.mpr ⟨fun x => ?_, ?_⟩
  · refine carry_hi arg1 harg1 arg2 harg2 arg4 harg4 x0 x1 x2 x3 (o := 2560) (by decide) inb_S1024x2816_S1024x256_0_2560 _ ?_ inb_S8x5632_S8x256_0_5376 x
    rfl
  refine List.forall_mem_cons.mpr ⟨fun x => ?_, ?_⟩
  · refine carry_lo arg1 harg1 arg2 harg2 arg3 harg3 x0 x1 x2 x3 (o := 2560) (by decide) inb_S1024x2816_S1024x256_0_2560 _ ?_ inb_S8x5632_S8x256_0_2560 x
    rfl
  refine List.forall_mem_cons.mpr ⟨fun x => ?_, ?_⟩
  · refine carry_hi arg1 harg1 arg2 harg2 arg4 harg4 x0 x1 x2 x3 (o := 2304) (by decide) inb_S1024x2816_S1024x256_0_2304 _ ?_ inb_S8x5632_S8x256_0_5120 x
    rfl
  refine List.forall_mem_cons.mpr ⟨fun x => ?_, ?_⟩
  · refine carry_lo arg1 harg1 arg2 harg2 arg3 harg3 x0 x1 x2 x3 (o := 2304) (by decide) inb_S1024x2816_S1024x256_0_2304 _ ?_ inb_S8x5632_S8x256_0_2304 x
    rfl
  refine List.forall_mem_cons.mpr ⟨fun x => ?_, ?_⟩
  · refine carry_hi arg1 harg1 arg2 harg2 arg4 harg4 x0 x1 x2 x3 (o := 2048) (by decide) inb_S1024x2816_S1024x256_0_2048 _ ?_ inb_S8x5632_S8x256_0_4864 x
    rfl
  refine List.forall_mem_cons.mpr ⟨fun x => ?_, ?_⟩
  · refine carry_lo arg1 harg1 arg2 harg2 arg3 harg3 x0 x1 x2 x3 (o := 2048) (by decide) inb_S1024x2816_S1024x256_0_2048 _ ?_ inb_S8x5632_S8x256_0_2048 x
    rfl
  refine List.forall_mem_cons.mpr ⟨fun x => ?_, ?_⟩
  · refine carry_hi arg1 harg1 arg2 harg2 arg4 harg4 x0 x1 x2 x3 (o := 1792) (by decide) inb_S1024x2816_S1024x256_0_1792 _ ?_ inb_S8x5632_S8x256_0_4608 x
    rfl
  refine List.forall_mem_cons.mpr ⟨fun x => ?_, ?_⟩
  · refine carry_lo arg1 harg1 arg2 harg2 arg3 harg3 x0 x1 x2 x3 (o := 1792) (by decide) inb_S1024x2816_S1024x256_0_1792 _ ?_ inb_S8x5632_S8x256_0_1792 x
    rfl
  refine List.forall_mem_cons.mpr ⟨fun x => ?_, ?_⟩
  · refine carry_hi arg1 harg1 arg2 harg2 arg4 harg4 x0 x1 x2 x3 (o := 1536) (by decide) inb_S1024x2816_S1024x256_0_1536 _ ?_ inb_S8x5632_S8x256_0_4352 x
    rfl
  refine List.forall_mem_cons.mpr ⟨fun x => ?_, ?_⟩
  · refine carry_lo arg1 harg1 arg2 harg2 arg3 harg3 x0 x1 x2 x3 (o := 1536) (by decide) inb_S1024x2816_S1024x256_0_1536 _ ?_ inb_S8x5632_S8x256_0_1536 x
    rfl
  refine List.forall_mem_cons.mpr ⟨fun x => ?_, ?_⟩
  · refine carry_hi arg1 harg1 arg2 harg2 arg4 harg4 x0 x1 x2 x3 (o := 1280) (by decide) inb_S1024x2816_S1024x256_0_1280 _ ?_ inb_S8x5632_S8x256_0_4096 x
    rfl
  refine List.forall_mem_cons.mpr ⟨fun x => ?_, ?_⟩
  · refine carry_lo arg1 harg1 arg2 harg2 arg3 harg3 x0 x1 x2 x3 (o := 1280) (by decide) inb_S1024x2816_S1024x256_0_1280 _ ?_ inb_S8x5632_S8x256_0_1280 x
    rfl
  refine List.forall_mem_cons.mpr ⟨fun x => ?_, ?_⟩
  · refine carry_hi arg1 harg1 arg2 harg2 arg4 harg4 x0 x1 x2 x3 (o := 1024) (by decide) inb_S1024x2816_S1024x256_0_1024 _ ?_ inb_S8x5632_S8x256_0_3840 x
    rfl
  refine List.forall_mem_cons.mpr ⟨fun x => ?_, ?_⟩
  · refine carry_lo arg1 harg1 arg2 harg2 arg3 harg3 x0 x1 x2 x3 (o := 1024) (by decide) inb_S1024x2816_S1024x256_0_1024 _ ?_ inb_S8x5632_S8x256_0_1024 x
    rfl
  refine List.forall_mem_cons.mpr ⟨fun x => ?_, ?_⟩
  · refine carry_hi arg1 harg1 arg2 harg2 arg4 harg4 x0 x1 x2 x3 (o := 768) (by decide) inb_S1024x2816_S1024x256_0_768 _ ?_ inb_S8x5632_S8x256_0_3584 x
    rfl
  refine List.forall_mem_cons.mpr ⟨fun x => ?_, ?_⟩
  · refine carry_lo arg1 harg1 arg2 harg2 arg3 harg3 x0 x1 x2 x3 (o := 768) (by decide) inb_S1024x2816_S1024x256_0_768 _ ?_ inb_S8x5632_S8x256_0_768 x
    rfl
  refine List.forall_mem_cons.mpr ⟨fun x => ?_, ?_⟩
  · refine carry_hi arg1 harg1 arg2 harg2 arg4 harg4 x0 x1 x2 x3 (o := 512) (by decide) inb_S1024x2816_S1024x256_0_512 _ ?_ inb_S8x5632_S8x256_0_3328 x
    rfl
  refine List.forall_mem_cons.mpr ⟨fun x => ?_, ?_⟩
  · refine carry_lo arg1 harg1 arg2 harg2 arg3 harg3 x0 x1 x2 x3 (o := 512) (by decide) inb_S1024x2816_S1024x256_0_512 _ ?_ inb_S8x5632_S8x256_0_512 x
    rfl
  refine List.forall_mem_cons.mpr ⟨fun x => ?_, ?_⟩
  · refine carry_hi arg1 harg1 arg2 harg2 arg4 harg4 x0 x1 x2 x3 (o := 256) (by decide) inb_S1024x2816_S1024x256_0_256 _ ?_ inb_S8x5632_S8x256_0_3072 x
    rfl
  refine List.forall_mem_cons.mpr ⟨fun x => ?_, ?_⟩
  · refine carry_lo arg1 harg1 arg2 harg2 arg3 harg3 x0 x1 x2 x3 (o := 256) (by decide) inb_S1024x2816_S1024x256_0_256 _ ?_ inb_S8x5632_S8x256_0_256 x
    rfl
  refine List.forall_mem_cons.mpr ⟨fun x => ?_, ?_⟩
  · refine carry_hi arg1 harg1 arg2 harg2 arg4 harg4 x0 x1 x2 x3 (o := 0) (by decide) inb_S1024x2816_S1024x256_0_0 _ ?_ inb_S8x5632_S8x256_0_2816 x
    rfl
  refine List.forall_mem_cons.mpr ⟨fun x => ?_, ?_⟩
  · refine carry_lo arg1 harg1 arg2 harg2 arg3 harg3 x0 x1 x2 x3 (o := 0) (by decide) inb_S1024x2816_S1024x256_0_0 _ ?_ inb_S8x5632_S8x256_0_0 x
    rfl
  exact fun _ h => absurd h List.not_mem_nil

end Cert.Proof.FfnTile

end
-- ==== Proof.FfnKernel.lean ====
/- The feed-forward kernel's result arrays as functions of its arguments: what each grid point leaves is the tile of the
   specification (FfnSpec.lean), the carried rows being the last rows of the tile before, and the tiles cover each array. -/
module

public import proofs.«01_k».proof.Proof.FfnHost
public import proofs.«01_k».proof.Proof.FfnActA
public import proofs.«01_k».proof.Proof.FfnActB
public import proofs.«01_k».proof.Proof.FfnTailA
public import proofs.«01_k».proof.Proof.FfnTailB

@[expose] public section

set_option maxRecDepth 16384

noncomputable section

namespace Cert.Proof.FfnKernel

open Cert.FfnIdeal Cert.FfnIdeal.Gen Cert.Proof.FfnChunk Cert.Proof.FfnHost Idealize.ShloMosaic Idealize.ShloMosaic.TcCoe Idealize.SL.Sem

/-- The first tile of a sequence carries nothing in. -/
theorem firstA : ∀ t : Fin cfg0.N, t.val % 32 = 0 → kernelRun0_A.sl.v26 (grid0.coords t) = 1#1 :=
  (by decide +kernel : ∀ t : Fin grid0.N, t.val % 32 = 0 → kernelRun0_A.sl.v26 (grid0.coords t) = 1#1)

theorem firstB : ∀ t : Fin cfg0.N, kernelRun0_B.sl.v26 (grid0.coords t) = if t.val % 8 = 0 then 1#1 else 0#1 :=
  (by decide +kernel : ∀ t : Fin grid0.N, kernelRun0_B.sl.v26 (grid0.coords t) = if t.val % 8 = 0 then 1#1 else 0#1)

theorem lt_rows (t : Fin cfg0.N) (r : Fin 512) : 512 * t.val + r.val < 16384 := by
  have : t.val < 32 := t.isLt
  omega

variable (m : (ℓ : Loc nD τ sig) → Buf (Elt Ideal) ℓ)

/-- The whole up-projection. -/
def upG (c : Dev nD) : Fin 16384 → Fin 5632 → EReal :=
  FfnSpec.up (m ((c : Thread nD τ).loc main_arg0)) (m ((c : Thread nD τ).loc main_arg1)) (m ((c : Thread nD τ).loc main_arg2))

/-- A tile's up-projection is its part of the whole. -/
theorem up_tile (c : Dev nD) (t : Fin cfg0.N) (r : Fin 512) (col : Fin 5632) :
    up (iblk m c 0 t) (iblk m c 1 t) (iblk m c 2 t) (iblk m c 3 t) r col = upG m c ⟨512 * t.val + r.val, lt_rows t r⟩ col := by
  unfold up upG FfnSpec.up
  refine congr (congrArg₂ Row.proj (funext fun k => blk_x m c t r k) (funext fun k => blk_g m c t k)) (funext fun l => ?_)
  by_cases h : col.val < 2816
  · rw [dif_pos h]
    exact blk_wl m c t l _
  · rw [dif_neg h]
    refine (blk_wh m c t l _).trans (congrArg (fun k => m ((c : Thread nD τ).loc main_arg2) (ix2 l k)) (Fin.ext ?_))
    show 2816 + (col.val - 2816) = col.val
    omega

/-- What a point carries to the next. -/
theorem carried (c : Dev nD) (t : Fin cfg0.N) :
    (outsAt0 m c t.val t.isLt).2.2 = tailA (up (iblk m c 0 t) (iblk m c 1 t) (iblk m c 2 t) (iblk m c 3 t)) := by
  by_cases h : t.val % 32 = 0
  · rw [outsAt0_A m c t h]
    dsimp only
    rw [FfnTile.carry_A]
  · rw [outsAt0_B m c t h]
    dsimp only
    rw [FfnTile.carry_B]

/-- What a point stores of its last rows. -/
theorem stored (c : Dev nD) (t : Fin cfg0.N) :
    (outsAt0 m c t.val t.isLt).2.1 = tailA (up (iblk m c 0 t) (iblk m c 1 t) (iblk m c 2 t) (iblk m c 3 t)) := by
  by_cases h : t.val % 32 = 0
  · rw [outsAt0_A m c t h]
    dsimp only
    rw [FfnTile.out_A_9]
  · rw [outsAt0_B m c t h]
    dsimp only
    rw [FfnTile.out_B_9]

/-- The eight rows before a tile, zero before a sequence. -/
def halo (c : Dev nD) (t : Fin cfg0.N) (i : Fin 8) (col : Fin 5632) : EReal :=
  if t.val % 8 = 0 then 0 else upG m c ⟨512 * (t.val - 1) + 504 + i.val, by have : t.val < 32 := t.isLt; omega⟩ col

/-- The rows before a row, seen from its tile. -/
theorem ext_tile (c : Dev nD) (t : Fin cfg0.N) (o k : ℕ) (ho : o ≤ 8) (hk : o + k = 8) (r : Fin 512) (col : Fin 5632) :
    ext o ho (halo m c t) (up (iblk m c 0 t) (iblk m c 1 t) (iblk m c 2 t) (iblk m c 3 t)) r col
      = FfnSpec.before k (upG m c) ⟨512 * t.val + r.val, lt_rows t r⟩ col := by
  have ht : t.val < 32 := t.isLt
  have hr := r.isLt
  unfold ext FfnSpec.before
  by_cases h : o + r.val < 8
  · rw [dif_pos h]
    unfold halo
    by_cases h8 : t.val % 8 = 0
    · rw [if_pos h8, if_pos (show (512 * t.val + r.val) % 4096 < k by omega)]
    · rw [if_neg h8, if_neg (show ¬ (512 * t.val + r.val) % 4096 < k by omega)]
      refine congrArg (fun q => upG m c q col) (Fin.ext ?_)
      show 512 * (t.val - 1) + 504 + (o + r.val) = 512 * t.val + r.val - k
      omega
  · rw [dif_neg h, if_neg (show ¬ (512 * t.val + r.val) % 4096 < k by omega), up_tile]
    refine congrArg (fun q => upG m c q col) (Fin.ext ?_)
    show 512 * t.val + (o + r.val - 8) = 512 * t.val + r.val - k
    omega

/-- A tile's filtered up-projection is its part of the whole. -/
theorem conv_tile (c : Dev nD) (t : Fin cfg0.N) (r : Fin 512) (col : Fin 5632) :
    conv (halo m c t) (up (iblk m c 0 t) (iblk m c 1 t) (iblk m c 2 t) (iblk m c 3 t)) (iblk m c 4 t) (iblk m c 5 t) r col
      = FfnSpec.conv (upG m c) (m ((c : Thread nD τ).loc main_arg3)) (m ((c : Thread nD τ).loc main_arg4)) ⟨512 * t.val + r.val, lt_rows t r⟩ col := by
  unfold conv FfnSpec.conv
  rw [ext_tile m c t 6 2 (by decide) (by decide), ext_tile m c t 7 1 (by decide) (by decide), up_tile, blk_cw, blk_cw, blk_cw, blk_cb]

/-- The rows a point finds before its tile. -/
theorem seen (c : Dev nD) (t : Fin cfg0.N) (i : Fin 8) (col : Fin 5632) :
    (if kernelRun0_B.sl.v26 (grid0.coords t) = 1#1 then (0 : EReal)
      else (outsAt0 m c (t.val - 1) (Nat.lt_of_le_of_lt (Nat.sub_le _ _) t.isLt)).2.2 (ix2 i col)) = halo m c t i col := by
  have ht : t.val < 32 := t.isLt
  rw [firstB t]
  unfold halo
  by_cases h8 : t.val % 8 = 0
  · rw [if_pos h8, if_pos h8, if_pos rfl]
  · rw [if_neg h8, if_neg h8, if_neg (by decide)]
    refine (congrFun (carried m c ⟨t.val - 1, Nat.lt_of_le_of_lt (Nat.sub_le _ _) t.isLt⟩) (ix2 i col)).trans ?_
    refine (up_tile m c ⟨t.val - 1, Nat.lt_of_le_of_lt (Nat.sub_le _ _) t.isLt⟩ _ _).trans ?_
    refine congrArg (fun q => upG m c q col) (Fin.ext ?_)
    show 512 * (t.val - 1) + (504 + i.val) = 512 * (t.val - 1) + 504 + i.val
    omega

/-- What a point stores of the residual stream. -/
theorem tile (c : Dev nD) (t : Fin cfg0.N) (r : Fin 512) (j : Fin 1024) :
    (outsAt0 m c t.val t.isLt).1 (ix2 r j)
      = FfnSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨512 * t.val + r.val, lt_rows t r⟩ j := by
  have key : ∀ v : EReal, v = Row.down (fun k => iblk m c 0 t (ix2 r k))
      (act (halo m c t) (up (iblk m c 0 t) (iblk m c 1 t) (iblk m c 2 t) (iblk m c 3 t)) (iblk m c 4 t) (iblk m c 5 t) r)
      (fun l k => iblk m c 6 t (ix2 l k)) (fun k => iblk m c 7 t (ix2 0 k)) j →
      v = FfnSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) ⟨512 * t.val + r.val, lt_rows t r⟩ j := by
    intro v hv
    refine hv.trans ?_
    unfold FfnSpec.out
    refine FfnTile.down_congr (fun k => blk_x m c t r k) (fun l => ?_) (fun l k => blk_wd m c t l k) (fun k => blk_gp m c t k) j
    exact congrArg₂ Row.geglu (conv_tile m c t r _) (conv_tile m c t r _)
  refine key _ ?_
  by_cases h : t.val % 32 = 0
  · have key := FfnTile.out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h)
      (iblk m c 0 t) (iblk m c 1 t) (iblk m c 2 t) (iblk m c 3 t) (iblk m c 4 t) (iblk m c 5 t) (iblk m c 6 t) (iblk m c 7 t)
      (halo m c t) (firstA t h) (fun i col => (if_pos (show t.val % 8 = 0 by omega)).symm) r j
    rw [outsAt0_A m c t h]
    dsimp only
    exact key
  · have key := FfnTile.out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun k => h ((hcond0_0 t).mp k))
      (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2
      (halo m c t) (seen m c t) r j
    rw [outsAt0_B m c t h]
    dsimp only
    exact key

/-- An array whose rows are what the points store is those rows. -/
theorem rows_out (c : Dev nD) (G : Fin 16384 → Fin 1024 → EReal)
    (hG : ∀ (t : Fin cfg0.N) (r : Fin 512) (j : Fin 1024), (outsAt0 m c t.val t.isLt).1 (ix2 r j) = G ⟨512 * t.val + r.val, lt_rows t r⟩ j) :
    (dats m 0 c).arrAt 8 cfg0.N = fun i : S16384x1024.Idx => G (i 0) (i 1) := by
  refine (dats m 0 c).arrAt_eq_of_covers 8 _ (by decide +kernel) fun t _ y => ?_
  blk_simp
  rw [after0_8]
  refine Eq.trans (congrArg _ (show y = ix2 (y 0) (y 1) from by idx_ext)) ?_
  refine (hG t (y 0) (y 1)).trans ?_
  obtain ⟨e0, e1, e2⟩ := Cert.FfnIdeal.Value.idx_facts8 t
  have h0 : (y 0).val < 512 := (y 0).isLt
  have h1 : (y 1).val < 1024 := (y 1).isLt
  refine congrArg₂ G (Fin.ext ?_) (Fin.ext ?_)
  · show 512 * t.val + (y 0).val = win0_8.index t (0 : Fin 2) * 512 + 1 * (y 0).val
    omega
  · blk_point [idx t]

/-- The residual stream after the run. -/
theorem final_out (c : Dev nD) : (dats m 0 c).arrAt 8 cfg0.N = fun i : S16384x1024.Idx =>
    FfnSpec.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) :=
  rows_out m c (FfnSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))) (tile m c)

/-- The last rows after the run. -/
theorem final_tail (c : Dev nD) : (dats m 0 c).arrAt 9 cfg0.N = fun i : S256x5632.Idx =>
    FfnSpec.tail (m ((c : Thread nD τ).loc main_arg0)) (m ((c : Thread nD τ).loc main_arg1)) (m ((c : Thread nD τ).loc main_arg2)) (i 0) (i 1) := by
  refine (dats m 0 c).arrAt_eq_of_covers 9 _ (by decide +kernel) fun t _ y => ?_
  blk_simp
  rw [after0_9, stored]
  refine Eq.trans (congrArg _ (show y = ix2 (y 0) (y 1) from by idx_ext)) ?_
  refine (up_tile m c t _ _).trans ?_
  unfold upG FfnSpec.tail
  have hy : (y 0).val < 8 := (y 0).isLt
  blk_point [idx t]
  refine Fin.ext ?_
  show 512 * t.val + (504 + (y 0).val) = 512 * ((t.val * 8 + (y 0).val) / 8) + 504 + (t.val * 8 + (y 0).val) % 8
  omega

end Cert.Proof.FfnKernel

end
-- ==== Proof.FfnReference.lean ====
/- The feed-forward part's reference, read at an index: the specification (FfnSpec.lean) of its arguments. -/
module

public import proofs.«01_k».proof.Proof.Gen.FfnRefIdeal.Run
public import proofs.«01_k».proof.Proof.FfnSpec
public import Idealize.ShloMosaic.Lib.Pipeline.ValueKit

@[expose] public section

set_option maxRecDepth 16384

noncomputable section

namespace Cert.Proof.FfnReference

open Cert.FfnRefIdeal Cert.FfnRefIdeal.Gen Idealize.ShloMosaic Idealize.ShloMosaic.TcCoe Idealize.SL.Sem

/-- The up-projection. -/
def D (x : FVec Ideal S16384x1024 .f32) (g : FVec Ideal S1024 .f32) (w : FVec Ideal S1024x5632 .f32) : FVec Ideal S16384x5632 .f32 :=
  Host.dotGeneral (F := Ideal) (φ₁ := .f32) (φ₂ := .f32) dot_S16384x1024_S1024x5632_S16384x5632_1_0_0_1_n_n none (mulf (mulf x (broadcastInDim S16384x1024 ![0, 1] Gen.bcast_S16384x1_S16384x1024_0_1 (Host.rsqrt (addf (Host.divf (broadcastInDim S16384x1 ![0] Gen.bcast_S16384_S16384x1_0 (Host.reduceAdd (mulf x x) (constant S_ .f32 0x00000000#32) Gen.reducesTo_S16384x1024_S16384_d1 Gen.h_S_)) (broadcastInDim S16384x1 ![] Gen.bcast_S_S16384x1 (constant S_ .f32 0x44800000#32))) (broadcastInDim S16384x1 ![] Gen.bcast_S_S16384x1 (constant S_ .f32 0x358637BD#32)))))) (broadcastInDim S16384x1024 ![0, 1] Gen.bcast_S1x1024_S16384x1024_0_1 (broadcastInDim S1x1024 ![1] Gen.bcast_S1024_S1x1024_1 g))) w

theorem D_at (x : FVec Ideal S16384x1024 .f32) (g : FVec Ideal S1024 .f32) (w : FVec Ideal S1024x5632 .f32) (r : Fin 16384) (j : Fin 5632) :
    D x g w (ix2 r j) = FfnSpec.up x g w r j := by
  unfold D
  pointwise [FfnSpec.up, Row.proj, Row.norm]
  try blk_point []

/-- The up-projection, a sequence at a time. -/
def U3 (d : FVec Ideal S16384x5632 .f32) : FVec Ideal S4x4096x5632 .f32 := shapeCast _ d Gen.shapeCasts_S16384x5632_S4x4096x5632

theorem U3_at (d : FVec Ideal S16384x5632 .f32) (b : Fin 4) (s : Fin 4096) (j : Fin 5632) :
    U3 d (ix3 b s j) = d (ix2 ⟨4096 * b.val + s.val, by omega⟩ j) := by
  unfold U3
  pointwise []
  try blk_point []

/-- Two zero rows before each sequence. -/
def E (u : FVec Ideal S4x4096x5632 .f32) : FVec Ideal S4x4098x5632 .f32 :=
  concatenate S4x4098x5632 1 [⟨S4x2x5632, (broadcastInDim S4x2x5632 ![] Gen.bcast_S_S4x2x5632 (constant (F := Ideal) S_ .f32 0x00000000#32) : FVec Ideal S4x2x5632 .f32)⟩, ⟨S4x4096x5632, u⟩]
    Gen.concatenates_S4x2x5632_S4x4096x5632_S4x4098x5632_d1

theorem E_at (u : FVec Ideal S4x4096x5632 .f32) (b : Fin 4) (s : Fin 4098) (j : Fin 5632) :
    E u (ix3 b s j) = if h : s.val < 2 then (0 : EReal) else u (ix3 b ⟨s.val - 2, by omega⟩ j) := by
  unfold E
  pointwise []
  try blk_point []

/-- The filter. -/
def C (e : FVec Ideal S4x4098x5632 .f32) (cw : FVec Ideal S3x5632 .f32) (cb : FVec Ideal S5632 .f32) : FVec Ideal S4x4096x5632 .f32 :=
  addf (addf (addf (addf (broadcastInDim S4x4096x5632 ![] Gen.bcast_S_S4x4096x5632 (constant S_ .f32 0x00000000#32))
    (mulf (broadcastInDim S4x4096x5632 ![0, 1, 2] Gen.bcast_S1x1x5632_S4x4096x5632_0_1_2 (broadcastInDim S1x1x5632 ![2] Gen.bcast_S5632_S1x1x5632_2 (shapeCast S5632 (extractStridedSlice S1x5632 ![0, 0] cw Gen.slices_S3x5632_S1x5632_0_0) Gen.shapeCasts_S1x5632_S5632)))
      (extractStridedSlice S4x4096x5632 ![0, 0, 0] e Gen.slices_S4x4098x5632_S4x4096x5632_0_0_0)))
    (mulf (broadcastInDim S4x4096x5632 ![0, 1, 2] Gen.bcast_S1x1x5632_S4x4096x5632_0_1_2 (broadcastInDim S1x1x5632 ![2] Gen.bcast_S5632_S1x1x5632_2 (shapeCast S5632 (extractStridedSlice S1x5632 ![1, 0] cw Gen.slices_S3x5632_S1x5632_1_0) Gen.shapeCasts_S1x5632_S5632)))
      (extractStridedSlice S4x4096x5632 ![0, 1, 0] e Gen.slices_S4x4098x5632_S4x4096x5632_0_1_0)))
    (mulf (broadcastInDim S4x4096x5632 ![0, 1, 2] Gen.bcast_S1x1x5632_S4x4096x5632_0_1_2 (broadcastInDim S1x1x5632 ![2] Gen.bcast_S5632_S1x1x5632_2 (shapeCast S5632 (extractStridedSlice S1x5632 ![2, 0] cw Gen.slices_S3x5632_S1x5632_2_0) Gen.shapeCasts_S1x5632_S5632)))
      (extractStridedSlice S4x4096x5632 ![0, 2, 0] e Gen.slices_S4x4098x5632_S4x4096x5632_0_2_0)))
    (broadcastInDim S4x4096x5632 ![0, 1, 2] Gen.bcast_S1x1x5632_S4x4096x5632_0_1_2 (broadcastInDim S1x1x5632 ![2] Gen.bcast_S5632_S1x1x5632_2 cb))

theorem C_at (e : FVec Ideal S4x4098x5632 .f32) (cw : FVec Ideal S3x5632 .f32) (cb : FVec Ideal S5632 .f32) (b : Fin 4) (s : Fin 4096) (j : Fin 5632) :
    C e cw cb (ix3 b s j) = Row.mix (cw (ix2 0 j)) (cw (ix2 1 j)) (cw (ix2 2 j)) (cb (ix1 j)) (e (ix3 b ⟨s.val, by omega⟩ j))
      (e (ix3 b ⟨1 + s.val, by omega⟩ j)) (e (ix3 b ⟨2 + s.val, by omega⟩ j)) := by
  unfold C
  pointwise [Row.mix, zero_add]
  try blk_point []

/-- The filtered rows, all sequences at once. -/
def H (v : FVec Ideal S4x4096x5632 .f32) : FVec Ideal S16384x5632 .f32 := shapeCast _ v Gen.shapeCasts_S4x4096x5632_S16384x5632

theorem H_at (v : FVec Ideal S4x4096x5632 .f32) (r : Fin 16384) (j : Fin 5632) :
    H v (ix2 r j) = v (ix3 ⟨r.val / 4096, by omega⟩ ⟨r.val % 4096, by omega⟩ j) := by
  unfold H
  pointwise []
  try blk_point []

/-- The activations. -/
def A (h : FVec Ideal S16384x5632 .f32) : FVec Ideal S16384x2816 .f32 :=
  mulf (mulf (extractStridedSlice S16384x2816 ![0, 0] h Gen.slices_S16384x5632_S16384x2816_0_0)
    (mulf (broadcastInDim S16384x2816 ![] Gen.bcast_S_S16384x2816 (constant S_ .f32 0x3F000000#32))
      (addf (broadcastInDim S16384x2816 ![] Gen.bcast_S_S16384x2816 (constant S_ .f32 0x3F800000#32))
        (Host.tanh (mulf (broadcastInDim S16384x2816 ![] Gen.bcast_S_S16384x2816 (constant S_ .f32 0x3F4C422A#32))
          (addf (extractStridedSlice S16384x2816 ![0, 0] h Gen.slices_S16384x5632_S16384x2816_0_0)
            (mulf (broadcastInDim S16384x2816 ![] Gen.bcast_S_S16384x2816 (constant S_ .f32 0x3D372713#32))
              (mulf (mulf (extractStridedSlice S16384x2816 ![0, 0] h Gen.slices_S16384x5632_S16384x2816_0_0) (extractStridedSlice S16384x2816 ![0, 0] h Gen.slices_S16384x5632_S16384x2816_0_0))
                (extractStridedSlice S16384x2816 ![0, 0] h Gen.slices_S16384x5632_S16384x2816_0_0)))))))))
    (extractStridedSlice S16384x2816 ![0, 2816] h Gen.slices_S16384x5632_S16384x2816_0_2816)

theorem A_at (h : FVec Ideal S16384x5632 .f32) (r : Fin 16384) (l : Fin 2816) :
    A h (ix2 r l) = Row.geglu (h (ix2 r ⟨l.val, by omega⟩)) (h (ix2 r ⟨2816 + l.val, by omega⟩)) := by
  unfold A
  pointwise [Row.geglu]
  try blk_point []

/-- The down-projection. -/
def Dn (a : FVec Ideal S16384x2816 .f32) (wd : FVec Ideal S2816x1024 .f32) : FVec Ideal S16384x1024 .f32 :=
  Host.dotGeneral (F := Ideal) (φ₁ := .f32) (φ₂ := .f32) dot_S16384x2816_S2816x1024_S16384x1024_1_0_0_1_n_n none a wd

theorem Dn_at (a : FVec Ideal S16384x2816 .f32) (wd : FVec Ideal S2816x1024 .f32) (r : Fin 16384) (j : Fin 1024) :
    Dn a wd (ix2 r j) = Finset.sum (M := EReal) Finset.univ fun l => @HMul.hMul EReal EReal EReal _ (a (ix2 r l)) (wd (ix2 l j)) := by
  unfold Dn
  pointwise []
  try blk_point []

/-- The residual step. -/
def R (x f : FVec Ideal S16384x1024 .f32) (gp : FVec Ideal S1024 .f32) : FVec Ideal S16384x1024 .f32 :=
  addf x (mulf (mulf f (broadcastInDim S16384x1024 ![0, 1] Gen.bcast_S16384x1_S16384x1024_0_1 (Host.rsqrt (addf (Host.divf (broadcastInDim S16384x1 ![0] Gen.bcast_S16384_S16384x1_0 (Host.reduceAdd (mulf f f) (constant S_ .f32 0x00000000#32) Gen.reducesTo_S16384x1024_S16384_d1 Gen.h_S_)) (broadcastInDim S16384x1 ![] Gen.bcast_S_S16384x1 (constant S_ .f32 0x44800000#32))) (broadcastInDim S16384x1 ![] Gen.bcast_S_S16384x1 (constant S_ .f32 0x358637BD#32)))))) (broadcastInDim S16384x1024 ![0, 1] Gen.bcast_S1x1024_S16384x1024_0_1 (broadcastInDim S1x1024 ![1] Gen.bcast_S1024_S1x1024_1 gp)))

theorem R_at (x f : FVec Ideal S16384x1024 .f32) (gp : FVec Ideal S1024 .f32) (r : Fin 16384) (j : Fin 1024) :
    R x f gp (ix2 r j) = @HAdd.hAdd EReal EReal EReal _ (x (ix2 r j)) (Row.norm (fun k => f (ix2 r k)) (fun k => gp (ix1 k)) j) := by
  unfold R
  pointwise [Row.norm]
  try blk_point []

/-- The rows before a row, as the reference pads them. -/
theorem before_at (U : Fin 16384 → Fin 5632 → EReal) (d : FVec Ideal S16384x5632 .f32) (hd : ∀ r j, d (ix2 r j) = U r j) (k : ℕ) (hk : k ≤ 2)
    (r : Fin 16384) (s : Fin 4098) (hs : s.val = 2 - k + r.val % 4096) (j : Fin 5632) :
    E (U3 d) (ix3 ⟨r.val / 4096, by omega⟩ s j) = FfnSpec.before k U r j := by
  rw [E_at]
  unfold FfnSpec.before
  by_cases h : r.val % 4096 < k
  · rw [if_pos h, dif_pos (show s.val < 2 by omega)]
  · rw [if_neg h, dif_neg (show ¬ s.val < 2 by omega), U3_at, hd]
    refine congrArg (fun q => U q j) (Fin.ext ?_)
    show 4096 * (r.val / 4096) + (s.val - 2) = r.val - k
    omega

/-- The filtered up-projection, at an index. -/
theorem H_C_at (U : Fin 16384 → Fin 5632 → EReal) (d : FVec Ideal S16384x5632 .f32) (hd : ∀ r j, d (ix2 r j) = U r j)
    (cw : FVec Ideal S3x5632 .f32) (cb : FVec Ideal S5632 .f32) (r : Fin 16384) (j : Fin 5632) :
    H (C (E (U3 d)) cw cb) (ix2 r j) = FfnSpec.conv U cw cb r j := by
  rw [H_at, C_at, before_at U d hd 2 (by omega) r _ (by show r.val % 4096 = _; omega), before_at U d hd 1 (by omega) r _ (by show 1 + r.val % 4096 = _; omega),
    before_at U d hd 0 (by omega) r _ (by show 2 + r.val % 4096 = _; omega)]
  rfl

/-- The reference's first result, at an index. -/
theorem out_at (x : FVec Ideal S16384x1024 .f32) (g : FVec Ideal S1024 .f32) (w : FVec Ideal S1024x5632 .f32) (cw : FVec Ideal S3x5632 .f32)
    (cb : FVec Ideal S5632 .f32) (wd : FVec Ideal S2816x1024 .f32) (gp : FVec Ideal S1024 .f32) (r : Fin 16384) (j : Fin 1024) :
    R x (Dn (A (H (C (E (U3 (D x g w))) cw cb))) wd) gp (ix2 r j) = FfnSpec.out x g w cw cb wd gp r j := by
  refine (R_at _ _ _ r j).trans ?_
  unfold FfnSpec.out Row.down
  refine congrArg (fun f : Fin 1024 → EReal => (x (ix2 r j) : EReal) + Row.norm f (fun k => gp (ix1 k)) j) (funext fun k => ?_)
  refine (Dn_at _ _ r k).trans (Finset.sum_congr (M := EReal) rfl fun l _ => ?_)
  refine congrArg (fun a : EReal => a * (wd (ix2 l k) : EReal)) ?_
  refine (A_at _ r l).trans (congrArg₂ Row.geglu ?_ ?_)
  · exact H_C_at _ _ (D_at x g w) cw cb r _
  · exact H_C_at _ _ (D_at x g w) cw cb r _

/-- The reference's second result. -/
def T (d : FVec Ideal S16384x5632 .f32) : FVec Ideal S256x5632 .f32 :=
  shapeCast S256x5632 (extractStridedSlice S4x8x8x5632 ![0, 0, 504, 0] (shapeCast S4x8x512x5632 (U3 d) Gen.shapeCasts_S4x4096x5632_S4x8x512x5632) Gen.slices_S4x8x512x5632_S4x8x8x5632_0_0_504_0) Gen.shapeCasts_S4x8x8x5632_S256x5632

theorem T_at (d : FVec Ideal S16384x5632 .f32) (i : Fin 256) (j : Fin 5632) :
    T d (ix2 i j) = d (ix2 ⟨512 * (i.val / 8) + 504 + i.val % 8, by omega⟩ j) := by
  unfold T U3
  pointwise []
  try blk_point []

theorem tail_at (x : FVec Ideal S16384x1024 .f32) (g : FVec Ideal S1024 .f32) (w : FVec Ideal S1024x5632 .f32) (i : Fin 256) (j : Fin 5632) :
    T (D x g w) (ix2 i j) = FfnSpec.tail x g w i j := (T_at _ i j).trans (D_at x g w _ j)

end Cert.Proof.FfnReference

end
-- ==== Proof.FfnClaims.lean ====
/- The claims about the feed-forward part. -/
module

public import proofs.«01_k».proof.Defs
public import proofs.«01_k».proof.Proof.Gen.FfnIdeal.Value
public import proofs.«01_k».proof.Proof.Gen.FfnRefIdeal.Run
public import proofs.«01_k».proof.Proof.FfnKernel
public import proofs.«01_k».proof.Proof.FfnReference

@[expose] public section

set_option maxRecDepth 16384

noncomputable section

namespace Cert.Proof.FfnClaims

open Idealize.ShloMosaic Idealize.ShloMosaic.TcCoe Idealize.SL.Sem

instance : Cert.FfnIdeal.Facts := Cert.FfnIdeal.Gen.facts
instance : Cert.FfnRefIdeal.Facts := Cert.FfnRefIdeal.Gen.facts

/-- The reference runs and leaves its arguments. -/
theorem frame_ref : Cert.quiescent_FfnRefIdeal := fun m ρ _ =>
  (θ_run Cert.FfnRefIdeal.defs _ _).mono
    (fun r h => ⟨fun c => (h c).2.2, Idealize.ShloMosaic.sem_eq_zero_of_no_sems (by decide) r.2⟩)
    (Cert.FfnRefIdeal.Value.run (F := Ideal) m ρ)

theorem congr_three {α β γ δ : Sort _} (f : α → β → γ → δ) {a a' : α} {b b' : β} {c c' : γ} (ha : a = a') (hb : b = b')
    (hc : c = c') : f a b c = f a' b' c' := by
  rw [ha, hb, hc]

theorem congr_seven {α β γ δ ε ζ η θ : Sort _} (f : α → β → γ → δ → ε → ζ → η → θ) {a a' : α} {b b' : β} {c c' : γ} {d d' : δ}
    {e e' : ε} {g g' : ζ} {h h' : η} (ha : a = a') (hb : b = b') (hc : c = c') (hd : d = d') (he : e = e') (hg : g = g')
    (hh : h = h') : f a b c d e g h = f a' b' c' d' e' g' h' := by
  rw [ha, hb, hc, hd, he, hg, hh]

/-- The idealised kernel and the reference end with the same results. -/
theorem algebraic : Cert.algebraic_FfnIdeal_FfnRefIdeal := by
  intro m ρ m' ρ' _ hagree
  refine ⟨fun c (i : Cert.FfnIdeal.S16384x1024.Idx) => FfnSpec.out (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (i 0) (i 1),
    fun c (i : Cert.FfnIdeal.S256x5632.Idx) => FfnSpec.tail (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (i 0) (i 1), ?_, ?_⟩
  · refine (θ_run Cert.FfnIdeal.defs _ _).mono (fun r h c => ?_) (Cert.FfnIdeal.Value.run_blocks (F := Ideal) m ρ)
    obtain ⟨h0, h1, hargs⟩ := h c
    exact ⟨h0.trans (FfnKernel.final_out m c), h1.trans (FfnKernel.final_tail m c), hargs⟩
  · refine (θ_run Cert.FfnRefIdeal.defs _ _).mono (fun r h c => ?_) (Cert.FfnRefIdeal.Value.run (F := Ideal) m' ρ')
    obtain ⟨h0, h1, hargs⟩ := h c
    obtain ⟨a0, a1, a2, a3, a4, a5, a6⟩ := hagree c
    refine ⟨?_, ?_, hargs⟩
    · refine h0.trans (funext fun i => ?_)
      refine Eq.trans ?_ (congr_seven (fun x g w cw cb wd gp => FfnSpec.out x g w cw cb wd gp (i 0) (i 1)) a0 a1 a2 a3 a4 a5 a6)
      refine (congrArg _ (show i = ix2 (i 0) (i 1) from by idx_ext)).trans ?_
      exact FfnReference.out_at _ _ _ _ _ _ _ (i 0) (i 1)
    · refine h1.trans (funext fun i => ?_)
      refine Eq.trans ?_ (congr_three (fun x g w => FfnSpec.tail x g w (i 0) (i 1)) a0 a1 a2)
      refine (congrArg _ (show i = ix2 (i 0) (i 1) from by idx_ext)).trans ?_
      exact FfnReference.tail_at _ _ _ (i 0) (i 1)

end Cert.Proof.FfnClaims

end
-- ==== Proof.lean ====
module

public import proofs.«01_k».proof.Defs
public import proofs.«01_k».proof.Proof.Gen.Kernel.Frame
public import proofs.«01_k».proof.Proof.Gen.KernelIdeal.Value
public import proofs.«01_k».proof.Proof.Gen.RefIdeal.Run
public import proofs.«01_k».proof.Proof.Gen.Merge.Frame
public import proofs.«01_k».proof.Proof.Gen.InProj.Frame
public import proofs.«01_k».proof.Proof.Gen.InProjIdeal.Value
public import proofs.«01_k».proof.Proof.Gen.InProjRefIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.AttnClaims
public import proofs.«01_k».proof.Proof.MergeClaims
public import proofs.«01_k».proof.Proof.InProjClaims
public import proofs.«01_k».proof.Proof.FfnClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.RefIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    Cert.Ffn.Gen.facts, Cert.FfnIdeal.Gen.facts, Cert.FfnRefIdeal.Gen.facts,
    fun m ρ _ => Cert.Kernel.Gen.frame m ρ, fun m ρ _ => Cert.KernelIdeal.Gen.frame m ρ, AttnClaims.frame_ref,
    fun m ρ _ => Cert.Merge.Gen.frame m ρ, MergeClaims.frame_ideal, MergeClaims.frame_ref,
    fun m ρ _ => Cert.InProj.Gen.frame m ρ, InProjClaims.frame_ideal, InProjClaims.frame_ref,
    fun m ρ _ => Cert.Ffn.Gen.frame m ρ, fun m ρ _ => Cert.FfnIdeal.Gen.frame m ρ, FfnClaims.frame_ref,
    AttnClaims.preserves, AttnClaims.algebraic, trivial, MergeClaims.algebraic, trivial, InProjClaims.algebraic, trivial,
    FfnClaims.algebraic⟩

end Cert.Proof

end
